-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x64x64x21 : Shape := ⟨4, ![128, 64, 64, 21]⟩
abbrev S3x64x64 : Shape := ⟨3, ![3, 64, 64]⟩
abbrev S3x64 : Shape := ⟨2, ![3, 64]⟩
abbrev S64 : Shape := ⟨1, ![64]⟩
abbrev S_ : Shape := ⟨0, ![]⟩

class Facts : Prop where
  bcast_S_S128x64x64x21 : S_.BroadcastsInDim S128x64x64x21 (![] : Fin 0 → Fin S128x64x64x21.rank)
  reducesTo_S128x64x64x21_S_d0_1_2_3 : S128x64x64x21.ReducesTo [0, 1, 2, 3] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v29 : IVec S_ 1) (main_v32 : IVec S3x64 1) (main_c_12 : IVec S_ 1) : IVec S_ 1 :=
  let main_v33 : IVec S_ 1 := (fun x v => Host.reduce IntOp.andi x v reducesTo_S3x64_S_d0_1 h_S_) main_v32 main_c_12
  let main_v34 : IVec S_ 1 := andi main_v29 main_v33
  let main_v35 : FVec F S64 .f32 := Host.absf main_arg7
  let main_cst_13 : FVec F S_ .f32 := constant S_ .f32 0x7F800000#32
  let main_v36 : FVec F S64 .f32 := broadcastInDim S64 ![] bcast_S_S64 main_cst_13
  let main_v37 : IVec S64 1 := cmpf .olt main_v35 main_v36
  let main_c_14 : IVec S_ 1 := constantI S_ 1 1#1
  let main_v38 : IVec S_ 1 := (fun x v => Host.reduce IntOp.andi x v reducesTo_S64_S_d0 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  main_v44

def fn_part1 {F : FTy → Type} [FloatOps F] (main_arg4 : FVec F S3x64 .f32) (main_arg5 : FVec F S3x64 .f32) (main_arg6 : FVec F S3x64 .f32) (main_arg7 : FVec F S64 .f32) (main_arg8 : FVec F S64 .f32) (main_v14 : IVec S_ 1) (main_v15 : FVec F S3x64x64 .f32) (main_cst_5 : FVec F S_ .f32) : IVec S_ 1 :=
  let main_v16 : FVec F S3x64x64 .f32 := broadcastInDim S3x64x64 ![] bcast_S_S3x64x64 main_cst_5
  let main_v17 : IVec S3x64x64 1 := cmpf .olt main_v15 main_v16
  let main_c_6 : IVec S_ 1 := constantI S_ 1 1#1
  let main_v18 : IVec S_ 1 := (fun x v => Host.reduce IntOp.andi x v reducesTo_S3x64x64_S_d0_1_2 h_S_) main_v17 main_c_6
  let main_v19 : IVec S_ 1 := andi main_v14 main_v18
  let main_v20 : FVec F S3x64 .f32 := Host.absf main_arg4
  let main_cst_7 : FVec F S_ .f32 := constant S_ .f32 0x7F800000#32
  let main_v21 : FVec F S3x64 .f32 := broadcastInDim S3x64 ![] bcast_S_S3x64 main_cst_7
  let main_v22 : IVec S3x64 1 := cmpf .olt main_v20 main_v21
  let main_c_8 : IVec S_ 1 := constantI S_ 1 1#1
  let main_v23 : IVec S_ 1 := (fun x v => Host.reduce IntOp.andi x v reducesTo_S3x64_S_d0_1 h_S_) main_v22 main_c_8
  let main_v24 : IVec S_ 1 := andi main_v19 main_v23
  let main_v25 : FVec F S3x64 .f32 := Host.absf main_arg5
  let main_cst_9 : FVec F S_ .f32 := constant S_ .f32 0x7F800000#32
  let main_v26 : FVec F S3x64 .f32 := broadcastInDim S3x64 ![] bcast_S_S3x64 main_cst_9
  let main_v27 : IVec S3x64 1 := cmpf .olt main_v25 main_v26
  let main_c_10 : IVec S_ 1 := constantI S_ 1 1#1
  let main_v28 : IVec S_ 1 := (fun x v => Host.reduce IntOp.andi x v reducesTo_S3x64_S_d0_1 h_S_) main_v27 main_c_10
  let main_v29 : IVec S_ 1 := andi main_v24 main_v28
  let main_v30 : FVec F S3x64 .f32 := Host.absf main_arg6
  let main_cst_11 : FVec F S_ .f32 := constant S_ .f32 0x7F800000#32
  let main_v31 : FVec F S3x64 .f32 := broadcastInDim S3x64 ![] bcast_S_S3x64 main_cst_11
  let main_v32 : IVec S3x64 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S128x64x64x21 .f32) (main_arg1 : FVec F S3x64x64 .f32) (main_arg2 : FVec F S3x64 .f32) (main_arg3 : FVec F S3x64x64 .f32) (main_arg4 : FVec F S3x64 .f32) (main_arg5 : FVec F S3x64 .f32) (main_arg6 : FVec F S3x64 .f32) (main_arg7 : FVec F S64 .f32) (main_arg8 : FVec F S64 .f32) : IVec S_ 1 :=
  let main_v0 : FVec F S128x64x64x21 .f32 := Host.absf main_arg0
  let main_cst : FVec F S_ .f32 := constant S_ .f32 0x7F800000#32
  let main_v1 : FVec F S128x64x64x21 .f32 := broadcastInDim S128x64x64x21 ![] bcast_S_S128x64x64x21 main_cst
  let main_v2 : IVec S128x64x64x21 1 := cmpf .olt main_v0 main_v1
  let main_c : IVec S_ 1 := constantI S_ 1 1#1
  let main_v3 : IVec S_ 1 := (fun x v => Host.reduce IntOp.andi x v reducesTo_S128x64x64x21_S_d0_1_2_3 h_S_) main_v2 main_c
  let main_c_0 : IVec S_ 1 := constantI S_ 1 1#1
  let main_v4 : IVec S_ 1 := andi main_c_0 main_v3
  let main_v5 : FVec F S3x64x64 .f32 := Host.absf main_arg1
  let main_cst_1 : FVec F S_ .f32 := constant S_ .f32 0x7F800000#32
  let main_v6 : FVec F S3x64x64 .f32 := broadcastInDim S3x64x64 ![] bcast_S_S3x64x64 main_cst_1
  let main_v7 : IVec S3x64x64 1 := cmpf .olt main_v5 main_v6
  let main_c_2 : IVec S_ 1 := constantI S_ 1 1#1
  let main_v8 : IVec S_ 1 := (fun x v => Host.reduce IntOp.andi x v reducesTo_S3x64x64_S_d0_1_2 h_S_) main_v7 main_c_2
  let main_v9 : IVec S_ 1 := andi main_v4 main_v8
  let main_v10 : FVec F S3x64 .f32 := Host.absf main_arg2
  let main_cst_3 : FVec F S_ .f32 := constant S_ .f32 0x7F800000#32
  let main_v11 : FVec F S3x64 .f32 := broadcastInDim S3x64 ![] bcast_S_S3x64 main_cst_3
  let main_v12 : IVec S3x64 1 := cmpf .olt main_v10 main_v11
  let main_c_4 : IVec S_ 1 := constantI S_ 1 1#1
  let main_v13 : IVec S_ 1 := (fun x v => Host.reduce IntOp.andi x v reducesTo_S3x64_S_d0_1 h_S_) main_v12 main_c_4
  let main_v14 : IVec S_ 1 := andi main_v9 main_v13
  let main_v15 : FVec F S3x64x64 .f32 := Host.absf main_arg3
  let main_cst_5 : FVec F S_ .f32 := constant S_ .f32 0x7F800000#32
  fn_part1 (F := F) main_arg4 main_arg5 main_arg6 main_arg7 main_arg8 main_v14 main_v15 main_cst_5
-- ==== Kernel.lean ====
abbrev S128x64x64x21 : Shape := ⟨4, ![128, 64, 64, 21]⟩
abbrev S3x64x64 : Shape := ⟨3, ![3, 64, 64]⟩
abbrev S3x64 : Shape := ⟨2, ![3, 64]⟩
abbrev S64 : Shape := ⟨1, ![64]⟩
abbrev S64x21x64x128 : Shape := ⟨4, ![64, 21, 64, 128]⟩
abbrev S64x1 : Shape := ⟨2, ![64, 1]⟩
abbrev S128x1344x64 : Shape := ⟨3, ![128, 1344, 64]⟩
abbrev S128x64x6x64 : Shape := ⟨4, ![128, 64, 6, 64]⟩
abbrev S64x21x8x128 : Shape := ⟨4, ![64, 21, 8, 128]⟩
abbrev S128x168x64 : Shape := ⟨3, ![128, 168, 64]⟩
abbrev S128x8x6x64 : Shape := ⟨4, ![128, 8, 6, 64]⟩
abbrev S64x1x1x128 : Shape := ⟨4, ![64, 1, 1, 128]⟩
abbrev S64x128 : Shape := ⟨2, ![64, 128]⟩
abbrev S128x64 : Shape := ⟨2, ![128, 64]⟩
abbrev S128x1x64 : Shape := ⟨3, ![128, 1, 64]⟩
abbrev S128x1x1x64 : Shape := ⟨4, ![128, 1, 1, 64]⟩
abbrev S172032x64 : Shape := ⟨2, ![172032, 64]⟩
abbrev S49152x64 : Shape := ⟨2, ![49152, 64]⟩
abbrev S5376 : Shape := ⟨1, ![5376]⟩
abbrev S_ : Shape := ⟨0, ![]⟩
abbrev S5376x1 : Shape := ⟨2, ![5376, 1]⟩
abbrev S1x64 : Shape := ⟨2, ![1, 64]⟩
abbrev S5376x64 : Shape := ⟨2, ![5376, 64]⟩
abbrev S10752 : Shape := ⟨1, ![10752]⟩
abbrev S10752x1 : Shape := ⟨2, ![10752, 1]⟩
abbrev S10752x64 : Shape := ⟨2, ![10752, 64]⟩
abbrev S53760x64 : Shape := ⟨2, ![53760, 64]⟩
abbrev S64x2 : Shape := ⟨2, ![64, 2]⟩
abbrev S1536x64 : Shape := ⟨2, ![1536, 64]⟩
abbrev S1x64x64 : Shape := ⟨3, ![1, 64, 64]⟩
abbrev S64x64 : Shape := ⟨2, ![64, 64]⟩
abbrev S256x64 : Shape := ⟨2, ![256, 64]⟩
abbrev S256 : Shape := ⟨1, ![256]⟩
abbrev S256x1 : Shape := ⟨2, ![256, 1]⟩
abbrev S1536 : Shape := ⟨1, ![1536]⟩
abbrev S1536x1 : Shape := ⟨2, ![1536, 1]⟩
abbrev S5376x2 : Shape := ⟨2, ![5376, 2]⟩
abbrev S1536x2 : Shape := ⟨2, ![1536, 2]⟩

abbrev nBuf : Space → Nat
  | .hbm => 165
  | .vmem => 43
  | .smem => 0
  | _ => 0

abbrev hbmTy0_0 (i : Nat) : BufTy := match i % 128 with
  | 0 => ⟨S128x64x64x21, .f32⟩
  | 1 => ⟨S3x64x64, .f32⟩
  | 2 => ⟨S3x64, .f32⟩
  | 3 => ⟨S3x64x64, .f32⟩
  | 4 => ⟨S3x64, .f32⟩
  | 5 => ⟨S3x64, .f32⟩
  | 6 => ⟨S3x64, .f32⟩
  | 7 => ⟨S64, .f32⟩
  | 8 => ⟨S64, .f32⟩
  | 9 => ⟨S64x21x64x128, .f32⟩
  | 10 => ⟨S64x1, .f32⟩
  | 11 => ⟨S64x1, .f32⟩
  | 12 => ⟨S128x1344x64, .f32⟩
  | 13 => ⟨S128x64x6x64, .f32⟩
  | 14 => ⟨S172032x64, .f32⟩
  | 15 => ⟨S49152x64, .f32⟩
  | 16 => ⟨S5376, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S5376, .i32⟩
  | 24 => ⟨S5376, .i32⟩
  | 25 => ⟨S_, .i32⟩
  | 26 => ⟨S5376, .i32⟩
  | 27 => ⟨S5376, .i1⟩
  | 28 => ⟨S_, .i32⟩
  | 29 => ⟨S5376, .i32⟩
  | 30 => ⟨S5376, .i1⟩
  | 31 => ⟨S_, .i32⟩
  | 32 => ⟨S_, .i1⟩
  | 33 => ⟨S5376, .i1⟩
  | 34 => ⟨S5376, .i1⟩
  | 35 => ⟨S5376, .i1⟩
  | 36 => ⟨S5376, .i32⟩
  | 37 => ⟨S5376, .i32⟩
  | 38 => ⟨S5376, .i32⟩
  | 39 => ⟨S_, .i32⟩
  | 40 => ⟨S_, .i32⟩
  | 41 => ⟨S5376, .i32⟩
  | 42 => ⟨S5376, .i32⟩
  | 43 => ⟨S5376, .i32⟩
  | 44 => ⟨S_, .i32⟩
  | 45 => ⟨S5376, .i32⟩
  | 46 => ⟨S5376, .i1⟩
  | 47 => ⟨S5376, .i32⟩
  | 48 => ⟨S5376, .i32⟩
  | 49 => ⟨S_, .i32⟩
  | 50 => ⟨S5376, .i32⟩
  | 51 => ⟨S5376, .i1⟩
  | 52 => ⟨S5376, .i1⟩
  | 53 => ⟨S_, .i32⟩
  | 54 => ⟨S5376, .i32⟩
  | 55 => ⟨S5376, .i32⟩
  | 56 => ⟨S5376, .i32⟩
  | 57 => ⟨S5376x1, .i32⟩
  | 58 => ⟨S64, .i32⟩
  | 59 => ⟨S1x64, .i32⟩
  | 60 => ⟨S5376x64, .i32⟩
  | 61 => ⟨S5376x64, .i32⟩
  | 62 => ⟨S5376x64, .i1⟩
  | 63 => ⟨S5376x64, .f32⟩
  | 64 => ⟨S10752, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S10752, .i32⟩
  | 72 => ⟨S10752, .i32⟩
  | 73 => ⟨S_, .i32⟩
  | 74 => ⟨S10752, .i32⟩
  | 75 => ⟨S10752, .i1⟩
  | 76 => ⟨S_, .i32⟩
  | 77 => ⟨S10752, .i32⟩
  | 78 => ⟨S10752, .i1⟩
  | 79 => ⟨S_, .i32⟩
  | 80 => ⟨S_, .i1⟩
  | 81 => ⟨S10752, .i1⟩
  | 82 => ⟨S10752, .i1⟩
  | 83 => ⟨S10752, .i1⟩
  | 84 => ⟨S10752, .i32⟩
  | 85 => ⟨S10752, .i32⟩
  | 86 => ⟨S10752, .i32⟩
  | 87 => ⟨S_, .i32⟩
  | 88 => ⟨S_, .i32⟩
  | 89 => ⟨S10752, .i32⟩
  | 90 => ⟨S10752, .i32⟩
  | 91 => ⟨S10752, .i32⟩
  | 92 => ⟨S_, .i32⟩
  | 93 => ⟨S10752, .i32⟩
  | 94 => ⟨S10752, .i1⟩
  | 95 => ⟨S10752, .i32⟩
  | 96 => ⟨S10752, .i32⟩
  | 97 => ⟨S_, .i32⟩
  | 98 => ⟨S10752, .i32⟩
  | 99 => ⟨S10752, .i1⟩
  | 100 => ⟨S10752, .i1⟩
  | 101 => ⟨S_, .i32⟩
  | 102 => ⟨S10752, .i32⟩
  | 103 => ⟨S10752, .i32⟩
  | 104 => ⟨S10752, .i32⟩
  | 105 => ⟨S10752x1, .i32⟩
  | 106 => ⟨S64, .i32⟩
  | 107 => ⟨S1x64, .i32⟩
  | 108 => ⟨S10752x64, .i32⟩
  | 109 => ⟨S10752x64, .i32⟩
  | 110 => ⟨S10752x64, .i1⟩
  | 111 => ⟨S10752x64, .f32⟩
  | 112 => ⟨S172032x64, .f32⟩
  | 113 => ⟨S53760x64, .f32⟩
  | 114 => ⟨S64x2, .f32⟩
  | 115 => ⟨S5376, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S5376, .i32⟩
  | 123 => ⟨S5376, .i32⟩
  | 124 => ⟨S_, .i32⟩
  | 125 => ⟨S5376, .i32⟩
  | 126 => ⟨S5376, .i1⟩
  | 127 => ⟨S_, .i32⟩
  | _ => ⟨S128x64x64x21, .f32⟩

abbrev hbmTy0_1 (i : Nat) : BufTy := match i % 128 with
  | 0 => ⟨S5376, .i32⟩
  | 1 => ⟨S5376, .i1⟩
  | 2 => ⟨S_, .i32⟩
  | 3 => ⟨S_, .i1⟩
  | 4 => ⟨S5376, .i1⟩
  | 5 => ⟨S5376, .i1⟩
  | 6 => ⟨S5376, .i1⟩
  | 7 => ⟨S5376, .i32⟩
  | 8 => ⟨S5376, .i32⟩
  | 9 => ⟨S5376, .i32⟩
  | 10 => ⟨S_, .i32⟩
  | 11 => ⟨S_, .i32⟩
  | 12 => ⟨S5376, .i32⟩
  | 13 => ⟨S5376, .i32⟩
  | 14 => ⟨S5376, .i32⟩
  | 15 => ⟨S_, .i32⟩
  | 16 => ⟨S5376, .i32⟩
  | 17 => ⟨S5376, .i1⟩
  | 18 => ⟨S5376, .i32⟩
  | 19 => ⟨S5376, .i32⟩
  | 20 => ⟨S_, .i32⟩
  | 21 => ⟨S5376, .i32⟩
  | 22 => ⟨S5376, .i1⟩
  | 23 => ⟨S5376, .i1⟩
  | 24 => ⟨S_, .i32⟩
  | 25 => ⟨S5376, .i32⟩
  | 26 => ⟨S5376, .i32⟩
  | 27 => ⟨S5376, .i32⟩
  | 28 => ⟨S5376x1, .i32⟩
  | 29 => ⟨S64, .i32⟩
  | 30 => ⟨S1x64, .i32⟩
  | 31 => ⟨S5376x64, .i32⟩
  | 32 => ⟨S5376x64, .i32⟩
  | 33 => ⟨S5376x64, .i1⟩
  | 34 => ⟨S5376x64, .f32⟩
  | 35 => ⟨S172032x64, .f32⟩
  | 36 => ⟨S128x64x64x21, .f32⟩
  | _ => ⟨S128x64x64x21, .f32⟩

abbrev hbmTy (i : Nat) : BufTy := match i / 128 with
  | 0 => hbmTy0_0 i
  | 1 => hbmTy0_1 i
  | _ => ⟨S128x64x64x21, .f32⟩

abbrev bufTy : (tb : Table) → Fin (tcTables nBuf tb) → BufTy
  | .hbm, ⟨i, _⟩ => hbmTy i
  | .local _ .vmem, ⟨0, _⟩ => ⟨S64x21x8x128, .f32⟩
  | .local _ .vmem, ⟨1, _⟩ => ⟨S64x21x8x128, .f32⟩
  | .local _ .vmem, ⟨2, _⟩ => ⟨S128x168x64, .f32⟩
  | .local _ .vmem, ⟨3, _⟩ => ⟨S128x168x64, .f32⟩
  | .local _ .vmem, ⟨4, _⟩ => ⟨S128x8x6x64, .f32⟩
  | .local _ .vmem, ⟨5, _⟩ => ⟨S128x8x6x64, .f32⟩
  | .local _ .vmem, ⟨6, _⟩ => ⟨S5376x64, .f32⟩
  | .local _ .vmem, ⟨7, _⟩ => ⟨S5376x64, .f32⟩
  | .local _ .vmem, ⟨8, _⟩ => ⟨S1536x64, .f32⟩
  | .local _ .vmem, ⟨9, _⟩ => ⟨S1536x64, .f32⟩
  | .local _ .vmem, ⟨10, _⟩ => ⟨S1536x64, .f32⟩
  | .local _ .vmem, ⟨11, _⟩ => ⟨S1536x64, .f32⟩
  | .local _ .vmem, ⟨12, _⟩ => ⟨S3x64x64, .f32⟩
  | .local _ .vmem, ⟨13, _⟩ => ⟨S3x64, .f32⟩
  | .local _ .vmem, ⟨14, _⟩ => ⟨S3x64x64, .f32⟩
  | .local _ .vmem, ⟨15, _⟩ => ⟨S3x64, .f32⟩
  | .local _ .vmem, ⟨16, _⟩ => ⟨S3x64, .f32⟩
  | .local _ .vmem, ⟨17, _⟩ => ⟨S3x64, .f32⟩
  | .local _ .vmem, ⟨18, _⟩ => ⟨S5376x64, .f32⟩
  | .local _ .vmem, ⟨19, _⟩ => ⟨S1536x64, .f32⟩
  | .local _ .vmem, ⟨20, _⟩ => ⟨S1536x64, .f32⟩
  | .local _ .vmem, ⟨21, _⟩ => ⟨S5376x64, .f32⟩
  | .local _ .vmem, ⟨22, _⟩ => ⟨S5376x64, .f32⟩
  | .local _ .vmem, ⟨23, _⟩ => ⟨S1536x64, .f32⟩
  | .local _ .vmem, ⟨24, _⟩ => ⟨S1536x64, .f32⟩
  | .local _ .vmem, ⟨25, _⟩ => ⟨S64x2, .f32⟩
  | .local _ .vmem, ⟨26, _⟩ => ⟨S1536x64, .f32⟩
  | .local _ .vmem, ⟨27, _⟩ => ⟨S1536x64, .f32⟩
  | .local _ .vmem, ⟨28, _⟩ => ⟨S1536x64, .f32⟩
  | .local _ .vmem, ⟨29, _⟩ => ⟨S1536x64, .f32⟩
  | .local _ .vmem, ⟨30, _⟩ => ⟨S5376x64, .f32⟩
  | .local _ .vmem, ⟨31, _⟩ => ⟨S5376x64, .f32⟩
  | .local _ .vmem, ⟨32, _⟩ => ⟨S5376x64, .f32⟩
  | .local _ .vmem, ⟨33, _⟩ => ⟨S5376x64, .f32⟩
  | .local _ .vmem, ⟨34, _⟩ => ⟨S5376x64, .f32⟩
  | .local _ .vmem, ⟨35, _⟩ => ⟨S5376x64, .f32⟩
  | .local _ .vmem, ⟨36, _⟩ => ⟨S64x2, .f32⟩
  | .local _ .vmem, ⟨37, _⟩ => ⟨S64x1, .f32⟩
  | .local _ .vmem, ⟨38, _⟩ => ⟨S64x1, .f32⟩
  | .local _ .vmem, ⟨39, _⟩ => ⟨S5376x64, .f32⟩
  | .local _ .vmem, ⟨40, _⟩ => ⟨S5376x64, .f32⟩
  | .local _ .vmem, ⟨41, _⟩ => ⟨S5376x64, .f32⟩
  | .local _ .vmem, ⟨42, _⟩ => ⟨S5376x64, .f32⟩
  | _, _ => ⟨S128x64x64x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_c_1 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v17 : Ref sig .tc := ⟨.hbm, 86, rfl⟩
abbrev main_c_2 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26_0 : Ref sig .tc := ⟨.hbm, 112, rfl⟩
abbrev main_v26_1 : Ref sig .tc := ⟨.hbm, 113, rfl⟩
abbrev main_v26_2 : Ref sig .tc := ⟨.hbm, 114, rfl⟩
abbrev main_v27 : Ref sig .tc := ⟨.hbm, 115, rfl⟩
abbrev main_c_3 : Ref sig .tc := ⟨.hbm, 116, rfl⟩
abbrev main_call4_v0 : Ref sig .tc := ⟨.hbm, 117, rfl⟩
abbrev main_call4_c : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_c_1 : Ref sig .tc := ⟨.hbm, 124, rfl⟩
abbrev main_call4_v5 : Ref sig .tc := ⟨.hbm, 125, rfl⟩
abbrev main_call4_v6 : Ref sig .tc := ⟨.hbm, 126, rfl⟩
abbrev main_call4_c_2 : Ref sig .tc := ⟨.hbm, 127, rfl⟩
abbrev main_call4_v7 : Ref sig .tc := ⟨.hbm, 128, rfl⟩
abbrev main_call4_v8 : Ref sig .tc := ⟨.hbm, 129, rfl⟩
abbrev main_call4_c_3 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_v28 : Ref sig .tc := ⟨.hbm, 137, rfl⟩
abbrev main_c_4 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_c : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_0 : Ref sig .tc := ⟨.hbm, 152, rfl⟩
abbrev main_call5_v12 : Ref sig .tc := ⟨.hbm, 153, rfl⟩
abbrev main_call5_v13 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc2_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x21x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x168x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x6x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_cond1 (i : grid1.Coords) : BitVec 1 :=
  let arg0 : BitVec 32 := BitVec.ofNat 32 (i 0).val
  let c0_i32 : BitVec 32 := 0#32
  let v1435 : BitVec 1 := Scalar.cmpi .eq arg0 c0_i32
  let v1436 : BitVec 32 := Scalar.extui v1435
  let c0_i32_532 : BitVec 32 := 0#32
  let v1437 : BitVec 1 := Scalar.cmpi .ne v1436 c0_i32_532
  v1437

def k1_cond2 (i : grid1.Coords) : BitVec 1 :=
  let arg0 : BitVec 32 := BitVec.ofNat 32 (i 0).val
  let c0_i32_533 : BitVec 32 := 0#32
  let v1438 : BitVec 1 := Scalar.cmpi .ne arg0 c0_i32_533
  let v1439 : BitVec 32 := Scalar.extui v1438
  let c0_i32_534 : BitVec 32 := 0#32
  let v1440 : BitVec 1 := Scalar.cmpi .ne v1439 c0_i32_534
  v1440

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c7_i32 : BitVec 32 := 7#32
  let v0 : BitVec 32 := Scalar.remsi arg0 c7_i32
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5376x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1536x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1536x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S5376x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1536x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5376x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1536x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S64x2 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5376x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5376x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5376x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S5376x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5376x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S128x64x64x21 : Shape := ⟨4, ![128, 64, 64, 21]⟩
abbrev S3x64x64 : Shape := ⟨3, ![3, 64, 64]⟩
abbrev S3x64 : Shape := ⟨2, ![3, 64]⟩
abbrev S64 : Shape := ⟨1, ![64]⟩
abbrev S15 : Shape := ⟨1, ![15]⟩
abbrev S1x15 : Shape := ⟨2, ![1, 15]⟩
abbrev S8192x15 : Shape := ⟨2, ![8192, 15]⟩
abbrev S122880 : Shape := ⟨1, ![122880]⟩
abbrev S8192 : Shape := ⟨1, ![8192]⟩
abbrev S_ : Shape := ⟨0, ![]⟩
abbrev S172032 : Shape := ⟨1, ![172032]⟩
abbrev S294912 : Shape := ⟨1, ![294912]⟩
abbrev S128x64x21x64 : Shape := ⟨4, ![128, 64, 21, 64]⟩
abbrev S172032x64 : Shape := ⟨2, ![172032, 64]⟩
abbrev S1x64x64 : Shape := ⟨3, ![1, 64, 64]⟩
abbrev S64x64 : Shape := ⟨2, ![64, 64]⟩
abbrev S1x64 : Shape := ⟨2, ![1, 64]⟩
abbrev S294912x1 : Shape := ⟨2, ![294912, 1]⟩
abbrev S294912x64 : Shape := ⟨2, ![294912, 64]⟩
abbrev S8192x1x15 : Shape := ⟨3, ![8192, 1, 15]⟩
abbrev S6 : Shape := ⟨1, ![6]⟩
abbrev S6x1 : Shape := ⟨2, ![6, 1]⟩
abbrev S6x15 : Shape := ⟨2, ![6, 15]⟩
abbrev S1x6x15 : Shape := ⟨3, ![1, 6, 15]⟩
abbrev S8192x6x15 : Shape := ⟨3, ![8192, 6, 15]⟩
abbrev S8192x6 : Shape := ⟨2, ![8192, 6]⟩
abbrev S49152 : Shape := ⟨1, ![49152]⟩
abbrev S1x64x1x1 : Shape := ⟨4, ![1, 64, 1, 1]⟩

abbrev nBuf : Space → Nat
  | .hbm => 510
  | .vmem => 0
  | .smem => 0
  | _ => 0

abbrev hbmTy0_0 (i : Nat) : BufTy := match i % 128 with
  | 0 => ⟨S128x64x64x21, .f32⟩
  | 1 => ⟨S3x64x64, .f32⟩
  | 2 => ⟨S3x64, .f32⟩
  | 3 => ⟨S3x64x64, .f32⟩
  | 4 => ⟨S3x64, .f32⟩
  | 5 => ⟨S3x64, .f32⟩
  | 6 => ⟨S3x64, .f32⟩
  | 7 => ⟨S64, .f32⟩
  | 8 => ⟨S64, .f32⟩
  | 9 => ⟨S15, .i32⟩
  | 10 => ⟨S15, .i32⟩
  | 11 => ⟨S15, .i32⟩
  | 12 => ⟨S15, .i32⟩
  | 13 => ⟨S15, .i32⟩
  | 14 => ⟨S1x15, .i32⟩
  | 15 => ⟨S8192x15, .i32⟩
  | 16 => ⟨S122880, .i32⟩
  | 17 => ⟨S8192, .i32⟩
  | 18 => ⟨S8192x15, .i32⟩
  | 19 => ⟨S122880, .i32⟩
  | 20 => ⟨S_, .i32⟩
  | 21 => ⟨S122880, .i32⟩
  | 22 => ⟨S122880, .i32⟩
  | 23 => ⟨S122880, .i32⟩
  | 24 => ⟨S1x15, .i32⟩
  | 25 => ⟨S8192x15, .i32⟩
  | 26 => ⟨S122880, .i32⟩
  | 27 => ⟨S8192, .i32⟩
  | 28 => ⟨S8192x15, .i32⟩
  | 29 => ⟨S122880, .i32⟩
  | 30 => ⟨S_, .i32⟩
  | 31 => ⟨S122880, .i32⟩
  | 32 => ⟨S122880, .i32⟩
  | 33 => ⟨S122880, .i32⟩
  | 34 => ⟨S172032, .i32⟩
  | 35 => ⟨S294912, .i32⟩
  | 36 => ⟨S294912, .i32⟩
  | 37 => ⟨S128x64x21x64, .f32⟩
  | 38 => ⟨S172032x64, .f32⟩
  | 39 => ⟨S1x64x64, .f32⟩
  | 40 => ⟨S64x64, .f32⟩
  | 41 => ⟨S1x64, .f32⟩
  | 42 => ⟨S64, .f32⟩
  | 43 => ⟨S1x64x64, .f32⟩
  | 44 => ⟨S64x64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S64x64, .f32⟩
  | 52 => ⟨S172032x64, .f32⟩
  | 53 => ⟨S1x64, .f32⟩
  | 54 => ⟨S172032x64, .f32⟩
  | 55 => ⟨S172032x64, .f32⟩
  | 56 => ⟨S64x64, .f32⟩
  | 57 => ⟨S172032x64, .f32⟩
  | 58 => ⟨S1x64, .f32⟩
  | 59 => ⟨S172032x64, .f32⟩
  | 60 => ⟨S172032x64, .f32⟩
  | 61 => ⟨S_, .i32⟩
  | 62 => ⟨S294912, .i32⟩
  | 63 => ⟨S294912, .i1⟩
  | 64 => ⟨S_, .i32⟩
  | 65 => ⟨S294912, .i32⟩
  | 66 => ⟨S294912, .i32⟩
  | 67 => ⟨S294912, .i32⟩
  | 68 => ⟨S294912x1, .i32⟩
  | 69 => ⟨S294912x64, .f32⟩
  | 70 => ⟨S_, .i32⟩
  | 71 => ⟨S294912, .i32⟩
  | 72 => ⟨S294912, .i1⟩
  | 73 => ⟨S_, .i32⟩
  | 74 => ⟨S294912, .i32⟩
  | 75 => ⟨S294912, .i32⟩
  | 76 => ⟨S294912, .i32⟩
  | 77 => ⟨S294912x1, .i32⟩
  | 78 => ⟨S294912x64, .f32⟩
  | 79 => ⟨S294912x64, .f32⟩
  | 80 => ⟨S_, .f32⟩
  | 81 => ⟨S_, .f32⟩
  | 82 => ⟨S294912x64, .f32⟩
  | 83 => ⟨S294912x64, .i1⟩
  | 84 => ⟨S_, .f32⟩
  | 85 => ⟨S294912x64, .f32⟩
  | 86 => ⟨S294912x64, .f32⟩
  | 87 => ⟨S294912x64, .f32⟩
  | 88 => ⟨S1x64, .f32⟩
  | 89 => ⟨S294912x64, .f32⟩
  | 90 => ⟨S294912x64, .f32⟩
  | 91 => ⟨S_, .f32⟩
  | 92 => ⟨S294912, .f32⟩
  | 93 => ⟨S122880, .f32⟩
  | 94 => ⟨S8192x1x15, .f32⟩
  | 95 => ⟨S6, .i32⟩
  | 96 => ⟨S6x1, .i32⟩
  | 97 => ⟨S1x15, .i32⟩
  | 98 => ⟨S6x15, .i32⟩
  | 99 => ⟨S6x15, .i32⟩
  | 100 => ⟨S6x15, .i1⟩
  | 101 => ⟨S1x6x15, .i1⟩
  | 102 => ⟨S_, .f32⟩
  | 103 => ⟨S_, .f32⟩
  | 104 => ⟨S8192x6x15, .i1⟩
  | 105 => ⟨S8192x6x15, .f32⟩
  | 106 => ⟨S8192x6x15, .f32⟩
  | 107 => ⟨S8192x6x15, .f32⟩
  | 108 => ⟨S_, .f32⟩
  | 109 => ⟨S8192x6, .f32⟩
  | 110 => ⟨S49152, .f32⟩
  | 111 => ⟨S_, .f32⟩
  | 112 => ⟨S122880, .f32⟩
  | 113 => ⟨S172032, .f32⟩
  | 114 => ⟨S172032, .f32⟩
  | 115 => ⟨S172032, .f32⟩
  | 116 => ⟨S172032, .f32⟩
  | 117 => ⟨S_, .f32⟩
  | 118 => ⟨S172032, .f32⟩
  | 119 => ⟨S172032, .i1⟩
  | 120 => ⟨S_, .f32⟩
  | 121 => ⟨S_, .f32⟩
  | 122 => ⟨S172032, .f32⟩
  | 123 => ⟨S172032, .f32⟩
  | 124 => ⟨S_, .i32⟩
  | 125 => ⟨S294912, .i32⟩
  | 126 => ⟨S294912, .i1⟩
  | 127 => ⟨S_, .i32⟩
  | _ => ⟨S128x64x64x21, .f32⟩

abbrev hbmTy0_1 (i : Nat) : BufTy := match i % 128 with
  | 0 => ⟨S294912, .i32⟩
  | 1 => ⟨S294912, .i32⟩
  | 2 => ⟨S294912, .i32⟩
  | 3 => ⟨S294912x1, .i32⟩
  | 4 => ⟨S294912, .f32⟩
  | 5 => ⟨S294912, .f32⟩
  | 6 => ⟨S294912, .f32⟩
  | 7 => ⟨S_, .f32⟩
  | 8 => ⟨S172032, .f32⟩
  | 9 => ⟨S294912x1, .i32⟩
  | 10 => ⟨S172032, .f32⟩
  | 11 => ⟨S172032, .i32⟩
  | 12 => ⟨S_, .i32⟩
  | 13 => ⟨S172032, .i32⟩
  | 14 => ⟨S172032, .i1⟩
  | 15 => ⟨S_, .f32⟩
  | 16 => ⟨S_, .f32⟩
  | 17 => ⟨S172032, .f32⟩
  | 18 => ⟨S172032, .f32⟩
  | 19 => ⟨S172032, .f32⟩
  | 20 => ⟨S172032, .f32⟩
  | 21 => ⟨S172032, .f32⟩
  | 22 => ⟨S_, .i32⟩
  | 23 => ⟨S294912, .i32⟩
  | 24 => ⟨S294912, .i1⟩
  | 25 => ⟨S_, .i32⟩
  | 26 => ⟨S294912, .i32⟩
  | 27 => ⟨S294912, .i32⟩
  | 28 => ⟨S294912, .i32⟩
  | 29 => ⟨S294912x1, .i32⟩
  | 30 => ⟨S294912, .f32⟩
  | 31 => ⟨S294912, .f32⟩
  | 32 => ⟨S_, .i32⟩
  | 33 => ⟨S294912, .i32⟩
  | 34 => ⟨S294912, .i1⟩
  | 35 => ⟨S_, .i32⟩
  | 36 => ⟨S294912, .i32⟩
  | 37 => ⟨S294912, .i32⟩
  | 38 => ⟨S294912, .i32⟩
  | 39 => ⟨S294912x1, .i32⟩
  | 40 => ⟨S294912x64, .f32⟩
  | 41 => ⟨S294912x1, .f32⟩
  | 42 => ⟨S294912x64, .f32⟩
  | 43 => ⟨S294912x64, .f32⟩
  | 44 => ⟨S_, .f32⟩
  | 45 => ⟨S172032x64, .f32⟩
  | 46 => ⟨S294912x1, .i32⟩
  | 47 => ⟨S172032x64, .f32⟩
  | 48 => ⟨S1x64, .f32⟩
  | 49 => ⟨S172032x64, .f32⟩
  | 50 => ⟨S172032x64, .f32⟩
  | 51 => ⟨S1x64x64, .f32⟩
  | 52 => ⟨S64x64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S64x64, .f32⟩
  | 64 => ⟨S172032x64, .f32⟩
  | 65 => ⟨S1x64, .f32⟩
  | 66 => ⟨S172032x64, .f32⟩
  | 67 => ⟨S172032x64, .f32⟩
  | 68 => ⟨S64x64, .f32⟩
  | 69 => ⟨S172032x64, .f32⟩
  | 70 => ⟨S1x64, .f32⟩
  | 71 => ⟨S172032x64, .f32⟩
  | 72 => ⟨S172032x64, .f32⟩
  | 73 => ⟨S_, .i32⟩
  | 74 => ⟨S294912, .i32⟩
  | 75 => ⟨S294912, .i1⟩
  | 76 => ⟨S_, .i32⟩
  | 77 => ⟨S294912, .i32⟩
  | 78 => ⟨S294912, .i32⟩
  | 79 => ⟨S294912, .i32⟩
  | 80 => ⟨S294912x1, .i32⟩
  | 81 => ⟨S294912x64, .f32⟩
  | 82 => ⟨S_, .i32⟩
  | 83 => ⟨S294912, .i32⟩
  | 84 => ⟨S294912, .i1⟩
  | 85 => ⟨S_, .i32⟩
  | 86 => ⟨S294912, .i32⟩
  | 87 => ⟨S294912, .i32⟩
  | 88 => ⟨S294912, .i32⟩
  | 89 => ⟨S294912x1, .i32⟩
  | 90 => ⟨S294912x64, .f32⟩
  | 91 => ⟨S294912x64, .f32⟩
  | 92 => ⟨S_, .f32⟩
  | 93 => ⟨S_, .f32⟩
  | 94 => ⟨S294912x64, .f32⟩
  | 95 => ⟨S294912x64, .i1⟩
  | 96 => ⟨S_, .f32⟩
  | 97 => ⟨S294912x64, .f32⟩
  | 98 => ⟨S294912x64, .f32⟩
  | 99 => ⟨S294912x64, .f32⟩
  | 100 => ⟨S1x64, .f32⟩
  | 101 => ⟨S294912x64, .f32⟩
  | 102 => ⟨S294912x64, .f32⟩
  | 103 => ⟨S_, .f32⟩
  | 104 => ⟨S294912, .f32⟩
  | 105 => ⟨S122880, .f32⟩
  | 106 => ⟨S8192x1x15, .f32⟩
  | 107 => ⟨S6, .i32⟩
  | 108 => ⟨S6x1, .i32⟩
  | 109 => ⟨S1x15, .i32⟩
  | 110 => ⟨S6x15, .i32⟩
  | 111 => ⟨S6x15, .i32⟩
  | 112 => ⟨S6x15, .i1⟩
  | 113 => ⟨S1x6x15, .i1⟩
  | 114 => ⟨S_, .f32⟩
  | 115 => ⟨S_, .f32⟩
  | 116 => ⟨S8192x6x15, .i1⟩
  | 117 => ⟨S8192x6x15, .f32⟩
  | 118 => ⟨S8192x6x15, .f32⟩
  | 119 => ⟨S8192x6x15, .f32⟩
  | 120 => ⟨S_, .f32⟩
  | 121 => ⟨S8192x6, .f32⟩
  | 122 => ⟨S49152, .f32⟩
  | 123 => ⟨S_, .f32⟩
  | 124 => ⟨S122880, .f32⟩
  | 125 => ⟨S172032, .f32⟩
  | 126 => ⟨S172032, .f32⟩
  | 127 => ⟨S172032, .f32⟩
  | _ => ⟨S128x64x64x21, .f32⟩

abbrev hbmTy0_2 (i : Nat) : BufTy := match i % 128 with
  | 0 => ⟨S172032, .f32⟩
  | 1 => ⟨S_, .f32⟩
  | 2 => ⟨S172032, .f32⟩
  | 3 => ⟨S172032, .i1⟩
  | 4 => ⟨S_, .f32⟩
  | 5 => ⟨S_, .f32⟩
  | 6 => ⟨S172032, .f32⟩
  | 7 => ⟨S172032, .f32⟩
  | 8 => ⟨S_, .i32⟩
  | 9 => ⟨S294912, .i32⟩
  | 10 => ⟨S294912, .i1⟩
  | 11 => ⟨S_, .i32⟩
  | 12 => ⟨S294912, .i32⟩
  | 13 => ⟨S294912, .i32⟩
  | 14 => ⟨S294912, .i32⟩
  | 15 => ⟨S294912x1, .i32⟩
  | 16 => ⟨S294912, .f32⟩
  | 17 => ⟨S294912, .f32⟩
  | 18 => ⟨S294912, .f32⟩
  | 19 => ⟨S_, .f32⟩
  | 20 => ⟨S172032, .f32⟩
  | 21 => ⟨S294912x1, .i32⟩
  | 22 => ⟨S172032, .f32⟩
  | 23 => ⟨S172032, .i32⟩
  | 24 => ⟨S_, .i32⟩
  | 25 => ⟨S172032, .i32⟩
  | 26 => ⟨S172032, .i1⟩
  | 27 => ⟨S_, .f32⟩
  | 28 => ⟨S_, .f32⟩
  | 29 => ⟨S172032, .f32⟩
  | 30 => ⟨S172032, .f32⟩
  | 31 => ⟨S172032, .f32⟩
  | 32 => ⟨S172032, .f32⟩
  | 33 => ⟨S172032, .f32⟩
  | 34 => ⟨S_, .i32⟩
  | 35 => ⟨S294912, .i32⟩
  | 36 => ⟨S294912, .i1⟩
  | 37 => ⟨S_, .i32⟩
  | 38 => ⟨S294912, .i32⟩
  | 39 => ⟨S294912, .i32⟩
  | 40 => ⟨S294912, .i32⟩
  | 41 => ⟨S294912x1, .i32⟩
  | 42 => ⟨S294912, .f32⟩
  | 43 => ⟨S294912, .f32⟩
  | 44 => ⟨S_, .i32⟩
  | 45 => ⟨S294912, .i32⟩
  | 46 => ⟨S294912, .i1⟩
  | 47 => ⟨S_, .i32⟩
  | 48 => ⟨S294912, .i32⟩
  | 49 => ⟨S294912, .i32⟩
  | 50 => ⟨S294912, .i32⟩
  | 51 => ⟨S294912x1, .i32⟩
  | 52 => ⟨S294912x64, .f32⟩
  | 53 => ⟨S294912x1, .f32⟩
  | 54 => ⟨S294912x64, .f32⟩
  | 55 => ⟨S294912x64, .f32⟩
  | 56 => ⟨S_, .f32⟩
  | 57 => ⟨S172032x64, .f32⟩
  | 58 => ⟨S294912x1, .i32⟩
  | 59 => ⟨S172032x64, .f32⟩
  | 60 => ⟨S1x64, .f32⟩
  | 61 => ⟨S172032x64, .f32⟩
  | 62 => ⟨S172032x64, .f32⟩
  | 63 => ⟨S172032x64, .f32⟩
  | 64 => ⟨S1x64x64, .f32⟩
  | 65 => ⟨S64x64, .f32⟩
  | 66 => ⟨S1x64, .f32⟩
  | 67 => ⟨S64, .f32⟩
  | 68 => ⟨S1x64x64, .f32⟩
  | 69 => ⟨S64x64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S64, .f32⟩
  | 76 => ⟨S64x64, .f32⟩
  | 77 => ⟨S172032x64, .f32⟩
  | 78 => ⟨S1x64, .f32⟩
  | 79 => ⟨S172032x64, .f32⟩
  | 80 => ⟨S172032x64, .f32⟩
  | 81 => ⟨S64x64, .f32⟩
  | 82 => ⟨S172032x64, .f32⟩
  | 83 => ⟨S1x64, .f32⟩
  | 84 => ⟨S172032x64, .f32⟩
  | 85 => ⟨S172032x64, .f32⟩
  | 86 => ⟨S_, .i32⟩
  | 87 => ⟨S294912, .i32⟩
  | 88 => ⟨S294912, .i1⟩
  | 89 => ⟨S_, .i32⟩
  | 90 => ⟨S294912, .i32⟩
  | 91 => ⟨S294912, .i32⟩
  | 92 => ⟨S294912, .i32⟩
  | 93 => ⟨S294912x1, .i32⟩
  | 94 => ⟨S294912x64, .f32⟩
  | 95 => ⟨S_, .i32⟩
  | 96 => ⟨S294912, .i32⟩
  | 97 => ⟨S294912, .i1⟩
  | 98 => ⟨S_, .i32⟩
  | 99 => ⟨S294912, .i32⟩
  | 100 => ⟨S294912, .i32⟩
  | 101 => ⟨S294912, .i32⟩
  | 102 => ⟨S294912x1, .i32⟩
  | 103 => ⟨S294912x64, .f32⟩
  | 104 => ⟨S294912x64, .f32⟩
  | 105 => ⟨S_, .f32⟩
  | 106 => ⟨S_, .f32⟩
  | 107 => ⟨S294912x64, .f32⟩
  | 108 => ⟨S294912x64, .i1⟩
  | 109 => ⟨S_, .f32⟩
  | 110 => ⟨S294912x64, .f32⟩
  | 111 => ⟨S294912x64, .f32⟩
  | 112 => ⟨S294912x64, .f32⟩
  | 113 => ⟨S1x64, .f32⟩
  | 114 => ⟨S294912x64, .f32⟩
  | 115 => ⟨S294912x64, .f32⟩
  | 116 => ⟨S_, .f32⟩
  | 117 => ⟨S294912, .f32⟩
  | 118 => ⟨S122880, .f32⟩
  | 119 => ⟨S8192x1x15, .f32⟩
  | 120 => ⟨S6, .i32⟩
  | 121 => ⟨S6x1, .i32⟩
  | 122 => ⟨S1x15, .i32⟩
  | 123 => ⟨S6x15, .i32⟩
  | 124 => ⟨S6x15, .i32⟩
  | 125 => ⟨S6x15, .i1⟩
  | 126 => ⟨S1x6x15, .i1⟩
  | 127 => ⟨S_, .f32⟩
  | _ => ⟨S128x64x64x21, .f32⟩

abbrev hbmTy0_3 (i : Nat) : BufTy := match i % 128 with
  | 0 => ⟨S_, .f32⟩
  | 1 => ⟨S8192x6x15, .i1⟩
  | 2 => ⟨S8192x6x15, .f32⟩
  | 3 => ⟨S8192x6x15, .f32⟩
  | 4 => ⟨S8192x6x15, .f32⟩
  | 5 => ⟨S_, .f32⟩
  | 6 => ⟨S8192x6, .f32⟩
  | 7 => ⟨S49152, .f32⟩
  | 8 => ⟨S_, .f32⟩
  | 9 => ⟨S122880, .f32⟩
  | 10 => ⟨S172032, .f32⟩
  | 11 => ⟨S172032, .f32⟩
  | 12 => ⟨S172032, .f32⟩
  | 13 => ⟨S172032, .f32⟩
  | 14 => ⟨S_, .f32⟩
  | 15 => ⟨S172032, .f32⟩
  | 16 => ⟨S172032, .i1⟩
  | 17 => ⟨S_, .f32⟩
  | 18 => ⟨S_, .f32⟩
  | 19 => ⟨S172032, .f32⟩
  | 20 => ⟨S172032, .f32⟩
  | 21 => ⟨S_, .i32⟩
  | 22 => ⟨S294912, .i32⟩
  | 23 => ⟨S294912, .i1⟩
  | 24 => ⟨S_, .i32⟩
  | 25 => ⟨S294912, .i32⟩
  | 26 => ⟨S294912, .i32⟩
  | 27 => ⟨S294912, .i32⟩
  | 28 => ⟨S294912x1, .i32⟩
  | 29 => ⟨S294912, .f32⟩
  | 30 => ⟨S294912, .f32⟩
  | 31 => ⟨S294912, .f32⟩
  | 32 => ⟨S_, .f32⟩
  | 33 => ⟨S172032, .f32⟩
  | 34 => ⟨S294912x1, .i32⟩
  | 35 => ⟨S172032, .f32⟩
  | 36 => ⟨S172032, .i32⟩
  | 37 => ⟨S_, .i32⟩
  | 38 => ⟨S172032, .i32⟩
  | 39 => ⟨S172032, .i1⟩
  | 40 => ⟨S_, .f32⟩
  | 41 => ⟨S_, .f32⟩
  | 42 => ⟨S172032, .f32⟩
  | 43 => ⟨S172032, .f32⟩
  | 44 => ⟨S172032, .f32⟩
  | 45 => ⟨S172032, .f32⟩
  | 46 => ⟨S172032, .f32⟩
  | 47 => ⟨S_, .i32⟩
  | 48 => ⟨S294912, .i32⟩
  | 49 => ⟨S294912, .i1⟩
  | 50 => ⟨S_, .i32⟩
  | 51 => ⟨S294912, .i32⟩
  | 52 => ⟨S294912, .i32⟩
  | 53 => ⟨S294912, .i32⟩
  | 54 => ⟨S294912x1, .i32⟩
  | 55 => ⟨S294912, .f32⟩
  | 56 => ⟨S294912, .f32⟩
  | 57 => ⟨S_, .i32⟩
  | 58 => ⟨S294912, .i32⟩
  | 59 => ⟨S294912, .i1⟩
  | 60 => ⟨S_, .i32⟩
  | 61 => ⟨S294912, .i32⟩
  | 62 => ⟨S294912, .i32⟩
  | 63 => ⟨S294912, .i32⟩
  | 64 => ⟨S294912x1, .i32⟩
  | 65 => ⟨S294912x64, .f32⟩
  | 66 => ⟨S294912x1, .f32⟩
  | 67 => ⟨S294912x64, .f32⟩
  | 68 => ⟨S294912x64, .f32⟩
  | 69 => ⟨S_, .f32⟩
  | 70 => ⟨S172032x64, .f32⟩
  | 71 => ⟨S294912x1, .i32⟩
  | 72 => ⟨S172032x64, .f32⟩
  | 73 => ⟨S1x64, .f32⟩
  | 74 => ⟨S172032x64, .f32⟩
  | 75 => ⟨S172032x64, .f32⟩
  | 76 => ⟨S172032x64, .f32⟩
  | 77 => ⟨S128x64x64x21, .f32⟩
  | 78 => ⟨S_, .f32⟩
  | 79 => ⟨S64, .f32⟩
  | 80 => ⟨S1x64x1x1, .f32⟩
  | 81 => ⟨S_, .f32⟩
  | 82 => ⟨S1x64x1x1, .f32⟩
  | 83 => ⟨S1x64x1x1, .f32⟩
  | 84 => ⟨S_, .i32⟩
  | 85 => ⟨S_, .f32⟩
  | 86 => ⟨S64, .f32⟩
  | 87 => ⟨S1x64x1x1, .f32⟩
  | 88 => ⟨S_, .f32⟩
  | 89 => ⟨S1x64x1x1, .f32⟩
  | 90 => ⟨S1x64x1x1, .f32⟩
  | 91 => ⟨S128x64x64x21, .f32⟩
  | 92 => ⟨S128x64x64x21, .f32⟩
  | 93 => ⟨S128x64x64x21, .f32⟩
  | 94 => ⟨S_, .f32⟩
  | 95 => ⟨S_, .f32⟩
  | 96 => ⟨S_, .f32⟩
  | 97 => ⟨S_, .f32⟩
  | 98 => ⟨S64, .f32⟩
  | 99 => ⟨S1x64x1x1, .f32⟩
  | 100 => ⟨S1x64x1x1, .f32⟩
  | 101 => ⟨S1x64x1x1, .f32⟩
  | 102 => ⟨S_, .f32⟩
  | 103 => ⟨S_, .i1⟩
  | 104 => ⟨S_, .f32⟩
  | 105 => ⟨S_, .f32⟩
  | 106 => ⟨S1x64x1x1, .f32⟩
  | 107 => ⟨S1x64x1x1, .f32⟩
  | 108 => ⟨S128x64x64x21, .f32⟩
  | 109 => ⟨S128x64x64x21, .f32⟩
  | 110 => ⟨S_, .f32⟩
  | 111 => ⟨S1x64x1x1, .f32⟩
  | 112 => ⟨S1x64x1x1, .f32⟩
  | 113 => ⟨S1x64x1x1, .f32⟩
  | 114 => ⟨S128x64x64x21, .f32⟩
  | 115 => ⟨S128x64x64x21, .f32⟩
  | 116 => ⟨S1x64x1x1, .f32⟩
  | 117 => ⟨S128x64x64x21, .f32⟩
  | 118 => ⟨S128x64x64x21, .f32⟩
  | 119 => ⟨S1x64x1x1, .f32⟩
  | 120 => ⟨S128x64x64x21, .f32⟩
  | 121 => ⟨S128x64x64x21, .f32⟩
  | 122 => ⟨S128x64x64x21, .f32⟩
  | 123 => ⟨S_, .f32⟩
  | 124 => ⟨S128x64x64x21, .f32⟩
  | 125 => ⟨S128x64x64x21, .f32⟩
  | _ => ⟨S128x64x64x21, .f32⟩

abbrev hbmTy (i : Nat) : BufTy := match i / 128 with
  | 0 => hbmTy0_0 i
  | 1 => hbmTy0_1 i
  | 2 => hbmTy0_2 i
  | 3 => hbmTy0_3 i
  | _ => ⟨S128x64x64x21, .f32⟩

abbrev bufTy : (tb : Table) → Fin (tcTables nBuf tb) → BufTy
  | .hbm, ⟨i, _⟩ => hbmTy i
  | _, _ => ⟨S128x64x64x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_call2_v0 : Ref sig .tc := ⟨.hbm, 121, rfl⟩
abbrev main_call2_v1 : Ref sig .tc := ⟨.hbm, 122, rfl⟩
abbrev main_v84 : Ref sig .tc := ⟨.hbm, 123, rfl⟩
abbrev main_c_16 : Ref sig .tc := ⟨.hbm, 124, rfl⟩
abbrev main_v85 : Ref sig .tc := ⟨.hbm, 125, rfl⟩
abbrev main_v86 : Ref sig .tc := ⟨.hbm, 126, rfl⟩
abbrev main_c_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_19 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_cst_21 : Ref sig .tc := ⟨.hbm, 144, rfl⟩
abbrev main_call3_v0 : Ref sig .tc := ⟨.hbm, 145, rfl⟩
abbrev main_call3_v1 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_22 : Ref sig .tc := ⟨.hbm, 150, rfl⟩
abbrev main_v103 : Ref sig .tc := ⟨.hbm, 151, rfl⟩
abbrev main_v104 : Ref sig .tc := ⟨.hbm, 152, rfl⟩
abbrev main_c_23 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_24 : Ref sig .tc := ⟨.hbm, 160, rfl⟩
abbrev main_v111 : Ref sig .tc := ⟨.hbm, 161, rfl⟩
abbrev main_v112 : Ref sig .tc := ⟨.hbm, 162, rfl⟩
abbrev main_c_25 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_26 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_c_27 : Ref sig .tc := ⟨.hbm, 201, rfl⟩
abbrev main_v149 : Ref sig .tc := ⟨.hbm, 202, rfl⟩
abbrev main_v150 : Ref sig .tc := ⟨.hbm, 203, rfl⟩
abbrev main_c_28 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_c_29 : Ref sig .tc := ⟨.hbm, 210, rfl⟩
abbrev main_v156 : Ref sig .tc := ⟨.hbm, 211, rfl⟩
abbrev main_v157 : Ref sig .tc := ⟨.hbm, 212, rfl⟩
abbrev main_c_30 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_31 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_32 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_33 : Ref sig .tc := ⟨.hbm, 242, rfl⟩
abbrev main_call5_v0 : Ref sig .tc := ⟨.hbm, 243, rfl⟩
abbrev main_call5_v1 : Ref sig .tc := ⟨.hbm, 244, rfl⟩
abbrev main_call5_v2 : Ref sig .tc := ⟨.hbm, 245, rfl⟩
abbrev main_call5_v3 : Ref sig .tc := ⟨.hbm, 246, rfl⟩
abbrev main_v178 : Ref sig .tc := ⟨.hbm, 247, rfl⟩
abbrev main_cst_34 : Ref sig .tc := ⟨.hbm, 248, rfl⟩
abbrev main_v179 : Ref sig .tc := ⟨.hbm, 249, rfl⟩
abbrev main_v180 : Ref sig .tc := ⟨.hbm, 250, rfl⟩
abbrev main_cst_35 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_cst_36 : Ref sig .tc := ⟨.hbm, 257, rfl⟩
abbrev main_v186 : Ref sig .tc := ⟨.hbm, 258, rfl⟩
abbrev main_v187 : Ref sig .tc := ⟨.hbm, 259, rfl⟩
abbrev main_cst_37 : Ref sig .tc := ⟨.hbm, 260, rfl⟩
abbrev main_call6_v0 : Ref sig .tc := ⟨.hbm, 261, rfl⟩
abbrev main_call6_v1 : Ref sig .tc := ⟨.hbm, 262, rfl⟩
abbrev main_v188 : Ref sig .tc := ⟨.hbm, 263, rfl⟩
abbrev main_c_38 : Ref sig .tc := ⟨.hbm, 264, rfl⟩
abbrev main_v189 : Ref sig .tc := ⟨.hbm, 265, rfl⟩
abbrev main_v190 : Ref sig .tc := ⟨.hbm, 266, rfl⟩
abbrev main_c_39 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_cst_40 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_c_41 : Ref sig .tc := ⟨.hbm, 280, rfl⟩
abbrev main_v202 : Ref sig .tc := ⟨.hbm, 281, rfl⟩
abbrev main_v203 : Ref sig .tc := ⟨.hbm, 282, rfl⟩
abbrev main_cst_42 : Ref sig .tc := ⟨.hbm, 283, rfl⟩
abbrev main_cst_43 : Ref sig .tc := ⟨.hbm, 284, rfl⟩
abbrev main_call7_v0 : Ref sig .tc := ⟨.hbm, 285, rfl⟩
abbrev main_call7_v1 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_c_44 : Ref sig .tc := ⟨.hbm, 290, rfl⟩
abbrev main_v207 : Ref sig .tc := ⟨.hbm, 291, rfl⟩
abbrev main_v208 : Ref sig .tc := ⟨.hbm, 292, rfl⟩
abbrev main_c_45 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_c_46 : Ref sig .tc := ⟨.hbm, 300, rfl⟩
abbrev main_v215 : Ref sig .tc := ⟨.hbm, 301, rfl⟩
abbrev main_v216 : Ref sig .tc := ⟨.hbm, 302, rfl⟩
abbrev main_c_47 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_cst_48 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_c_49 : Ref sig .tc := ⟨.hbm, 342, rfl⟩
abbrev main_v254 : Ref sig .tc := ⟨.hbm, 343, rfl⟩
abbrev main_v255 : Ref sig .tc := ⟨.hbm, 344, rfl⟩
abbrev main_c_50 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_c_51 : Ref sig .tc := ⟨.hbm, 351, rfl⟩
abbrev main_v261 : Ref sig .tc := ⟨.hbm, 352, rfl⟩
abbrev main_v262 : Ref sig .tc := ⟨.hbm, 353, rfl⟩
abbrev main_c_52 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_cst_53 : Ref sig .tc := ⟨.hbm, 361, rfl⟩
abbrev main_call8_cst : Ref sig .tc := ⟨.hbm, 362, rfl⟩
abbrev main_call8_v0 : Ref sig .tc := ⟨.hbm, 363, rfl⟩
abbrev main_call8_v1 : Ref sig .tc := ⟨.hbm, 364, rfl⟩
abbrev main_call8_v2 : Ref sig .tc := ⟨.hbm, 365, rfl⟩
abbrev main_call8_v3 : Ref sig .tc := ⟨.hbm, 366, rfl⟩
abbrev main_call8_v4 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_cst_54 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_cst_55 : Ref sig .tc := ⟨.hbm, 383, rfl⟩
abbrev main_call9_v0 : Ref sig .tc := ⟨.hbm, 384, rfl⟩
abbrev main_call9_v1 : Ref sig .tc := ⟨.hbm, 385, rfl⟩
abbrev main_call9_v2 : Ref sig .tc := ⟨.hbm, 386, rfl⟩
abbrev main_call9_v3 : Ref sig .tc := ⟨.hbm, 387, rfl⟩
abbrev main_v283 : Ref sig .tc := ⟨.hbm, 388, rfl⟩
abbrev main_cst_56 : Ref sig .tc := ⟨.hbm, 389, rfl⟩
abbrev main_v284 : Ref sig .tc := ⟨.hbm, 390, rfl⟩
abbrev main_v285 : Ref sig .tc := ⟨.hbm, 391, rfl⟩
abbrev main_cst_57 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_58 : Ref sig .tc := ⟨.hbm, 398, rfl⟩
abbrev main_v291 : Ref sig .tc := ⟨.hbm, 399, rfl⟩
abbrev main_v292 : Ref sig .tc := ⟨.hbm, 400, rfl⟩
abbrev main_cst_59 : Ref sig .tc := ⟨.hbm, 401, rfl⟩
abbrev main_call10_v0 : Ref sig .tc := ⟨.hbm, 402, rfl⟩
abbrev main_call10_v1 : Ref sig .tc := ⟨.hbm, 403, rfl⟩
abbrev main_v293 : Ref sig .tc := ⟨.hbm, 404, rfl⟩
abbrev main_c_60 : Ref sig .tc := ⟨.hbm, 405, rfl⟩
abbrev main_v294 : Ref sig .tc := ⟨.hbm, 406, rfl⟩
abbrev main_v295 : Ref sig .tc := ⟨.hbm, 407, rfl⟩
abbrev main_c_61 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_v300 : Ref sig .tc := ⟨.hbm, 413, rfl⟩
abbrev main_v301 : Ref sig .tc := ⟨.hbm, 414, rfl⟩
abbrev main_v302 : Ref sig .tc := ⟨.hbm, 415, rfl⟩
abbrev main_cst_62 : Ref sig .tc := ⟨.hbm, 416, rfl⟩
abbrev main_v303 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_c_63 : Ref sig .tc := ⟨.hbm, 421, rfl⟩
abbrev main_v307 : Ref sig .tc := ⟨.hbm, 422, rfl⟩
abbrev main_v308 : Ref sig .tc := ⟨.hbm, 423, rfl⟩
abbrev main_cst_64 : Ref sig .tc := ⟨.hbm, 424, rfl⟩
abbrev main_cst_65 : Ref sig .tc := ⟨.hbm, 425, rfl⟩
abbrev main_call11_v0 : Ref sig .tc := ⟨.hbm, 426, rfl⟩
abbrev main_call11_v1 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_c_66 : Ref sig .tc := ⟨.hbm, 431, rfl⟩
abbrev main_v312 : Ref sig .tc := ⟨.hbm, 432, rfl⟩
abbrev main_v313 : Ref sig .tc := ⟨.hbm, 433, rfl⟩
abbrev main_c_67 : Ref sig .tc := ⟨.hbm, 434, rfl⟩
abbrev main_v314 : Ref sig .tc := ⟨.hbm, 435, rfl⟩
abbrev main_v315 : Ref sig .tc := ⟨.hbm, 436, rfl⟩
abbrev main_v316 : Ref sig .tc := ⟨.hbm, 437, rfl⟩
abbrev main_v317 : Ref sig .tc := ⟨.hbm, 438, rfl⟩
abbrev main_v318 : Ref sig .tc := ⟨.hbm, 439, rfl⟩
abbrev main_v319 : Ref sig .tc := ⟨.hbm, 440, rfl⟩
abbrev main_c_68 : Ref sig .tc := ⟨.hbm, 441, rfl⟩
abbrev main_v320 : Ref sig .tc := ⟨.hbm, 442, rfl⟩
abbrev main_v321 : Ref sig .tc := ⟨.hbm, 443, rfl⟩
abbrev main_c_69 : Ref sig .tc := ⟨.hbm, 444, rfl⟩
abbrev main_v322 : Ref sig .tc := ⟨.hbm, 445, rfl⟩
abbrev main_v323 : Ref sig .tc := ⟨.hbm, 446, rfl⟩
abbrev main_v324 : Ref sig .tc := ⟨.hbm, 447, rfl⟩
abbrev main_v325 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_cst_70 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_cst_71 : Ref sig .tc := ⟨.hbm, 462, rfl⟩
abbrev main_v338 : Ref sig .tc := ⟨.hbm, 463, rfl⟩
abbrev main_v339 : Ref sig .tc := ⟨.hbm, 464, rfl⟩
abbrev main_cst_72 : Ref sig .tc := ⟨.hbm, 465, rfl⟩
abbrev main_v340 : Ref sig .tc := ⟨.hbm, 466, rfl⟩
abbrev main_v341 : Ref sig .tc := ⟨.hbm, 467, rfl⟩
abbrev main_c_73 : Ref sig .tc := ⟨.hbm, 468, rfl⟩
abbrev main_call12_cst : Ref sig .tc := ⟨.hbm, 469, rfl⟩
abbrev main_call12_v0 : Ref sig .tc := ⟨.hbm, 470, rfl⟩
abbrev main_call12_v1 : Ref sig .tc := ⟨.hbm, 471, rfl⟩
abbrev main_call12_cst_0 : Ref sig .tc := ⟨.hbm, 472, rfl⟩
abbrev main_call12_v2 : Ref sig .tc := ⟨.hbm, 473, rfl⟩
abbrev main_call12_v3 : Ref sig .tc := ⟨.hbm, 474, rfl⟩
abbrev main_call12_v4 : Ref sig .tc := ⟨.hbm, 475, rfl⟩
abbrev main_call12_v5 : Ref sig .tc := ⟨.hbm, 476, rfl⟩
abbrev main_call12_v6 : Ref sig .tc := ⟨.hbm, 477, rfl⟩
abbrev main_call12_v7 : Ref sig .tc := ⟨.hbm, 478, rfl⟩
abbrev main_call12_cst_1 : Ref sig .tc := ⟨.hbm, 479, rfl⟩
abbrev main_call12_v8 : Ref sig .tc := ⟨.hbm, 480, rfl⟩
abbrev main_call12_cst_2 : Ref sig .tc := ⟨.hbm, 481, rfl⟩
abbrev main_call12_v9 : Ref sig .tc := ⟨.hbm, 482, rfl⟩
abbrev main_call12_v10 : Ref sig .tc := ⟨.hbm, 483, rfl⟩
abbrev main_call12_v11 : Ref sig .tc := ⟨.hbm, 484, rfl⟩
abbrev main_call12_v12 : Ref sig .tc := ⟨.hbm, 485, rfl⟩
abbrev main_call12_cst_3 : Ref sig .tc := ⟨.hbm, 486, rfl⟩
abbrev main_call12_v13 : Ref sig .tc := ⟨.hbm, 487, rfl⟩
abbrev main_call12_cst_4 : Ref sig .tc := ⟨.hbm, 488, rfl⟩
abbrev main_call12_call0_v0 : Ref sig .tc := ⟨.hbm, 489, rfl⟩
abbrev main_call12_call0_v1 : Ref sig .tc := ⟨.hbm, 490, rfl⟩
abbrev main_v342 : Ref sig .tc := ⟨.hbm, 491, rfl⟩
abbrev main_v343 : Ref sig .tc := ⟨.hbm, 492, rfl⟩
abbrev main_v344 : Ref sig .tc := ⟨.hbm, 493, rfl⟩
abbrev main_cst_74 : Ref sig .tc := ⟨.hbm, 494, rfl⟩
abbrev main_v345 : Ref sig .tc := ⟨.hbm, 495, rfl⟩
abbrev main_v346 : Ref sig .tc := ⟨.hbm, 496, rfl⟩
abbrev main_v347 : Ref sig .tc := ⟨.hbm, 497, rfl⟩
abbrev main_v348 : Ref sig .tc := ⟨.hbm, 498, rfl⟩
abbrev main_v349 : Ref sig .tc := ⟨.hbm, 499, rfl⟩
abbrev main_v350 : Ref sig .tc := ⟨.hbm, 500, rfl⟩
abbrev main_v351 : Ref sig .tc := ⟨.hbm, 501, rfl⟩
abbrev main_v352 : Ref sig .tc := ⟨.hbm, 502, rfl⟩
abbrev main_v353 : Ref sig .tc := ⟨.hbm, 503, rfl⟩
abbrev main_v354 : Ref sig .tc := ⟨.hbm, 504, rfl⟩
abbrev main_v355 : Ref sig .tc := ⟨.hbm, 505, rfl⟩
abbrev main_v356 : Ref sig .tc := ⟨.hbm, 506, rfl⟩
abbrev main_call13_cst : Ref sig .tc := ⟨.hbm, 507, rfl⟩
abbrev main_call13_v0 : Ref sig .tc := ⟨.hbm, 508, rfl⟩
abbrev main_v357 : Ref sig .tc := ⟨.hbm, 509, rfl⟩

abbrev nD : Nat := 1
abbrev τ : Topo := Topo.v7x

variable {F : FTy → Type} [FloatOps F]
-- ==== Proof.Run.Region0.lean ====
/- The first call (the transposes) at any entry contents: its body run, what each grid point leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__pass0_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x21x8x128 := Rect.unit (s := S64x21x8x128) ![0, 0, 0, 0] S64x1x1x128.size inb_S64x21x8x128_S64x1x1x128_0_0_0_0
abbrev r0_1 : Rect S128x168x64 := Rect.unit (s := S128x168x64) ![0, 0, 0] S128x1x64.size inb_S128x168x64_S128x1x64_0_0_0
abbrev r0_2 : Rect S128x8x6x64 := Rect.unit (s := S128x8x6x64) ![0, 0, 0, 0] S128x1x1x64.size inb_S128x8x6x64_S128x1x1x64_0_0_0_0
abbrev r0_3 : Rect S64x21x8x128 := Rect.unit (s := S64x21x8x128) ![0, 1, 0, 0] S64x1x1x128.size inb_S64x21x8x128_S64x1x1x128_0_1_0_0
abbrev r0_4 : Rect S128x168x64 := Rect.unit (s := S128x168x64) ![0, 1, 0] S128x1x64.size inb_S128x168x64_S128x1x64_0_1_0
abbrev r0_5 : Rect S128x8x6x64 := Rect.unit (s := S128x8x6x64) ![0, 0, 1, 0] S128x1x1x64.size inb_S128x8x6x64_S128x1x1x64_0_0_1_0
abbrev r0_6 : Rect S64x21x8x128 := Rect.unit (s := S64x21x8x128) ![0, 2, 0, 0] S64x1x1x128.size inb_S64x21x8x128_S64x1x1x128_0_2_0_0
abbrev r0_7 : Rect S128x168x64 := Rect.unit (s := S128x168x64) ![0, 2, 0] S128x1x64.size inb_S128x168x64_S128x1x64_0_2_0
abbrev r0_8 : Rect S128x8x6x64 := Rect.unit (s := S128x8x6x64) ![0, 0, 2, 0] S128x1x1x64.size inb_S128x8x6x64_S128x1x1x64_0_0_2_0
abbrev r0_9 : Rect S64x21x8x128 := Rect.unit (s := S64x21x8x128) ![0, 3, 0, 0] S64x1x1x128.size inb_S64x21x8x128_S64x1x1x128_0_3_0_0
abbrev r0_10 : Rect S128x168x64 := Rect.unit (s := S128x168x64) ![0, 3, 0] S128x1x64.size inb_S128x168x64_S128x1x64_0_3_0
abbrev r0_11 : Rect S128x8x6x64 := Rect.unit (s := S128x8x6x64) ![0, 0, 3, 0] S128x1x1x64.size inb_S128x8x6x64_S128x1x1x64_0_0_3_0
abbrev r0_12 : Rect S64x21x8x128 := Rect.unit (s := S64x21x8x128) ![0, 4, 0, 0] S64x1x1x128.size inb_S64x21x8x128_S64x1x1x128_0_4_0_0
abbrev r0_13 : Rect S128x168x64 := Rect.unit (s := S128x168x64) ![0, 4, 0] S128x1x64.size inb_S128x168x64_S128x1x64_0_4_0
abbrev r0_14 : Rect S128x8x6x64 := Rect.unit (s := S128x8x6x64) ![0, 0, 4, 0] S128x1x1x64.size inb_S128x8x6x64_S128x1x1x64_0_0_4_0
abbrev r0_15 : Rect S64x21x8x128 := Rect.unit (s := S64x21x8x128) ![0, 5, 0, 0] S64x1x1x128.size inb_S64x21x8x128_S64x1x1x128_0_5_0_0
abbrev r0_16 : Rect S128x168x64 := Rect.unit (s := S128x168x64) ![0, 5, 0] S128x1x64.size inb_S128x168x64_S128x1x64_0_5_0
abbrev r0_17 : Rect S128x8x6x64 := Rect.unit (s := S128x8x6x64) ![0, 0, 5, 0] S128x1x1x64.size inb_S128x8x6x64_S128x1x1x64_0_0_5_0
abbrev r0_18 : Rect S64x21x8x128 := Rect.unit (s := S64x21x8x128) ![0, 6, 0, 0] S64x1x1x128.size inb_S64x21x8x128_S64x1x1x128_0_6_0_0
abbrev r0_19 : Rect S128x168x64 := Rect.unit (s := S128x168x64) ![0, 6, 0] S128x1x64.size inb_S128x168x64_S128x1x64_0_6_0
abbrev r0_20 : Rect S64x21x8x128 := Rect.unit (s := S64x21x8x128) ![0, 7, 0, 0] S64x1x1x128.size inb_S64x21x8x128_S64x1x1x128_0_7_0_0
abbrev r0_21 : Rect S128x168x64 := Rect.unit (s := S128x168x64) ![0, 7, 0] S128x1x64.size inb_S128x168x64_S128x1x64_0_7_0
abbrev r0_22 : Rect S64x21x8x128 := Rect.unit (s := S64x21x8x128) ![0, 8, 0, 0] S64x1x1x128.size inb_S64x21x8x128_S64x1x1x128_0_8_0_0
abbrev r0_23 : Rect S128x168x64 := Rect.unit (s := S128x168x64) ![0, 8, 0] S128x1x64.size inb_S128x168x64_S128x1x64_0_8_0
abbrev r0_24 : Rect S64x21x8x128 := Rect.unit (s := S64x21x8x128) ![0, 9, 0, 0] S64x1x1x128.size inb_S64x21x8x128_S64x1x1x128_0_9_0_0
abbrev r0_25 : Rect S128x168x64 := Rect.unit (s := S128x168x64) ![0, 9, 0] S128x1x64.size inb_S128x168x64_S128x1x64_0_9_0
abbrev r0_26 : Rect S64x21x8x128 := Rect.unit (s := S64x21x8x128) ![0, 10, 0, 0] S64x1x1x128.size inb_S64x21x8x128_S64x1x1x128_0_10_0_0
abbrev r0_27 : Rect S128x168x64 := Rect.unit (s := S128x168x64) ![0, 10, 0] S128x1x64.size inb_S128x168x64_S128x1x64_0_10_0
abbrev r0_28 : Rect S64x21x8x128 := Rect.unit (s := S64x21x8x128) ![0, 11, 0, 0] S64x1x1x128.size inb_S64x21x8x128_S64x1x1x128_0_11_0_0
abbrev r0_29 : Rect S128x168x64 := Rect.unit (s := S128x168x64) ![0, 11, 0] S128x1x64.size inb_S128x168x64_S128x1x64_0_11_0
abbrev r0_30 : Rect S64x21x8x128 := Rect.unit (s := S64x21x8x128) ![0, 12, 0, 0] S64x1x1x128.size inb_S64x21x8x128_S64x1x1x128_0_12_0_0
abbrev r0_31 : Rect S128x168x64 := Rect.unit (s := S128x168x64) ![0, 12, 0] S128x1x64.size inb_S128x168x64_S128x1x64_0_12_0
abbrev r0_32 : Rect S64x21x8x128 := Rect.unit (s := S64x21x8x128) ![0, 13, 0, 0] S64x1x1x128.size inb_S64x21x8x128_S64x1x1x128_0_13_0_0
abbrev r0_33 : Rect S128x168x64 := Rect.unit (s := S128x168x64) ![0, 13, 0] S128x1x64.size inb_S128x168x64_S128x1x64_0_13_0
abbrev r0_34 : Rect S64x21x8x128 := Rect.unit (s := S64x21x8x128) ![0, 14, 0, 0] S64x1x1x128.size inb_S64x21x8x128_S64x1x1x128_0_14_0_0
abbrev r0_35 : Rect S128x168x64 := Rect.unit (s := S128x168x64) ![0, 14, 0] S128x1x64.size inb_S128x168x64_S128x1x64_0_14_0
abbrev r0_36 : Rect S64x21x8x128 := Rect.unit (s := S64x21x8x128) ![0, 15, 0, 0] S64x1x1x128.size inb_S64x21x8x128_S64x1x1x128_0_15_0_0
abbrev r0_37 : Rect S128x168x64 := Rect.unit (s := S128x168x64) ![0, 15, 0] S128x1x64.size inb_S128x168x64_S128x1x64_0_15_0
abbrev r0_38 : Rect S64x21x8x128 := Rect.unit (s := S64x21x8x128) ![0, 16, 0, 0] S64x1x1x128.size inb_S64x21x8x128_S64x1x1x128_0_16_0_0
abbrev r0_39 : Rect S128x168x64 := Rect.unit (s := S128x168x64) ![0, 16, 0] S128x1x64.size inb_S128x168x64_S128x1x64_0_16_0
abbrev r0_40 : Rect S64x21x8x128 := Rect.unit (s := S64x21x8x128) ![0, 17, 0, 0] S64x1x1x128.size inb_S64x21x8x128_S64x1x1x128_0_17_0_0
abbrev r0_41 : Rect S128x168x64 := Rect.unit (s := S128x168x64) ![0, 17, 0] S128x1x64.size inb_S128x168x64_S128x1x64_0_17_0
abbrev r0_42 : Rect S64x21x8x128 := Rect.unit (s := S64x21x8x128) ![0, 18, 0, 0] S64x1x1x128.size inb_S64x21x8x128_S64x1x1x128_0_18_0_0
abbrev r0_43 : Rect S128x168x64 := Rect.unit (s := S128x168x64) ![0, 18, 0] S128x1x64.size inb_S128x168x64_S128x1x64_0_18_0
abbrev r0_44 : Rect S64x21x8x128 := Rect.unit (s := S64x21x8x128) ![0, 19, 0, 0] S64x1x1x128.size inb_S64x21x8x128_S64x1x1x128_0_19_0_0
abbrev r0_45 : Rect S128x168x64 := Rect.unit (s := S128x168x64) ![0, 19, 0] S128x1x64.size inb_S128x168x64_S128x1x64_0_19_0
abbrev r0_46 : Rect S64x21x8x128 := Rect.unit (s := S64x21x8x128) ![0, 20, 0, 0] S64x1x1x128.size inb_S64x21x8x128_S64x1x1x128_0_20_0_0
abbrev r0_47 : Rect S128x168x64 := Rect.unit (s := S128x168x64) ![0, 20, 0] S128x1x64.size inb_S128x168x64_S128x1x64_0_20_0
abbrev r0_48 : Rect S64x21x8x128 := Rect.unit (s := S64x21x8x128) ![0, 0, 1, 0] S64x1x1x128.size inb_S64x21x8x128_S64x1x1x128_0_0_1_0
abbrev r0_49 : Rect S128x168x64 := Rect.unit (s := S128x168x64) ![0, 21, 0] S128x1x64.size inb_S128x168x64_S128x1x64_0_21_0
abbrev r0_50 : Rect S128x8x6x64 := Rect.unit (s := S128x8x6x64) ![0, 1, 0, 0] S128x1x1x64.size inb_S128x8x6x64_S128x1x1x64_0_1_0_0
abbrev r0_51 : Rect S64x21x8x128 := Rect.unit (s := S64x21x8x128) ![0, 1, 1, 0] S64x1x1x128.size inb_S64x21x8x128_S64x1x1x128_0_1_1_0
abbrev r0_52 : Rect S128x168x64 := Rect.unit (s := S128x168x64) ![0, 22, 0] S128x1x64.size inb_S128x168x64_S128x1x64_0_22_0
abbrev r0_53 : Rect S128x8x6x64 := Rect.unit (s := S128x8x6x64) ![0, 1, 1, 0] S128x1x1x64.size inb_S128x8x6x64_S128x1x1x64_0_1_1_0
abbrev r0_54 : Rect S64x21x8x128 := Rect.unit (s := S64x21x8x128) ![0, 2, 1, 0] S64x1x1x128.size inb_S64x21x8x128_S64x1x1x128_0_2_1_0
abbrev r0_55 : Rect S128x168x64 := Rect.unit (s := S128x168x64) ![0, 23, 0] S128x1x64.size inb_S128x168x64_S128x1x64_0_23_0
abbrev r0_56 : Rect S128x8x6x64 := Rect.unit (s := S128x8x6x64) ![0, 1, 2, 0] S128x1x1x64.size inb_S128x8x6x64_S128x1x1x64_0_1_2_0
abbrev r0_57 : Rect S64x21x8x128 := Rect.unit (s := S64x21x8x128) ![0, 3, 1, 0] S64x1x1x128.size inb_S64x21x8x128_S64x1x1x128_0_3_1_0
abbrev r0_58 : Rect S128x168x64 := Rect.unit (s := S128x168x64) ![0, 24, 0] S128x1x64.size inb_S128x168x64_S128x1x64_0_24_0
abbrev r0_59 : Rect S128x8x6x64 := Rect.unit (s := S128x8x6x64) ![0, 1, 3, 0] S128x1x1x64.size inb_S128x8x6x64_S128x1x1x64_0_1_3_0
abbrev r0_60 : Rect S64x21x8x128 := Rect.unit (s := S64x21x8x128) ![0, 4, 1, 0] S64x1x1x128.size inb_S64x21x8x128_S64x1x1x128_0_4_1_0
abbrev r0_61 : Rect S128x168x64 := Rect.unit (s := S128x168x64) ![0, 25, 0] S128x1x64.size inb_S128x168x64_S128x1x64_0_25_0
abbrev r0_62 : Rect S128x8x6x64 := Rect.unit (s := S128x8x6x64) ![0, 1, 4, 0] S128x1x1x64.size inb_S128x8x6x64_S128x1x1x64_0_1_4_0
abbrev r0_63 : Rect S64x21x8x128 := Rect.unit (s := S64x21x8x128) ![0, 5, 1, 0] S64x1x1x128.size inb_S64x21x8x128_S64x1x1x128_0_5_1_0
abbrev r0_64 : Rect S128x168x64 := Rect.unit (s := S128x168x64) ![0, 26, 0] S128x1x64.size inb_S128x168x64_S128x1x64_0_26_0
abbrev r0_65 : Rect S128x8x6x64 := Rect.unit (s := S128x8x6x64) ![0, 1, 5, 0] S128x1x1x64.size inb_S128x8x6x64_S128x1x1x64_0_1_5_0
abbrev r0_66 : Rect S64x21x8x128 := Rect.unit (s := S64x21x8x128) ![0, 6, 1, 0] S64x1x1x128.size inb_S64x21x8x128_S64x1x1x128_0_6_1_0
abbrev r0_67 : Rect S128x168x64 := Rect.unit (s := S128x168x64) ![0, 27, 0] S128x1x64.size inb_S128x168x64_S128x1x64_0_27_0
abbrev r0_68 : Rect S64x21x8x128 := Rect.unit (s := S64x21x8x128) ![0, 7, 1, 0] S64x1x1x128.size inb_S64x21x8x128_S64x1x1x128_0_7_1_0
abbrev r0_69 : Rect S128x168x64 := Rect.unit (s := S128x168x64) ![0, 28, 0] S128x1x64.size inb_S128x168x64_S128x1x64_0_28_0
abbrev r0_70 : Rect S64x21x8x128 := Rect.unit (s := S64x21x8x128) ![0, 8, 1, 0] S64x1x1x128.size inb_S64x21x8x128_S64x1x1x128_0_8_1_0
abbrev r0_71 : Rect S128x168x64 := Rect.unit (s := S128x168x64) ![0, 29, 0] S128x1x64.size inb_S128x168x64_S128x1x64_0_29_0
abbrev r0_72 : Rect S64x21x8x128 := Rect.unit (s := S64x21x8x128) ![0, 9, 1, 0] S64x1x1x128.size inb_S64x21x8x128_S64x1x1x128_0_9_1_0
abbrev r0_73 : Rect S128x168x64 := Rect.unit (s := S128x168x64) ![0, 30, 0] S128x1x64.size inb_S128x168x64_S128x1x64_0_30_0
abbrev r0_74 : Rect S64x21x8x128 := Rect.unit (s := S64x21x8x128) ![0, 10, 1, 0] S64x1x1x128.size inb_S64x21x8x128_S64x1x1x128_0_10_1_0
abbrev r0_75 : Rect S128x168x64 := Rect.unit (s := S128x168x64) ![0, 31, 0] S128x1x64.size inb_S128x168x64_S128x1x64_0_31_0
abbrev r0_76 : Rect S64x21x8x128 := Rect.unit (s := S64x21x8x128) ![0, 11, 1, 0] S64x1x1x128.size inb_S64x21x8x128_S64x1x1x128_0_11_1_0
abbrev r0_77 : Rect S128x168x64 := Rect.unit (s := S128x168x64) ![0, 32, 0] S128x1x64.size inb_S128x168x64_S128x1x64_0_32_0
abbrev r0_78 : Rect S64x21x8x128 := Rect.unit (s := S64x21x8x128) ![0, 12, 1, 0] S64x1x1x128.size inb_S64x21x8x128_S64x1x1x128_0_12_1_0
abbrev r0_79 : Rect S128x168x64 := Rect.unit (s := S128x168x64) ![0, 33, 0] S128x1x64.size inb_S128x168x64_S128x1x64_0_33_0
abbrev r0_80 : Rect S64x21x8x128 := Rect.unit (s := S64x21x8x128) ![0, 13, 1, 0] S64x1x1x128.size inb_S64x21x8x128_S64x1x1x128_0_13_1_0
abbrev r0_81 : Rect S128x168x64 := Rect.unit (s := S128x168x64) ![0, 34, 0] S128x1x64.size inb_S128x168x64_S128x1x64_0_34_0
abbrev r0_82 : Rect S64x21x8x128 := Rect.unit (s := S64x21x8x128) ![0, 14, 1, 0] S64x1x1x128.size inb_S64x21x8x128_S64x1x1x128_0_14_1_0
abbrev r0_83 : Rect S128x168x64 := Rect.unit (s := S128x168x64) ![0, 35, 0] S128x1x64.size inb_S128x168x64_S128x1x64_0_35_0
abbrev r0_84 : Rect S64x21x8x128 := Rect.unit (s := S64x21x8x128) ![0, 15, 1, 0] S64x1x1x128.size inb_S64x21x8x128_S64x1x1x128_0_15_1_0
abbrev r0_85 : Rect S128x168x64 := Rect.unit (s := S128x168x64) ![0, 36, 0] S128x1x64.size inb_S128x168x64_S128x1x64_0_36_0
abbrev r0_86 : Rect S64x21x8x128 := Rect.unit (s := S64x21x8x128) ![0, 16, 1, 0] S64x1x1x128.size inb_S64x21x8x128_S64x1x1x128_0_16_1_0
abbrev r0_87 : Rect S128x168x64 := Rect.unit (s := S128x168x64) ![0, 37, 0] S128x1x64.size inb_S128x168x64_S128x1x64_0_37_0
abbrev r0_88 : Rect S64x21x8x128 := Rect.unit (s := S64x21x8x128) ![0, 17, 1, 0] S64x1x1x128.size inb_S64x21x8x128_S64x1x1x128_0_17_1_0
abbrev r0_89 : Rect S128x168x64 := Rect.unit (s := S128x168x64) ![0, 38, 0] S128x1x64.size inb_S128x168x64_S128x1x64_0_38_0
abbrev r0_90 : Rect S64x21x8x128 := Rect.unit (s := S64x21x8x128) ![0, 18, 1, 0] S64x1x1x128.size inb_S64x21x8x128_S64x1x1x128_0_18_1_0
abbrev r0_91 : Rect S128x168x64 := Rect.unit (s := S128x168x64) ![0, 39, 0] S128x1x64.size inb_S128x168x64_S128x1x64_0_39_0
abbrev r0_92 : Rect S64x21x8x128 := Rect.unit (s := S64x21x8x128) ![0, 19, 1, 0] S64x1x1x128.size inb_S64x21x8x128_S64x1x1x128_0_19_1_0
abbrev r0_93 : Rect S128x168x64 := Rect.unit (s := S128x168x64) ![0, 40, 0] S128x1x64.size inb_S128x168x64_S128x1x64_0_40_0
abbrev r0_94 : Rect S64x21x8x128 := Rect.unit (s := S64x21x8x128) ![0, 20, 1, 0] S64x1x1x128.size inb_S64x21x8x128_S64x1x1x128_0_20_1_0
abbrev r0_95 : Rect S128x168x64 := Rect.unit (s := S128x168x64) ![0, 41, 0] S128x1x64.size inb_S128x168x64_S128x1x64_0_41_0
abbrev r0_96 : Rect S64x21x8x128 := Rect.unit (s := S64x21x8x128) ![0, 0, 2, 0] S64x1x1x128.size inb_S64x21x8x128_S64x1x1x128_0_0_2_0
abbrev r0_97 : Rect S128x168x64 := Rect.unit (s := S128x168x64) ![0, 42, 0] S128x1x64.size inb_S128x168x64_S128x1x64_0_42_0
abbrev r0_98 : Rect S128x8x6x64 := Rect.unit (s := S128x8x6x64) ![0, 2, 0, 0] S128x1x1x64.size inb_S128x8x6x64_S128x1x1x64_0_2_0_0
abbrev r0_99 : Rect S64x21x8x128 := Rect.unit (s := S64x21x8x128) ![0, 1, 2, 0] S64x1x1x128.size inb_S64x21x8x128_S64x1x1x128_0_1_2_0
abbrev r0_100 : Rect S128x168x64 := Rect.unit (s := S128x168x64) ![0, 43, 0] S128x1x64.size inb_S128x168x64_S128x1x64_0_43_0
abbrev r0_101 : Rect S128x8x6x64 := Rect.unit (s := S128x8x6x64) ![0, 2, 1, 0] S128x1x1x64.size inb_S128x8x6x64_S128x1x1x64_0_2_1_0
abbrev r0_102 : Rect S64x21x8x128 := Rect.unit (s := S64x21x8x128) ![0, 2, 2, 0] S64x1x1x128.size inb_S64x21x8x128_S64x1x1x128_0_2_2_0
abbrev r0_103 : Rect S128x168x64 := Rect.unit (s := S128x168x64) ![0, 44, 0] S128x1x64.size inb_S128x168x64_S128x1x64_0_44_0
abbrev r0_104 : Rect S128x8x6x64 := Rect.unit (s := S128x8x6x64) ![0, 2, 2, 0] S128x1x1x64.size inb_S128x8x6x64_S128x1x1x64_0_2_2_0
abbrev r0_105 : Rect S64x21x8x128 := Rect.unit (s := S64x21x8x128) ![0, 3, 2, 0] S64x1x1x128.size inb_S64x21x8x128_S64x1x1x128_0_3_2_0
abbrev r0_106 : Rect S128x168x64 := Rect.unit (s := S128x168x64) ![0, 45, 0] S128x1x64.size inb_S128x168x64_S128x1x64_0_45_0
abbrev r0_107 : Rect S128x8x6x64 := Rect.unit (s := S128x8x6x64) ![0, 2, 3, 0] S128x1x1x64.size inb_S128x8x6x64_S128x1x1x64_0_2_3_0
abbrev r0_108 : Rect S64x21x8x128 := Rect.unit (s := S64x21x8x128) ![0, 4, 2, 0] S64x1x1x128.size inb_S64x21x8x128_S64x1x1x128_0_4_2_0
abbrev r0_109 : Rect S128x168x64 := Rect.unit (s := S128x168x64) ![0, 46, 0] S128x1x64.size inb_S128x168x64_S128x1x64_0_46_0
abbrev r0_110 : Rect S128x8x6x64 := Rect.unit (s := S128x8x6x64) ![0, 2, 4, 0] S128x1x1x64.size inb_S128x8x6x64_S128x1x1x64_0_2_4_0
abbrev r0_111 : Rect S64x21x8x128 := Rect.unit (s := S64x21x8x128) ![0, 5, 2, 0] S64x1x1x128.size inb_S64x21x8x128_S64x1x1x128_0_5_2_0
abbrev r0_112 : Rect S128x168x64 := Rect.unit (s := S128x168x64) ![0, 47, 0] S128x1x64.size inb_S128x168x64_S128x1x64_0_47_0
abbrev r0_113 : Rect S128x8x6x64 := Rect.unit (s := S128x8x6x64) ![0, 2, 5, 0] S128x1x1x64.size inb_S128x8x6x64_S128x1x1x64_0_2_5_0
abbrev r0_114 : Rect S64x21x8x128 := Rect.unit (s := S64x21x8x128) ![0, 6, 2, 0] S64x1x1x128.size inb_S64x21x8x128_S64x1x1x128_0_6_2_0
abbrev r0_115 : Rect S128x168x64 := Rect.unit (s := S128x168x64) ![0, 48, 0] S128x1x64.size inb_S128x168x64_S128x1x64_0_48_0
abbrev r0_116 : Rect S64x21x8x128 := Rect.unit (s := S64x21x8x128) ![0, 7, 2, 0] S64x1x1x128.size inb_S64x21x8x128_S64x1x1x128_0_7_2_0
abbrev r0_117 : Rect S128x168x64 := Rect.unit (s := S128x168x64) ![0, 49, 0] S128x1x64.size inb_S128x168x64_S128x1x64_0_49_0
abbrev r0_118 : Rect S64x21x8x128 := Rect.unit (s := S64x21x8x128) ![0, 8, 2, 0] S64x1x1x128.size inb_S64x21x8x128_S64x1x1x128_0_8_2_0
abbrev r0_119 : Rect S128x168x64 := Rect.unit (s := S128x168x64) ![0, 50, 0] S128x1x64.size inb_S128x168x64_S128x1x64_0_50_0
abbrev r0_120 : Rect S64x21x8x128 := Rect.unit (s := S64x21x8x128) ![0, 9, 2, 0] S64x1x1x128.size inb_S64x21x8x128_S64x1x1x128_0_9_2_0
abbrev r0_121 : Rect S128x168x64 := Rect.unit (s := S128x168x64) ![0, 51, 0] S128x1x64.size inb_S128x168x64_S128x1x64_0_51_0
abbrev r0_122 : Rect S64x21x8x128 := Rect.unit (s := S64x21x8x128) ![0, 10, 2, 0] S64x1x1x128.size inb_S64x21x8x128_S64x1x1x128_0_10_2_0
abbrev r0_123 : Rect S128x168x64 := Rect.unit (s := S128x168x64) ![0, 52, 0] S128x1x64.size inb_S128x168x64_S128x1x64_0_52_0
abbrev r0_124 : Rect S64x21x8x128 := Rect.unit (s := S64x21x8x128) ![0, 11, 2, 0] S64x1x1x128.size inb_S64x21x8x128_S64x1x1x128_0_11_2_0
abbrev r0_125 : Rect S128x168x64 := Rect.unit (s := S128x168x64) ![0, 53, 0] S128x1x64.size inb_S128x168x64_S128x1x64_0_53_0
abbrev r0_126 : Rect S64x21x8x128 := Rect.unit (s := S64x21x8x128) ![0, 12, 2, 0] S64x1x1x128.size inb_S64x21x8x128_S64x1x1x128_0_12_2_0
abbrev r0_127 : Rect S128x168x64 := Rect.unit (s := S128x168x64) ![0, 54, 0] S128x1x64.size inb_S128x168x64_S128x1x64_0_54_0
abbrev r0_128 : Rect S64x21x8x128 := Rect.unit (s := S64x21x8x128) ![0, 13, 2, 0] S64x1x1x128.size inb_S64x21x8x128_S64x1x1x128_0_13_2_0
abbrev r0_129 : Rect S128x168x64 := Rect.unit (s := S128x168x64) ![0, 55, 0] S128x1x64.size inb_S128x168x64_S128x1x64_0_55_0
abbrev r0_130 : Rect S64x21x8x128 := Rect.unit (s := S64x21x8x128) ![0, 14, 2, 0] S64x1x1x128.size inb_S64x21x8x128_S64x1x1x128_0_14_2_0
abbrev r0_131 : Rect S128x168x64 := Rect.unit (s := S128x168x64) ![0, 56, 0] S128x1x64.size inb_S128x168x64_S128x1x64_0_56_0
abbrev r0_132 : Rect S64x21x8x128 := Rect.unit (s := S64x21x8x128) ![0, 15, 2, 0] S64x1x1x128.size inb_S64x21x8x128_S64x1x1x128_0_15_2_0
abbrev r0_133 : Rect S128x168x64 := Rect.unit (s := S128x168x64) ![0, 57, 0] S128x1x64.size inb_S128x168x64_S128x1x64_0_57_0
abbrev r0_134 : Rect S64x21x8x128 := Rect.unit (s := S64x21x8x128) ![0, 16, 2, 0] S64x1x1x128.size inb_S64x21x8x128_S64x1x1x128_0_16_2_0
abbrev r0_135 : Rect S128x168x64 := Rect.unit (s := S128x168x64) ![0, 58, 0] S128x1x64.size inb_S128x168x64_S128x1x64_0_58_0
abbrev r0_136 : Rect S64x21x8x128 := Rect.unit (s := S64x21x8x128) ![0, 17, 2, 0] S64x1x1x128.size inb_S64x21x8x128_S64x1x1x128_0_17_2_0
abbrev r0_137 : Rect S128x168x64 := Rect.unit (s := S128x168x64) ![0, 59, 0] S128x1x64.size inb_S128x168x64_S128x1x64_0_59_0
abbrev r0_138 : Rect S64x21x8x128 := Rect.unit (s := S64x21x8x128) ![0, 18, 2, 0] S64x1x1x128.size inb_S64x21x8x128_S64x1x1x128_0_18_2_0
abbrev r0_139 : Rect S128x168x64 := Rect.unit (s := S128x168x64) ![0, 60, 0] S128x1x64.size inb_S128x168x64_S128x1x64_0_60_0
abbrev r0_140 : Rect S64x21x8x128 := Rect.unit (s := S64x21x8x128) ![0, 19, 2, 0] S64x1x1x128.size inb_S64x21x8x128_S64x1x1x128_0_19_2_0
abbrev r0_141 : Rect S128x168x64 := Rect.unit (s := S128x168x64) ![0, 61, 0] S128x1x64.size inb_S128x168x64_S128x1x64_0_61_0
abbrev r0_142 : Rect S64x21x8x128 := Rect.unit (s := S64x21x8x128) ![0, 20, 2, 0] S64x1x1x128.size inb_S64x21x8x128_S64x1x1x128_0_20_2_0
abbrev r0_143 : Rect S128x168x64 := Rect.unit (s := S128x168x64) ![0, 62, 0] S128x1x64.size inb_S128x168x64_S128x1x64_0_62_0
abbrev r0_144 : Rect S64x21x8x128 := Rect.unit (s := S64x21x8x128) ![0, 0, 3, 0] S64x1x1x128.size inb_S64x21x8x128_S64x1x1x128_0_0_3_0
abbrev r0_145 : Rect S128x168x64 := Rect.unit (s := S128x168x64) ![0, 63, 0] S128x1x64.size inb_S128x168x64_S128x1x64_0_63_0
abbrev r0_146 : Rect S128x8x6x64 := Rect.unit (s := S128x8x6x64) ![0, 3, 0, 0] S128x1x1x64.size inb_S128x8x6x64_S128x1x1x64_0_3_0_0
abbrev r0_147 : Rect S64x21x8x128 := Rect.unit (s := S64x21x8x128) ![0, 1, 3, 0] S64x1x1x128.size inb_S64x21x8x128_S64x1x1x128_0_1_3_0
abbrev r0_148 : Rect S128x168x64 := Rect.unit (s := S128x168x64) ![0, 64, 0] S128x1x64.size inb_S128x168x64_S128x1x64_0_64_0
abbrev r0_149 : Rect S128x8x6x64 := Rect.unit (s := S128x8x6x64) ![0, 3, 1, 0] S128x1x1x64.size inb_S128x8x6x64_S128x1x1x64_0_3_1_0
abbrev r0_150 : Rect S64x21x8x128 := Rect.unit (s := S64x21x8x128) ![0, 2, 3, 0] S64x1x1x128.size inb_S64x21x8x128_S64x1x1x128_0_2_3_0
abbrev r0_151 : Rect S128x168x64 := Rect.unit (s := S128x168x64) ![0, 65, 0] S128x1x64.size inb_S128x168x64_S128x1x64_0_65_0
abbrev r0_152 : Rect S128x8x6x64 := Rect.unit (s := S128x8x6x64) ![0, 3, 2, 0] S128x1x1x64.size inb_S128x8x6x64_S128x1x1x64_0_3_2_0
abbrev r0_153 : Rect S64x21x8x128 := Rect.unit (s := S64x21x8x128) ![0, 3, 3, 0] S64x1x1x128.size inb_S64x21x8x128_S64x1x1x128_0_3_3_0
abbrev r0_154 : Rect S128x168x64 := Rect.unit (s := S128x168x64) ![0, 66, 0] S128x1x64.size inb_S128x168x64_S128x1x64_0_66_0
abbrev r0_155 : Rect S128x8x6x64 := Rect.unit (s := S128x8x6x64) ![0, 3, 3, 0] S128x1x1x64.size inb_S128x8x6x64_S128x1x1x64_0_3_3_0
abbrev r0_156 : Rect S64x21x8x128 := Rect.unit (s := S64x21x8x128) ![0, 4, 3, 0] S64x1x1x128.size inb_S64x21x8x128_S64x1x1x128_0_4_3_0
abbrev r0_157 : Rect S128x168x64 := Rect.unit (s := S128x168x64) ![0, 67, 0] S128x1x64.size inb_S128x168x64_S128x1x64_0_67_0
abbrev r0_158 : Rect S128x8x6x64 := Rect.unit (s := S128x8x6x64) ![0, 3, 4, 0] S128x1x1x64.size inb_S128x8x6x64_S128x1x1x64_0_3_4_0
abbrev r0_159 : Rect S64x21x8x128 := Rect.unit (s := S64x21x8x128) ![0, 5, 3, 0] S64x1x1x128.size inb_S64x21x8x128_S64x1x1x128_0_5_3_0
abbrev r0_160 : Rect S128x168x64 := Rect.unit (s := S128x168x64) ![0, 68, 0] S128x1x64.size inb_S128x168x64_S128x1x64_0_68_0
abbrev r0_161 : Rect S128x8x6x64 := Rect.unit (s := S128x8x6x64) ![0, 3, 5, 0] S128x1x1x64.size inb_S128x8x6x64_S128x1x1x64_0_3_5_0
abbrev r0_162 : Rect S64x21x8x128 := Rect.unit (s := S64x21x8x128) ![0, 6, 3, 0] S64x1x1x128.size inb_S64x21x8x128_S64x1x1x128_0_6_3_0
abbrev r0_163 : Rect S128x168x64 := Rect.unit (s := S128x168x64) ![0, 69, 0] S128x1x64.size inb_S128x168x64_S128x1x64_0_69_0
abbrev r0_164 : Rect S64x21x8x128 := Rect.unit (s := S64x21x8x128) ![0, 7, 3, 0] S64x1x1x128.size inb_S64x21x8x128_S64x1x1x128_0_7_3_0
abbrev r0_165 : Rect S128x168x64 := Rect.unit (s := S128x168x64) ![0, 70, 0] S128x1x64.size inb_S128x168x64_S128x1x64_0_70_0
abbrev r0_166 : Rect S64x21x8x128 := Rect.unit (s := S64x21x8x128) ![0, 8, 3, 0] S64x1x1x128.size inb_S64x21x8x128_S64x1x1x128_0_8_3_0
abbrev r0_167 : Rect S128x168x64 := Rect.unit (s := S128x168x64) ![0, 71, 0] S128x1x64.size inb_S128x168x64_S128x1x64_0_71_0
abbrev r0_168 : Rect S64x21x8x128 := Rect.unit (s := S64x21x8x128) ![0, 9, 3, 0] S64x1x1x128.size inb_S64x21x8x128_S64x1x1x128_0_9_3_0
abbrev r0_169 : Rect S128x168x64 := Rect.unit (s := S128x168x64) ![0, 72, 0] S128x1x64.size inb_S128x168x64_S128x1x64_0_72_0
abbrev r0_170 : Rect S64x21x8x128 := Rect.unit (s := S64x21x8x128) ![0, 10, 3, 0] S64x1x1x128.size inb_S64x21x8x128_S64x1x1x128_0_10_3_0
abbrev r0_171 : Rect S128x168x64 := Rect.unit (s := S128x168x64) ![0, 73, 0] S128x1x64.size inb_S128x168x64_S128x1x64_0_73_0
abbrev r0_172 : Rect S64x21x8x128 := Rect.unit (s := S64x21x8x128) ![0, 11, 3, 0] S64x1x1x128.size inb_S64x21x8x128_S64x1x1x128_0_11_3_0
abbrev r0_173 : Rect S128x168x64 := Rect.unit (s := S128x168x64) ![0, 74, 0] S128x1x64.size inb_S128x168x64_S128x1x64_0_74_0
abbrev r0_174 : Rect S64x21x8x128 := Rect.unit (s := S64x21x8x128) ![0, 12, 3, 0] S64x1x1x128.size inb_S64x21x8x128_S64x1x1x128_0_12_3_0
abbrev r0_175 : Rect S128x168x64 := Rect.unit (s := S128x168x64) ![0, 75, 0] S128x1x64.size inb_S128x168x64_S128x1x64_0_75_0
abbrev r0_176 : Rect S64x21x8x128 := Rect.unit (s := S64x21x8x128) ![0, 13, 3, 0] S64x1x1x128.size inb_S64x21x8x128_S64x1x1x128_0_13_3_0
abbrev r0_177 : Rect S128x168x64 := Rect.unit (s := S128x168x64) ![0, 76, 0] S128x1x64.size inb_S128x168x64_S128x1x64_0_76_0
abbrev r0_178 : Rect S64x21x8x128 := Rect.unit (s := S64x21x8x128) ![0, 14, 3, 0] S64x1x1x128.size inb_S64x21x8x128_S64x1x1x128_0_14_3_0
abbrev r0_179 : Rect S128x168x64 := Rect.unit (s := S128x168x64) ![0, 77, 0] S128x1x64.size inb_S128x168x64_S128x1x64_0_77_0
abbrev r0_180 : Rect S64x21x8x128 := Rect.unit (s := S64x21x8x128) ![0, 15, 3, 0] S64x1x1x128.size inb_S64x21x8x128_S64x1x1x128_0_15_3_0
abbrev r0_181 : Rect S128x168x64 := Rect.unit (s := S128x168x64) ![0, 78, 0] S128x1x64.size inb_S128x168x64_S128x1x64_0_78_0
abbrev r0_182 : Rect S64x21x8x128 := Rect.unit (s := S64x21x8x128) ![0, 16, 3, 0] S64x1x1x128.size inb_S64x21x8x128_S64x1x1x128_0_16_3_0
abbrev r0_183 : Rect S128x168x64 := Rect.unit (s := S128x168x64) ![0, 79, 0] S128x1x64.size inb_S128x168x64_S128x1x64_0_79_0
abbrev r0_184 : Rect S64x21x8x128 := Rect.unit (s := S64x21x8x128) ![0, 17, 3, 0] S64x1x1x128.size inb_S64x21x8x128_S64x1x1x128_0_17_3_0
abbrev r0_185 : Rect S128x168x64 := Rect.unit (s := S128x168x64) ![0, 80, 0] S128x1x64.size inb_S128x168x64_S128x1x64_0_80_0
abbrev r0_186 : Rect S64x21x8x128 := Rect.unit (s := S64x21x8x128) ![0, 18, 3, 0] S64x1x1x128.size inb_S64x21x8x128_S64x1x1x128_0_18_3_0
abbrev r0_187 : Rect S128x168x64 := Rect.unit (s := S128x168x64) ![0, 81, 0] S128x1x64.size inb_S128x168x64_S128x1x64_0_81_0
abbrev r0_188 : Rect S64x21x8x128 := Rect.unit (s := S64x21x8x128) ![0, 19, 3, 0] S64x1x1x128.size inb_S64x21x8x128_S64x1x1x128_0_19_3_0
abbrev r0_189 : Rect S128x168x64 := Rect.unit (s := S128x168x64) ![0, 82, 0] S128x1x64.size inb_S128x168x64_S128x1x64_0_82_0
abbrev r0_190 : Rect S64x21x8x128 := Rect.unit (s := S64x21x8x128) ![0, 20, 3, 0] S64x1x1x128.size inb_S64x21x8x128_S64x1x1x128_0_20_3_0
abbrev r0_191 : Rect S128x168x64 := Rect.unit (s := S128x168x64) ![0, 83, 0] S128x1x64.size inb_S128x168x64_S128x1x64_0_83_0
abbrev r0_192 : Rect S64x21x8x128 := Rect.unit (s := S64x21x8x128) ![0, 0, 4, 0] S64x1x1x128.size inb_S64x21x8x128_S64x1x1x128_0_0_4_0
abbrev r0_193 : Rect S128x168x64 := Rect.unit (s := S128x168x64) ![0, 84, 0] S128x1x64.size inb_S128x168x64_S128x1x64_0_84_0
abbrev r0_194 : Rect S128x8x6x64 := Rect.unit (s := S128x8x6x64) ![0, 4, 0, 0] S128x1x1x64.size inb_S128x8x6x64_S128x1x1x64_0_4_0_0
abbrev r0_195 : Rect S64x21x8x128 := Rect.unit (s := S64x21x8x128) ![0, 1, 4, 0] S64x1x1x128.size inb_S64x21x8x128_S64x1x1x128_0_1_4_0
abbrev r0_196 : Rect S128x168x64 := Rect.unit (s := S128x168x64) ![0, 85, 0] S128x1x64.size inb_S128x168x64_S128x1x64_0_85_0
abbrev r0_197 : Rect S128x8x6x64 := Rect.unit (s := S128x8x6x64) ![0, 4, 1, 0] S128x1x1x64.size inb_S128x8x6x64_S128x1x1x64_0_4_1_0
abbrev r0_198 : Rect S64x21x8x128 := Rect.unit (s := S64x21x8x128) ![0, 2, 4, 0] S64x1x1x128.size inb_S64x21x8x128_S64x1x1x128_0_2_4_0
abbrev r0_199 : Rect S128x168x64 := Rect.unit (s := S128x168x64) ![0, 86, 0] S128x1x64.size inb_S128x168x64_S128x1x64_0_86_0
abbrev r0_200 : Rect S128x8x6x64 := Rect.unit (s := S128x8x6x64) ![0, 4, 2, 0] S128x1x1x64.size inb_S128x8x6x64_S128x1x1x64_0_4_2_0
abbrev r0_201 : Rect S64x21x8x128 := Rect.unit (s := S64x21x8x128) ![0, 3, 4, 0] S64x1x1x128.size inb_S64x21x8x128_S64x1x1x128_0_3_4_0
abbrev r0_202 : Rect S128x168x64 := Rect.unit (s := S128x168x64) ![0, 87, 0] S128x1x64.size inb_S128x168x64_S128x1x64_0_87_0
abbrev r0_203 : Rect S128x8x6x64 := Rect.unit (s := S128x8x6x64) ![0, 4, 3, 0] S128x1x1x64.size inb_S128x8x6x64_S128x1x1x64_0_4_3_0
abbrev r0_204 : Rect S64x21x8x128 := Rect.unit (s := S64x21x8x128) ![0, 4, 4, 0] S64x1x1x128.size inb_S64x21x8x128_S64x1x1x128_0_4_4_0
abbrev r0_205 : Rect S128x168x64 := Rect.unit (s := S128x168x64) ![0, 88, 0] S128x1x64.size inb_S128x168x64_S128x1x64_0_88_0
abbrev r0_206 : Rect S128x8x6x64 := Rect.unit (s := S128x8x6x64) ![0, 4, 4, 0] S128x1x1x64.size inb_S128x8x6x64_S128x1x1x64_0_4_4_0
abbrev r0_207 : Rect S64x21x8x128 := Rect.unit (s := S64x21x8x128) ![0, 5, 4, 0] S64x1x1x128.size inb_S64x21x8x128_S64x1x1x128_0_5_4_0
abbrev r0_208 : Rect S128x168x64 := Rect.unit (s := S128x168x64) ![0, 89, 0] S128x1x64.size inb_S128x168x64_S128x1x64_0_89_0
abbrev r0_209 : Rect S128x8x6x64 := Rect.unit (s := S128x8x6x64) ![0, 4, 5, 0] S128x1x1x64.size inb_S128x8x6x64_S128x1x1x64_0_4_5_0
abbrev r0_210 : Rect S64x21x8x128 := Rect.unit (s := S64x21x8x128) ![0, 6, 4, 0] S64x1x1x128.size inb_S64x21x8x128_S64x1x1x128_0_6_4_0
abbrev r0_211 : Rect S128x168x64 := Rect.unit (s := S128x168x64) ![0, 90, 0] S128x1x64.size inb_S128x168x64_S128x1x64_0_90_0
abbrev r0_212 : Rect S64x21x8x128 := Rect.unit (s := S64x21x8x128) ![0, 7, 4, 0] S64x1x1x128.size inb_S64x21x8x128_S64x1x1x128_0_7_4_0
abbrev r0_213 : Rect S128x168x64 := Rect.unit (s := S128x168x64) ![0, 91, 0] S128x1x64.size inb_S128x168x64_S128x1x64_0_91_0
abbrev r0_214 : Rect S64x21x8x128 := Rect.unit (s := S64x21x8x128) ![0, 8, 4, 0] S64x1x1x128.size inb_S64x21x8x128_S64x1x1x128_0_8_4_0
abbrev r0_215 : Rect S128x168x64 := Rect.unit (s := S128x168x64) ![0, 92, 0] S128x1x64.size inb_S128x168x64_S128x1x64_0_92_0
abbrev r0_216 : Rect S64x21x8x128 := Rect.unit (s := S64x21x8x128) ![0, 9, 4, 0] S64x1x1x128.size inb_S64x21x8x128_S64x1x1x128_0_9_4_0
abbrev r0_217 : Rect S128x168x64 := Rect.unit (s := S128x168x64) ![0, 93, 0] S128x1x64.size inb_S128x168x64_S128x1x64_0_93_0
abbrev r0_218 : Rect S64x21x8x128 := Rect.unit (s := S64x21x8x128) ![0, 10, 4, 0] S64x1x1x128.size inb_S64x21x8x128_S64x1x1x128_0_10_4_0
abbrev r0_219 : Rect S128x168x64 := Rect.unit (s := S128x168x64) ![0, 94, 0] S128x1x64.size inb_S128x168x64_S128x1x64_0_94_0
abbrev r0_220 : Rect S64x21x8x128 := Rect.unit (s := S64x21x8x128) ![0, 11, 4, 0] S64x1x1x128.size inb_S64x21x8x128_S64x1x1x128_0_11_4_0
abbrev r0_221 : Rect S128x168x64 := Rect.unit (s := S128x168x64) ![0, 95, 0] S128x1x64.size inb_S128x168x64_S128x1x64_0_95_0
abbrev r0_222 : Rect S64x21x8x128 := Rect.unit (s := S64x21x8x128) ![0, 12, 4, 0] S64x1x1x128.size inb_S64x21x8x128_S64x1x1x128_0_12_4_0
abbrev r0_223 : Rect S128x168x64 := Rect.unit (s := S128x168x64) ![0, 96, 0] S128x1x64.size inb_S128x168x64_S128x1x64_0_96_0
abbrev r0_224 : Rect S64x21x8x128 := Rect.unit (s := S64x21x8x128) ![0, 13, 4, 0] S64x1x1x128.size inb_S64x21x8x128_S64x1x1x128_0_13_4_0
abbrev r0_225 : Rect S128x168x64 := Rect.unit (s := S128x168x64) ![0, 97, 0] S128x1x64.size inb_S128x168x64_S128x1x64_0_97_0
abbrev r0_226 : Rect S64x21x8x128 := Rect.unit (s := S64x21x8x128) ![0, 14, 4, 0] S64x1x1x128.size inb_S64x21x8x128_S64x1x1x128_0_14_4_0
abbrev r0_227 : Rect S128x168x64 := Rect.unit (s := S128x168x64) ![0, 98, 0] S128x1x64.size inb_S128x168x64_S128x1x64_0_98_0
abbrev r0_228 : Rect S64x21x8x128 := Rect.unit (s := S64x21x8x128) ![0, 15, 4, 0] S64x1x1x128.size inb_S64x21x8x128_S64x1x1x128_0_15_4_0
abbrev r0_229 : Rect S128x168x64 := Rect.unit (s := S128x168x64) ![0, 99, 0] S128x1x64.size inb_S128x168x64_S128x1x64_0_99_0
abbrev r0_230 : Rect S64x21x8x128 := Rect.unit (s := S64x21x8x128) ![0, 16, 4, 0] S64x1x1x128.size inb_S64x21x8x128_S64x1x1x128_0_16_4_0
abbrev r0_231 : Rect S128x168x64 := Rect.unit (s := S128x168x64) ![0, 100, 0] S128x1x64.size inb_S128x168x64_S128x1x64_0_100_0
abbrev r0_232 : Rect S64x21x8x128 := Rect.unit (s := S64x21x8x128) ![0, 17, 4, 0] S64x1x1x128.size inb_S64x21x8x128_S64x1x1x128_0_17_4_0
abbrev r0_233 : Rect S128x168x64 := Rect.unit (s := S128x168x64) ![0, 101, 0] S128x1x64.size inb_S128x168x64_S128x1x64_0_101_0
abbrev r0_234 : Rect S64x21x8x128 := Rect.unit (s := S64x21x8x128) ![0, 18, 4, 0] S64x1x1x128.size inb_S64x21x8x128_S64x1x1x128_0_18_4_0
abbrev r0_235 : Rect S128x168x64 := Rect.unit (s := S128x168x64) ![0, 102, 0] S128x1x64.size inb_S128x168x64_S128x1x64_0_102_0
abbrev r0_236 : Rect S64x21x8x128 := Rect.unit (s := S64x21x8x128) ![0, 19, 4, 0] S64x1x1x128.size inb_S64x21x8x128_S64x1x1x128_0_19_4_0
abbrev r0_237 : Rect S128x168x64 := Rect.unit (s := S128x168x64) ![0, 103, 0] S128x1x64.size inb_S128x168x64_S128x1x64_0_103_0
abbrev r0_238 : Rect S64x21x8x128 := Rect.unit (s := S64x21x8x128) ![0, 20, 4, 0] S64x1x1x128.size inb_S64x21x8x128_S64x1x1x128_0_20_4_0
abbrev r0_239 : Rect S128x168x64 := Rect.unit (s := S128x168x64) ![0, 104, 0] S128x1x64.size inb_S128x168x64_S128x1x64_0_104_0
abbrev r0_240 : Rect S64x21x8x128 := Rect.unit (s := S64x21x8x128) ![0, 0, 5, 0] S64x1x1x128.size inb_S64x21x8x128_S64x1x1x128_0_0_5_0
abbrev r0_241 : Rect S128x168x64 := Rect.unit (s := S128x168x64) ![0, 105, 0] S128x1x64.size inb_S128x168x64_S128x1x64_0_105_0
abbrev r0_242 : Rect S128x8x6x64 := Rect.unit (s := S128x8x6x64) ![0, 5, 0, 0] S128x1x1x64.size inb_S128x8x6x64_S128x1x1x64_0_5_0_0
abbrev r0_243 : Rect S64x21x8x128 := Rect.unit (s := S64x21x8x128) ![0, 1, 5, 0] S64x1x1x128.size inb_S64x21x8x128_S64x1x1x128_0_1_5_0
abbrev r0_244 : Rect S128x168x64 := Rect.unit (s := S128x168x64) ![0, 106, 0] S128x1x64.size inb_S128x168x64_S128x1x64_0_106_0
abbrev r0_245 : Rect S128x8x6x64 := Rect.unit (s := S128x8x6x64) ![0, 5, 1, 0] S128x1x1x64.size inb_S128x8x6x64_S128x1x1x64_0_5_1_0
abbrev r0_246 : Rect S64x21x8x128 := Rect.unit (s := S64x21x8x128) ![0, 2, 5, 0] S64x1x1x128.size inb_S64x21x8x128_S64x1x1x128_0_2_5_0
abbrev r0_247 : Rect S128x168x64 := Rect.unit (s := S128x168x64) ![0, 107, 0] S128x1x64.size inb_S128x168x64_S128x1x64_0_107_0
abbrev r0_248 : Rect S128x8x6x64 := Rect.unit (s := S128x8x6x64) ![0, 5, 2, 0] S128x1x1x64.size inb_S128x8x6x64_S128x1x1x64_0_5_2_0
abbrev r0_249 : Rect S64x21x8x128 := Rect.unit (s := S64x21x8x128) ![0, 3, 5, 0] S64x1x1x128.size inb_S64x21x8x128_S64x1x1x128_0_3_5_0
abbrev r0_250 : Rect S128x168x64 := Rect.unit (s := S128x168x64) ![0, 108, 0] S128x1x64.size inb_S128x168x64_S128x1x64_0_108_0
abbrev r0_251 : Rect S128x8x6x64 := Rect.unit (s := S128x8x6x64) ![0, 5, 3, 0] S128x1x1x64.size inb_S128x8x6x64_S128x1x1x64_0_5_3_0
abbrev r0_252 : Rect S64x21x8x128 := Rect.unit (s := S64x21x8x128) ![0, 4, 5, 0] S64x1x1x128.size inb_S64x21x8x128_S64x1x1x128_0_4_5_0
abbrev r0_253 : Rect S128x168x64 := Rect.unit (s := S128x168x64) ![0, 109, 0] S128x1x64.size inb_S128x168x64_S128x1x64_0_109_0
abbrev r0_254 : Rect S128x8x6x64 := Rect.unit (s := S128x8x6x64) ![0, 5, 4, 0] S128x1x1x64.size inb_S128x8x6x64_S128x1x1x64_0_5_4_0
abbrev r0_255 : Rect S64x21x8x128 := Rect.unit (s := S64x21x8x128) ![0, 5, 5, 0] S64x1x1x128.size inb_S64x21x8x128_S64x1x1x128_0_5_5_0
abbrev r0_256 : Rect S128x168x64 := Rect.unit (s := S128x168x64) ![0, 110, 0] S128x1x64.size inb_S128x168x64_S128x1x64_0_110_0
abbrev r0_257 : Rect S128x8x6x64 := Rect.unit (s := S128x8x6x64) ![0, 5, 5, 0] S128x1x1x64.size inb_S128x8x6x64_S128x1x1x64_0_5_5_0
abbrev r0_258 : Rect S64x21x8x128 := Rect.unit (s := S64x21x8x128) ![0, 6, 5, 0] S64x1x1x128.size inb_S64x21x8x128_S64x1x1x128_0_6_5_0
abbrev r0_259 : Rect S128x168x64 := Rect.unit (s := S128x168x64) ![0, 111, 0] S128x1x64.size inb_S128x168x64_S128x1x64_0_111_0
abbrev r0_260 : Rect S64x21x8x128 := Rect.unit (s := S64x21x8x128) ![0, 7, 5, 0] S64x1x1x128.size inb_S64x21x8x128_S64x1x1x128_0_7_5_0
abbrev r0_261 : Rect S128x168x64 := Rect.unit (s := S128x168x64) ![0, 112, 0] S128x1x64.size inb_S128x168x64_S128x1x64_0_112_0
abbrev r0_262 : Rect S64x21x8x128 := Rect.unit (s := S64x21x8x128) ![0, 8, 5, 0] S64x1x1x128.size inb_S64x21x8x128_S64x1x1x128_0_8_5_0
abbrev r0_263 : Rect S128x168x64 := Rect.unit (s := S128x168x64) ![0, 113, 0] S128x1x64.size inb_S128x168x64_S128x1x64_0_113_0
abbrev r0_264 : Rect S64x21x8x128 := Rect.unit (s := S64x21x8x128) ![0, 9, 5, 0] S64x1x1x128.size inb_S64x21x8x128_S64x1x1x128_0_9_5_0
abbrev r0_265 : Rect S128x168x64 := Rect.unit (s := S128x168x64) ![0, 114, 0] S128x1x64.size inb_S128x168x64_S128x1x64_0_114_0
abbrev r0_266 : Rect S64x21x8x128 := Rect.unit (s := S64x21x8x128) ![0, 10, 5, 0] S64x1x1x128.size inb_S64x21x8x128_S64x1x1x128_0_10_5_0
abbrev r0_267 : Rect S128x168x64 := Rect.unit (s := S128x168x64) ![0, 115, 0] S128x1x64.size inb_S128x168x64_S128x1x64_0_115_0
abbrev r0_268 : Rect S64x21x8x128 := Rect.unit (s := S64x21x8x128) ![0, 11, 5, 0] S64x1x1x128.size inb_S64x21x8x128_S64x1x1x128_0_11_5_0
abbrev r0_269 : Rect S128x168x64 := Rect.unit (s := S128x168x64) ![0, 116, 0] S128x1x64.size inb_S128x168x64_S128x1x64_0_116_0
abbrev r0_270 : Rect S64x21x8x128 := Rect.unit (s := S64x21x8x128) ![0, 12, 5, 0] S64x1x1x128.size inb_S64x21x8x128_S64x1x1x128_0_12_5_0
abbrev r0_271 : Rect S128x168x64 := Rect.unit (s := S128x168x64) ![0, 117, 0] S128x1x64.size inb_S128x168x64_S128x1x64_0_117_0
abbrev r0_272 : Rect S64x21x8x128 := Rect.unit (s := S64x21x8x128) ![0, 13, 5, 0] S64x1x1x128.size inb_S64x21x8x128_S64x1x1x128_0_13_5_0
abbrev r0_273 : Rect S128x168x64 := Rect.unit (s := S128x168x64) ![0, 118, 0] S128x1x64.size inb_S128x168x64_S128x1x64_0_118_0
abbrev r0_274 : Rect S64x21x8x128 := Rect.unit (s := S64x21x8x128) ![0, 14, 5, 0] S64x1x1x128.size inb_S64x21x8x128_S64x1x1x128_0_14_5_0
abbrev r0_275 : Rect S128x168x64 := Rect.unit (s := S128x168x64) ![0, 119, 0] S128x1x64.size inb_S128x168x64_S128x1x64_0_119_0
abbrev r0_276 : Rect S64x21x8x128 := Rect.unit (s := S64x21x8x128) ![0, 15, 5, 0] S64x1x1x128.size inb_S64x21x8x128_S64x1x1x128_0_15_5_0
abbrev r0_277 : Rect S128x168x64 := Rect.unit (s := S128x168x64) ![0, 120, 0] S128x1x64.size inb_S128x168x64_S128x1x64_0_120_0
abbrev r0_278 : Rect S64x21x8x128 := Rect.unit (s := S64x21x8x128) ![0, 16, 5, 0] S64x1x1x128.size inb_S64x21x8x128_S64x1x1x128_0_16_5_0
abbrev r0_279 : Rect S128x168x64 := Rect.unit (s := S128x168x64) ![0, 121, 0] S128x1x64.size inb_S128x168x64_S128x1x64_0_121_0
abbrev r0_280 : Rect S64x21x8x128 := Rect.unit (s := S64x21x8x128) ![0, 17, 5, 0] S64x1x1x128.size inb_S64x21x8x128_S64x1x1x128_0_17_5_0
abbrev r0_281 : Rect S128x168x64 := Rect.unit (s := S128x168x64) ![0, 122, 0] S128x1x64.size inb_S128x168x64_S128x1x64_0_122_0
abbrev r0_282 : Rect S64x21x8x128 := Rect.unit (s := S64x21x8x128) ![0, 18, 5, 0] S64x1x1x128.size inb_S64x21x8x128_S64x1x1x128_0_18_5_0
abbrev r0_283 : Rect S128x168x64 := Rect.unit (s := S128x168x64) ![0, 123, 0] S128x1x64.size inb_S128x168x64_S128x1x64_0_123_0
abbrev r0_284 : Rect S64x21x8x128 := Rect.unit (s := S64x21x8x128) ![0, 19, 5, 0] S64x1x1x128.size inb_S64x21x8x128_S64x1x1x128_0_19_5_0
abbrev r0_285 : Rect S128x168x64 := Rect.unit (s := S128x168x64) ![0, 124, 0] S128x1x64.size inb_S128x168x64_S128x1x64_0_124_0
abbrev r0_286 : Rect S64x21x8x128 := Rect.unit (s := S64x21x8x128) ![0, 20, 5, 0] S64x1x1x128.size inb_S64x21x8x128_S64x1x1x128_0_20_5_0
abbrev r0_287 : Rect S128x168x64 := Rect.unit (s := S128x168x64) ![0, 125, 0] S128x1x64.size inb_S128x168x64_S128x1x64_0_125_0
abbrev r0_288 : Rect S64x21x8x128 := Rect.unit (s := S64x21x8x128) ![0, 0, 6, 0] S64x1x1x128.size inb_S64x21x8x128_S64x1x1x128_0_0_6_0
abbrev r0_289 : Rect S128x168x64 := Rect.unit (s := S128x168x64) ![0, 126, 0] S128x1x64.size inb_S128x168x64_S128x1x64_0_126_0
abbrev r0_290 : Rect S128x8x6x64 := Rect.unit (s := S128x8x6x64) ![0, 6, 0, 0] S128x1x1x64.size inb_S128x8x6x64_S128x1x1x64_0_6_0_0
abbrev r0_291 : Rect S64x21x8x128 := Rect.unit (s := S64x21x8x128) ![0, 1, 6, 0] S64x1x1x128.size inb_S64x21x8x128_S64x1x1x128_0_1_6_0
abbrev r0_292 : Rect S128x168x64 := Rect.unit (s := S128x168x64) ![0, 127, 0] S128x1x64.size inb_S128x168x64_S128x1x64_0_127_0
abbrev r0_293 : Rect S128x8x6x64 := Rect.unit (s := S128x8x6x64) ![0, 6, 1, 0] S128x1x1x64.size inb_S128x8x6x64_S128x1x1x64_0_6_1_0
abbrev r0_294 : Rect S64x21x8x128 := Rect.unit (s := S64x21x8x128) ![0, 2, 6, 0] S64x1x1x128.size inb_S64x21x8x128_S64x1x1x128_0_2_6_0
abbrev r0_295 : Rect S128x168x64 := Rect.unit (s := S128x168x64) ![0, 128, 0] S128x1x64.size inb_S128x168x64_S128x1x64_0_128_0
abbrev r0_296 : Rect S128x8x6x64 := Rect.unit (s := S128x8x6x64) ![0, 6, 2, 0] S128x1x1x64.size inb_S128x8x6x64_S128x1x1x64_0_6_2_0
abbrev r0_297 : Rect S64x21x8x128 := Rect.unit (s := S64x21x8x128) ![0, 3, 6, 0] S64x1x1x128.size inb_S64x21x8x128_S64x1x1x128_0_3_6_0
abbrev r0_298 : Rect S128x168x64 := Rect.unit (s := S128x168x64) ![0, 129, 0] S128x1x64.size inb_S128x168x64_S128x1x64_0_129_0
abbrev r0_299 : Rect S128x8x6x64 := Rect.unit (s := S128x8x6x64) ![0, 6, 3, 0] S128x1x1x64.size inb_S128x8x6x64_S128x1x1x64_0_6_3_0
abbrev r0_300 : Rect S64x21x8x128 := Rect.unit (s := S64x21x8x128) ![0, 4, 6, 0] S64x1x1x128.size inb_S64x21x8x128_S64x1x1x128_0_4_6_0
abbrev r0_301 : Rect S128x168x64 := Rect.unit (s := S128x168x64) ![0, 130, 0] S128x1x64.size inb_S128x168x64_S128x1x64_0_130_0
abbrev r0_302 : Rect S128x8x6x64 := Rect.unit (s := S128x8x6x64) ![0, 6, 4, 0] S128x1x1x64.size inb_S128x8x6x64_S128x1x1x64_0_6_4_0
abbrev r0_303 : Rect S64x21x8x128 := Rect.unit (s := S64x21x8x128) ![0, 5, 6, 0] S64x1x1x128.size inb_S64x21x8x128_S64x1x1x128_0_5_6_0
abbrev r0_304 : Rect S128x168x64 := Rect.unit (s := S128x168x64) ![0, 131, 0] S128x1x64.size inb_S128x168x64_S128x1x64_0_131_0
abbrev r0_305 : Rect S128x8x6x64 := Rect.unit (s := S128x8x6x64) ![0, 6, 5, 0] S128x1x1x64.size inb_S128x8x6x64_S128x1x1x64_0_6_5_0
abbrev r0_306 : Rect S64x21x8x128 := Rect.unit (s := S64x21x8x128) ![0, 6, 6, 0] S64x1x1x128.size inb_S64x21x8x128_S64x1x1x128_0_6_6_0
abbrev r0_307 : Rect S128x168x64 := Rect.unit (s := S128x168x64) ![0, 132, 0] S128x1x64.size inb_S128x168x64_S128x1x64_0_132_0
abbrev r0_308 : Rect S64x21x8x128 := Rect.unit (s := S64x21x8x128) ![0, 7, 6, 0] S64x1x1x128.size inb_S64x21x8x128_S64x1x1x128_0_7_6_0
abbrev r0_309 : Rect S128x168x64 := Rect.unit (s := S128x168x64) ![0, 133, 0] S128x1x64.size inb_S128x168x64_S128x1x64_0_133_0
abbrev r0_310 : Rect S64x21x8x128 := Rect.unit (s := S64x21x8x128) ![0, 8, 6, 0] S64x1x1x128.size inb_S64x21x8x128_S64x1x1x128_0_8_6_0
abbrev r0_311 : Rect S128x168x64 := Rect.unit (s := S128x168x64) ![0, 134, 0] S128x1x64.size inb_S128x168x64_S128x1x64_0_134_0
abbrev r0_312 : Rect S64x21x8x128 := Rect.unit (s := S64x21x8x128) ![0, 9, 6, 0] S64x1x1x128.size inb_S64x21x8x128_S64x1x1x128_0_9_6_0
abbrev r0_313 : Rect S128x168x64 := Rect.unit (s := S128x168x64) ![0, 135, 0] S128x1x64.size inb_S128x168x64_S128x1x64_0_135_0
abbrev r0_314 : Rect S64x21x8x128 := Rect.unit (s := S64x21x8x128) ![0, 10, 6, 0] S64x1x1x128.size inb_S64x21x8x128_S64x1x1x128_0_10_6_0
abbrev r0_315 : Rect S128x168x64 := Rect.unit (s := S128x168x64) ![0, 136, 0] S128x1x64.size inb_S128x168x64_S128x1x64_0_136_0
abbrev r0_316 : Rect S64x21x8x128 := Rect.unit (s := S64x21x8x128) ![0, 11, 6, 0] S64x1x1x128.size inb_S64x21x8x128_S64x1x1x128_0_11_6_0
abbrev r0_317 : Rect S128x168x64 := Rect.unit (s := S128x168x64) ![0, 137, 0] S128x1x64.size inb_S128x168x64_S128x1x64_0_137_0
abbrev r0_318 : Rect S64x21x8x128 := Rect.unit (s := S64x21x8x128) ![0, 12, 6, 0] S64x1x1x128.size inb_S64x21x8x128_S64x1x1x128_0_12_6_0
abbrev r0_319 : Rect S128x168x64 := Rect.unit (s := S128x168x64) ![0, 138, 0] S128x1x64.size inb_S128x168x64_S128x1x64_0_138_0
abbrev r0_320 : Rect S64x21x8x128 := Rect.unit (s := S64x21x8x128) ![0, 13, 6, 0] S64x1x1x128.size inb_S64x21x8x128_S64x1x1x128_0_13_6_0
abbrev r0_321 : Rect S128x168x64 := Rect.unit (s := S128x168x64) ![0, 139, 0] S128x1x64.size inb_S128x168x64_S128x1x64_0_139_0
abbrev r0_322 : Rect S64x21x8x128 := Rect.unit (s := S64x21x8x128) ![0, 14, 6, 0] S64x1x1x128.size inb_S64x21x8x128_S64x1x1x128_0_14_6_0
abbrev r0_323 : Rect S128x168x64 := Rect.unit (s := S128x168x64) ![0, 140, 0] S128x1x64.size inb_S128x168x64_S128x1x64_0_140_0
abbrev r0_324 : Rect S64x21x8x128 := Rect.unit (s := S64x21x8x128) ![0, 15, 6, 0] S64x1x1x128.size inb_S64x21x8x128_S64x1x1x128_0_15_6_0
abbrev r0_325 : Rect S128x168x64 := Rect.unit (s := S128x168x64) ![0, 141, 0] S128x1x64.size inb_S128x168x64_S128x1x64_0_141_0
abbrev r0_326 : Rect S64x21x8x128 := Rect.unit (s := S64x21x8x128) ![0, 16, 6, 0] S64x1x1x128.size inb_S64x21x8x128_S64x1x1x128_0_16_6_0
abbrev r0_327 : Rect S128x168x64 := Rect.unit (s := S128x168x64) ![0, 142, 0] S128x1x64.size inb_S128x168x64_S128x1x64_0_142_0
abbrev r0_328 : Rect S64x21x8x128 := Rect.unit (s := S64x21x8x128) ![0, 17, 6, 0] S64x1x1x128.size inb_S64x21x8x128_S64x1x1x128_0_17_6_0
abbrev r0_329 : Rect S128x168x64 := Rect.unit (s := S128x168x64) ![0, 143, 0] S128x1x64.size inb_S128x168x64_S128x1x64_0_143_0
abbrev r0_330 : Rect S64x21x8x128 := Rect.unit (s := S64x21x8x128) ![0, 18, 6, 0] S64x1x1x128.size inb_S64x21x8x128_S64x1x1x128_0_18_6_0
abbrev r0_331 : Rect S128x168x64 := Rect.unit (s := S128x168x64) ![0, 144, 0] S128x1x64.size inb_S128x168x64_S128x1x64_0_144_0
abbrev r0_332 : Rect S64x21x8x128 := Rect.unit (s := S64x21x8x128) ![0, 19, 6, 0] S64x1x1x128.size inb_S64x21x8x128_S64x1x1x128_0_19_6_0
abbrev r0_333 : Rect S128x168x64 := Rect.unit (s := S128x168x64) ![0, 145, 0] S128x1x64.size inb_S128x168x64_S128x1x64_0_145_0
abbrev r0_334 : Rect S64x21x8x128 := Rect.unit (s := S64x21x8x128) ![0, 20, 6, 0] S64x1x1x128.size inb_S64x21x8x128_S64x1x1x128_0_20_6_0
abbrev r0_335 : Rect S128x168x64 := Rect.unit (s := S128x168x64) ![0, 146, 0] S128x1x64.size inb_S128x168x64_S128x1x64_0_146_0
abbrev r0_336 : Rect S64x21x8x128 := Rect.unit (s := S64x21x8x128) ![0, 0, 7, 0] S64x1x1x128.size inb_S64x21x8x128_S64x1x1x128_0_0_7_0
abbrev r0_337 : Rect S128x168x64 := Rect.unit (s := S128x168x64) ![0, 147, 0] S128x1x64.size inb_S128x168x64_S128x1x64_0_147_0
abbrev r0_338 : Rect S128x8x6x64 := Rect.unit (s := S128x8x6x64) ![0, 7, 0, 0] S128x1x1x64.size inb_S128x8x6x64_S128x1x1x64_0_7_0_0
abbrev r0_339 : Rect S64x21x8x128 := Rect.unit (s := S64x21x8x128) ![0, 1, 7, 0] S64x1x1x128.size inb_S64x21x8x128_S64x1x1x128_0_1_7_0
abbrev r0_340 : Rect S128x168x64 := Rect.unit (s := S128x168x64) ![0, 148, 0] S128x1x64.size inb_S128x168x64_S128x1x64_0_148_0
abbrev r0_341 : Rect S128x8x6x64 := Rect.unit (s := S128x8x6x64) ![0, 7, 1, 0] S128x1x1x64.size inb_S128x8x6x64_S128x1x1x64_0_7_1_0
abbrev r0_342 : Rect S64x21x8x128 := Rect.unit (s := S64x21x8x128) ![0, 2, 7, 0] S64x1x1x128.size inb_S64x21x8x128_S64x1x1x128_0_2_7_0
abbrev r0_343 : Rect S128x168x64 := Rect.unit (s := S128x168x64) ![0, 149, 0] S128x1x64.size inb_S128x168x64_S128x1x64_0_149_0
abbrev r0_344 : Rect S128x8x6x64 := Rect.unit (s := S128x8x6x64) ![0, 7, 2, 0] S128x1x1x64.size inb_S128x8x6x64_S128x1x1x64_0_7_2_0
abbrev r0_345 : Rect S64x21x8x128 := Rect.unit (s := S64x21x8x128) ![0, 3, 7, 0] S64x1x1x128.size inb_S64x21x8x128_S64x1x1x128_0_3_7_0
abbrev r0_346 : Rect S128x168x64 := Rect.unit (s := S128x168x64) ![0, 150, 0] S128x1x64.size inb_S128x168x64_S128x1x64_0_150_0
abbrev r0_347 : Rect S128x8x6x64 := Rect.unit (s := S128x8x6x64) ![0, 7, 3, 0] S128x1x1x64.size inb_S128x8x6x64_S128x1x1x64_0_7_3_0
abbrev r0_348 : Rect S64x21x8x128 := Rect.unit (s := S64x21x8x128) ![0, 4, 7, 0] S64x1x1x128.size inb_S64x21x8x128_S64x1x1x128_0_4_7_0
abbrev r0_349 : Rect S128x168x64 := Rect.unit (s := S128x168x64) ![0, 151, 0] S128x1x64.size inb_S128x168x64_S128x1x64_0_151_0
abbrev r0_350 : Rect S128x8x6x64 := Rect.unit (s := S128x8x6x64) ![0, 7, 4, 0] S128x1x1x64.size inb_S128x8x6x64_S128x1x1x64_0_7_4_0
abbrev r0_351 : Rect S64x21x8x128 := Rect.unit (s := S64x21x8x128) ![0, 5, 7, 0] S64x1x1x128.size inb_S64x21x8x128_S64x1x1x128_0_5_7_0
abbrev r0_352 : Rect S128x168x64 := Rect.unit (s := S128x168x64) ![0, 152, 0] S128x1x64.size inb_S128x168x64_S128x1x64_0_152_0
abbrev r0_353 : Rect S128x8x6x64 := Rect.unit (s := S128x8x6x64) ![0, 7, 5, 0] S128x1x1x64.size inb_S128x8x6x64_S128x1x1x64_0_7_5_0
abbrev r0_354 : Rect S64x21x8x128 := Rect.unit (s := S64x21x8x128) ![0, 6, 7, 0] S64x1x1x128.size inb_S64x21x8x128_S64x1x1x128_0_6_7_0
abbrev r0_355 : Rect S128x168x64 := Rect.unit (s := S128x168x64) ![0, 153, 0] S128x1x64.size inb_S128x168x64_S128x1x64_0_153_0
abbrev r0_356 : Rect S64x21x8x128 := Rect.unit (s := S64x21x8x128) ![0, 7, 7, 0] S64x1x1x128.size inb_S64x21x8x128_S64x1x1x128_0_7_7_0
abbrev r0_357 : Rect S128x168x64 := Rect.unit (s := S128x168x64) ![0, 154, 0] S128x1x64.size inb_S128x168x64_S128x1x64_0_154_0
abbrev r0_358 : Rect S64x21x8x128 := Rect.unit (s := S64x21x8x128) ![0, 8, 7, 0] S64x1x1x128.size inb_S64x21x8x128_S64x1x1x128_0_8_7_0
abbrev r0_359 : Rect S128x168x64 := Rect.unit (s := S128x168x64) ![0, 155, 0] S128x1x64.size inb_S128x168x64_S128x1x64_0_155_0
abbrev r0_360 : Rect S64x21x8x128 := Rect.unit (s := S64x21x8x128) ![0, 9, 7, 0] S64x1x1x128.size inb_S64x21x8x128_S64x1x1x128_0_9_7_0
abbrev r0_361 : Rect S128x168x64 := Rect.unit (s := S128x168x64) ![0, 156, 0] S128x1x64.size inb_S128x168x64_S128x1x64_0_156_0
abbrev r0_362 : Rect S64x21x8x128 := Rect.unit (s := S64x21x8x128) ![0, 10, 7, 0] S64x1x1x128.size inb_S64x21x8x128_S64x1x1x128_0_10_7_0
abbrev r0_363 : Rect S128x168x64 := Rect.unit (s := S128x168x64) ![0, 157, 0] S128x1x64.size inb_S128x168x64_S128x1x64_0_157_0
abbrev r0_364 : Rect S64x21x8x128 := Rect.unit (s := S64x21x8x128) ![0, 11, 7, 0] S64x1x1x128.size inb_S64x21x8x128_S64x1x1x128_0_11_7_0
abbrev r0_365 : Rect S128x168x64 := Rect.unit (s := S128x168x64) ![0, 158, 0] S128x1x64.size inb_S128x168x64_S128x1x64_0_158_0
abbrev r0_366 : Rect S64x21x8x128 := Rect.unit (s := S64x21x8x128) ![0, 12, 7, 0] S64x1x1x128.size inb_S64x21x8x128_S64x1x1x128_0_12_7_0
abbrev r0_367 : Rect S128x168x64 := Rect.unit (s := S128x168x64) ![0, 159, 0] S128x1x64.size inb_S128x168x64_S128x1x64_0_159_0
abbrev r0_368 : Rect S64x21x8x128 := Rect.unit (s := S64x21x8x128) ![0, 13, 7, 0] S64x1x1x128.size inb_S64x21x8x128_S64x1x1x128_0_13_7_0
abbrev r0_369 : Rect S128x168x64 := Rect.unit (s := S128x168x64) ![0, 160, 0] S128x1x64.size inb_S128x168x64_S128x1x64_0_160_0
abbrev r0_370 : Rect S64x21x8x128 := Rect.unit (s := S64x21x8x128) ![0, 14, 7, 0] S64x1x1x128.size inb_S64x21x8x128_S64x1x1x128_0_14_7_0
abbrev r0_371 : Rect S128x168x64 := Rect.unit (s := S128x168x64) ![0, 161, 0] S128x1x64.size inb_S128x168x64_S128x1x64_0_161_0
abbrev r0_372 : Rect S64x21x8x128 := Rect.unit (s := S64x21x8x128) ![0, 15, 7, 0] S64x1x1x128.size inb_S64x21x8x128_S64x1x1x128_0_15_7_0
abbrev r0_373 : Rect S128x168x64 := Rect.unit (s := S128x168x64) ![0, 162, 0] S128x1x64.size inb_S128x168x64_S128x1x64_0_162_0
abbrev r0_374 : Rect S64x21x8x128 := Rect.unit (s := S64x21x8x128) ![0, 16, 7, 0] S64x1x1x128.size inb_S64x21x8x128_S64x1x1x128_0_16_7_0
abbrev r0_375 : Rect S128x168x64 := Rect.unit (s := S128x168x64) ![0, 163, 0] S128x1x64.size inb_S128x168x64_S128x1x64_0_163_0
abbrev r0_376 : Rect S64x21x8x128 := Rect.unit (s := S64x21x8x128) ![0, 17, 7, 0] S64x1x1x128.size inb_S64x21x8x128_S64x1x1x128_0_17_7_0
abbrev r0_377 : Rect S128x168x64 := Rect.unit (s := S128x168x64) ![0, 164, 0] S128x1x64.size inb_S128x168x64_S128x1x64_0_164_0
abbrev r0_378 : Rect S64x21x8x128 := Rect.unit (s := S64x21x8x128) ![0, 18, 7, 0] S64x1x1x128.size inb_S64x21x8x128_S64x1x1x128_0_18_7_0
abbrev r0_379 : Rect S128x168x64 := Rect.unit (s := S128x168x64) ![0, 165, 0] S128x1x64.size inb_S128x168x64_S128x1x64_0_165_0
abbrev r0_380 : Rect S64x21x8x128 := Rect.unit (s := S64x21x8x128) ![0, 19, 7, 0] S64x1x1x128.size inb_S64x21x8x128_S64x1x1x128_0_19_7_0
abbrev r0_381 : Rect S128x168x64 := Rect.unit (s := S128x168x64) ![0, 166, 0] S128x1x64.size inb_S128x168x64_S128x1x64_0_166_0
abbrev r0_382 : Rect S64x21x8x128 := Rect.unit (s := S64x21x8x128) ![0, 20, 7, 0] S64x1x1x128.size inb_S64x21x8x128_S64x1x1x128_0_20_7_0
abbrev r0_383 : Rect S128x168x64 := Rect.unit (s := S128x168x64) ![0, 167, 0] S128x1x64.size inb_S128x168x64_S128x1x64_0_167_0

/-! ## What the body leaves in each output window's buffer -/

/-! ### Values of the body that the stores' payloads, spelt out, would write more than once

    Each is a vector the body binds (often a part call's result), stated over the input windows' blocks and
    numbered on from the skeleton's payload functions (`k0_pay278` …, after `k0_pay277`), so that
    `out0_W` and the values after it name it instead of spelling it out (`unfold_out out0_W` opens a canon
    with them, `unfold_payloads` opens them with the payloads); the comment after each is the printed function's
    name for the value (a count appended where that name is bound again). -/

def k0_pay278 (x0 : Vec F S64x21x8x128 .f32) : FVec F S128x64 .f32 :=
  k0_pay18 (View.ld x0 r0_15) -- `v47`
def k0_pay279 (x0 : Vec F S64x21x8x128 .f32) : FVec F S128x64 .f32 :=
  k0_pay46 (View.ld x0 r0_57) -- `v173`
def k0_pay280 (x0 : Vec F S64x21x8x128 .f32) : FVec F S128x64 .f32 :=
  k0_pay83 (View.ld x0 r0_108) -- `v326`
def k0_pay281 (x0 : Vec F S64x21x8x128 .f32) : FVec F S128x64 .f32 :=
  k0_pay112 (View.ld x0 r0_150) -- `v452`
def k0_pay282 (x0 : Vec F S64x21x8x128 .f32) : FVec F S128x64 .f32 :=
  k0_pay140 (View.ld x0 r0_192) -- `v578`
def k0_pay283 (x0 : Vec F S64x21x8x128 .f32) : FVec F S128x64 .f32 :=
  k0_pay178 (View.ld x0 r0_243) -- `v731`

/-- Window 1's staging buffer after the body, from the input windows' blocks: its 168 stores as pieces, LAST
    FIRST (Lib/Pipeline/FrameBody.lean `View.canon`; the payloads are the skeleton's and the values stated above). -/
def out0_1 (x0 : Vec F S64x21x8x128 .f32) : Vec F S128x168x64 .f32 :=
  View.canon [⟨r0_383, k0_pay2 (View.ld x0 r0_382)⟩,
    ⟨r0_381, k0_pay1 (k0_pay277 (View.ld x0 r0_380))⟩,
    ⟨r0_379, k0_pay276 (View.ld x0 r0_378)⟩,
    ⟨r0_377, k0_pay275 (View.ld x0 r0_376)⟩,
    ⟨r0_375, k0_pay274 (View.ld x0 r0_374)⟩,
    ⟨r0_373, k0_pay273 (View.ld x0 r0_372)⟩,
    ⟨r0_371, k0_pay272 (View.ld x0 r0_370)⟩,
    ⟨r0_369, k0_pay271 (View.ld x0 r0_368)⟩,
    ⟨r0_367, k0_pay270 (View.ld x0 r0_366)⟩,
    ⟨r0_365, k0_pay269 (View.ld x0 r0_364)⟩,
    ⟨r0_363, k0_pay268 (View.ld x0 r0_362)⟩,
    ⟨r0_361, k0_pay267 (k0_pay266 (View.ld x0 r0_360))⟩,
    ⟨r0_359, k0_pay265 (View.ld x0 r0_358)⟩,
    ⟨r0_357, k0_pay264 (View.ld x0 r0_356)⟩,
    ⟨r0_355, k0_pay263 (View.ld x0 r0_354)⟩,
    ⟨r0_352, k0_pay261 (View.ld x0 r0_351)⟩,
    ⟨r0_349, k0_pay258 (View.ld x0 r0_348)⟩,
    ⟨r0_346, k0_pay255 (View.ld x0 r0_345)⟩,
    ⟨r0_343, k0_pay252 (View.ld x0 r0_342)⟩,
    ⟨r0_340, k0_pay249 (View.ld x0 r0_339)⟩,
    ⟨r0_337, k0_pay246 (View.ld x0 r0_336)⟩,
    ⟨r0_335, k0_pay244 (View.ld x0 r0_334)⟩,
    ⟨r0_333, k0_pay243 (View.ld x0 r0_332)⟩,
    ⟨r0_331, k0_pay242 (View.ld x0 r0_330)⟩,
    ⟨r0_329, k0_pay241 (View.ld x0 r0_328)⟩,
    ⟨r0_327, k0_pay240 (View.ld x0 r0_326)⟩,
    ⟨r0_325, k0_pay239 (View.ld x0 r0_324)⟩,
    ⟨r0_323, k0_pay238 (View.ld x0 r0_322)⟩,
    ⟨r0_321, k0_pay237 (View.ld x0 r0_320)⟩,
    ⟨r0_319, k0_pay236 (k0_pay235 (View.ld x0 r0_318))⟩,
    ⟨r0_317, k0_pay234 (View.ld x0 r0_316)⟩,
    ⟨r0_315, k0_pay233 (View.ld x0 r0_314)⟩,
    ⟨r0_313, k0_pay232 (View.ld x0 r0_312)⟩,
    ⟨r0_311, k0_pay231 (k0_pay230 (View.ld x0 r0_310))⟩,
    ⟨r0_309, k0_pay229 (View.ld x0 r0_308)⟩,
    ⟨r0_307, k0_pay228 (View.ld x0 r0_306)⟩,
    ⟨r0_304, k0_pay226 (View.ld x0 r0_303)⟩,
    ⟨r0_301, k0_pay223 (View.ld x0 r0_300)⟩,
    ⟨r0_298, k0_pay220 (View.ld x0 r0_297)⟩,
    ⟨r0_295, k0_pay217 (View.ld x0 r0_294)⟩,
    ⟨r0_292, k0_pay214 (View.ld x0 r0_291)⟩,
    ⟨r0_289, k0_pay211 (View.ld x0 r0_288)⟩,
    ⟨r0_287, k0_pay209 (View.ld x0 r0_286)⟩,
    ⟨r0_285, k0_pay208 (View.ld x0 r0_284)⟩,
    ⟨r0_283, k0_pay207 (View.ld x0 r0_282)⟩,
    ⟨r0_281, k0_pay206 (View.ld x0 r0_280)⟩,
    ⟨r0_279, k0_pay205 (View.ld x0 r0_278)⟩,
    ⟨r0_277, k0_pay204 (k0_pay203 (View.ld x0 r0_276))⟩,
    ⟨r0_275, k0_pay202 (View.ld x0 r0_274)⟩,
    ⟨r0_273, k0_pay201 (View.ld x0 r0_272)⟩,
    ⟨r0_271, k0_pay200 (View.ld x0 r0_270)⟩,
    ⟨r0_269, k0_pay199 (k0_pay198 (View.ld x0 r0_268))⟩,
    ⟨r0_267, k0_pay197 (View.ld x0 r0_266)⟩,
    ⟨r0_265, k0_pay196 (View.ld x0 r0_264)⟩,
    ⟨r0_263, k0_pay195 (View.ld x0 r0_262)⟩,
    ⟨r0_261, k0_pay194 (View.ld x0 r0_260)⟩,
    ⟨r0_259, k0_pay193 (View.ld x0 r0_258)⟩,
    ⟨r0_256, k0_pay191 (View.ld x0 r0_255)⟩,
    ⟨r0_253, k0_pay188 (View.ld x0 r0_252)⟩,
    ⟨r0_250, k0_pay185 (View.ld x0 r0_249)⟩,
    ⟨r0_247, k0_pay182 (View.ld x0 r0_246)⟩,
    ⟨r0_244, k0_pay179 (k0_pay283 x0)⟩,
    ⟨r0_241, k0_pay176 (View.ld x0 r0_240)⟩,
    ⟨r0_239, k0_pay174 (View.ld x0 r0_238)⟩,
    ⟨r0_237, k0_pay173 (View.ld x0 r0_236)⟩,
    ⟨r0_235, k0_pay172 (k0_pay171 (View.ld x0 r0_234))⟩,
    ⟨r0_233, k0_pay170 (View.ld x0 r0_232)⟩,
    ⟨r0_231, k0_pay169 (View.ld x0 r0_230)⟩,
    ⟨r0_229, k0_pay168 (View.ld x0 r0_228)⟩,
    ⟨r0_227, k0_pay167 (k0_pay166 (View.ld x0 r0_226))⟩,
    ⟨r0_225, k0_pay165 (View.ld x0 r0_224)⟩,
    ⟨r0_223, k0_pay164 (View.ld x0 r0_222)⟩,
    ⟨r0_221, k0_pay163 (View.ld x0 r0_220)⟩,
    ⟨r0_219, k0_pay162 (View.ld x0 r0_218)⟩,
    ⟨r0_217, k0_pay161 (View.ld x0 r0_216)⟩,
    ⟨r0_215, k0_pay160 (View.ld x0 r0_214)⟩,
    ⟨r0_213, k0_pay159 (View.ld x0 r0_212)⟩,
    ⟨r0_211, k0_pay158 (View.ld x0 r0_210)⟩,
    ⟨r0_208, k0_pay156 (View.ld x0 r0_207)⟩,
    ⟨r0_205, k0_pay153 (View.ld x0 r0_204)⟩,
    ⟨r0_202, k0_pay150 (View.ld x0 r0_201)⟩,
    ⟨r0_199, k0_pay147 (View.ld x0 r0_198)⟩,
    ⟨r0_196, k0_pay144 (View.ld x0 r0_195)⟩,
    ⟨r0_193, k0_pay141 (k0_pay282 x0)⟩,
    ⟨r0_191, k0_pay139 (View.ld x0 r0_190)⟩,
    ⟨r0_189, k0_pay138 (View.ld x0 r0_188)⟩,
    ⟨r0_187, k0_pay137 (View.ld x0 r0_186)⟩,
    ⟨r0_185, k0_pay136 (k0_pay135 (View.ld x0 r0_184))⟩,
    ⟨r0_183, k0_pay134 (View.ld x0 r0_182)⟩,
    ⟨r0_181, k0_pay133 (View.ld x0 r0_180)⟩,
    ⟨r0_179, k0_pay132 (View.ld x0 r0_178)⟩,
    ⟨r0_177, k0_pay131 (View.ld x0 r0_176)⟩,
    ⟨r0_175, k0_pay130 (View.ld x0 r0_174)⟩,
    ⟨r0_173, k0_pay129 (View.ld x0 r0_172)⟩,
    ⟨r0_171, k0_pay128 (View.ld x0 r0_170)⟩,
    ⟨r0_169, k0_pay127 (View.ld x0 r0_168)⟩,
    ⟨r0_167, k0_pay126 (View.ld x0 r0_166)⟩,
    ⟨r0_165, k0_pay125 (View.ld x0 r0_164)⟩,
    ⟨r0_163, k0_pay124 (View.ld x0 r0_162)⟩,
    ⟨r0_160, k0_pay122 (View.ld x0 r0_159)⟩,
    ⟨r0_157, k0_pay119 (View.ld x0 r0_156)⟩,
    ⟨r0_154, k0_pay116 (View.ld x0 r0_153)⟩,
    ⟨r0_151, k0_pay113 (k0_pay281 x0)⟩,
    ⟨r0_148, k0_pay110 (View.ld x0 r0_147)⟩,
    ⟨r0_145, k0_pay107 (View.ld x0 r0_144)⟩,
    ⟨r0_143, k0_pay105 (k0_pay104 (View.ld x0 r0_142))⟩,
    ⟨r0_141, k0_pay103 (View.ld x0 r0_140)⟩,
    ⟨r0_139, k0_pay102 (View.ld x0 r0_138)⟩,
    ⟨r0_137, k0_pay101 (View.ld x0 r0_136)⟩,
    ⟨r0_135, k0_pay100 (View.ld x0 r0_134)⟩,
    ⟨r0_133, k0_pay99 (View.ld x0 r0_132)⟩,
    ⟨r0_131, k0_pay98 (View.ld x0 r0_130)⟩,
    ⟨r0_129, k0_pay97 (View.ld x0 r0_128)⟩,
    ⟨r0_127, k0_pay96 (View.ld x0 r0_126)⟩,
    ⟨r0_125, k0_pay95 (View.ld x0 r0_124)⟩,
    ⟨r0_123, k0_pay94 (View.ld x0 r0_122)⟩,
    ⟨r0_121, k0_pay93 (View.ld x0 r0_120)⟩,
    ⟨r0_119, k0_pay92 (View.ld x0 r0_118)⟩,
    ⟨r0_117, k0_pay91 (k0_pay90 (View.ld x0 r0_116))⟩,
    ⟨r0_115, k0_pay89 (View.ld x0 r0_114)⟩,
    ⟨r0_112, k0_pay87 (View.ld x0 r0_111)⟩,
    ⟨r0_109, k0_pay84 (k0_pay280 x0)⟩,
    ⟨r0_106, k0_pay81 (View.ld x0 r0_105)⟩,
    ⟨r0_103, k0_pay78 (View.ld x0 r0_102)⟩,
    ⟨r0_100, k0_pay75 (View.ld x0 r0_99)⟩,
    ⟨r0_97, k0_pay72 (View.ld x0 r0_96)⟩,
    ⟨r0_95, k0_pay70 (View.ld x0 r0_94)⟩,
    ⟨r0_93, k0_pay69 (View.ld x0 r0_92)⟩,
    ⟨r0_91, k0_pay68 (View.ld x0 r0_90)⟩,
    ⟨r0_89, k0_pay67 (View.ld x0 r0_88)⟩,
    ⟨r0_87, k0_pay66 (View.ld x0 r0_86)⟩,
    ⟨r0_85, k0_pay65 (View.ld x0 r0_84)⟩,
    ⟨r0_83, k0_pay64 (View.ld x0 r0_82)⟩,
    ⟨r0_81, k0_pay63 (View.ld x0 r0_80)⟩,
    ⟨r0_79, k0_pay62 (View.ld x0 r0_78)⟩,
    ⟨r0_77, k0_pay61 (View.ld x0 r0_76)⟩,
    ⟨r0_75, k0_pay60 (k0_pay59 (View.ld x0 r0_74))⟩,
    ⟨r0_73, k0_pay58 (View.ld x0 r0_72)⟩,
    ⟨r0_71, k0_pay57 (View.ld x0 r0_70)⟩,
    ⟨r0_69, k0_pay56 (View.ld x0 r0_68)⟩,
    ⟨r0_67, k0_pay55 (View.ld x0 r0_66)⟩,
    ⟨r0_64, k0_pay53 (View.ld x0 r0_63)⟩,
    ⟨r0_61, k0_pay50 (View.ld x0 r0_60)⟩,
    ⟨r0_58, k0_pay47 (k0_pay279 x0)⟩,
    ⟨r0_55, k0_pay44 (View.ld x0 r0_54)⟩,
    ⟨r0_52, k0_pay41 (View.ld x0 r0_51)⟩,
    ⟨r0_49, k0_pay38 (View.ld x0 r0_48)⟩,
    ⟨r0_47, k0_pay36 (View.ld x0 r0_46)⟩,
    ⟨r0_45, k0_pay35 (View.ld x0 r0_44)⟩,
    ⟨r0_43, k0_pay34 (View.ld x0 r0_42)⟩,
    ⟨r0_41, k0_pay33 (View.ld x0 r0_40)⟩,
    ⟨r0_39, k0_pay32 (View.ld x0 r0_38)⟩,
    ⟨r0_37, k0_pay31 (View.ld x0 r0_36)⟩,
    ⟨r0_35, k0_pay30 (View.ld x0 r0_34)⟩,
    ⟨r0_33, k0_pay29 (k0_pay28 (View.ld x0 r0_32))⟩,
    ⟨r0_31, k0_pay27 (View.ld x0 r0_30)⟩,
    ⟨r0_29, k0_pay26 (View.ld x0 r0_28)⟩,
    ⟨r0_27, k0_pay25 (View.ld x0 r0_26)⟩,
    ⟨r0_25, k0_pay24 (View.ld x0 r0_24)⟩,
    ⟨r0_23, k0_pay23 (View.ld x0 r0_22)⟩,
    ⟨r0_21, k0_pay22 (View.ld x0 r0_20)⟩,
    ⟨r0_19, k0_pay21 (View.ld x0 r0_18)⟩,
    ⟨r0_16, k0_pay19 (k0_pay278 x0)⟩,
    ⟨r0_13, k0_pay16 (View.ld x0 r0_12)⟩,
    ⟨r0_10, k0_pay13 (View.ld x0 r0_9)⟩,
    ⟨r0_7, k0_pay10 (View.ld x0 r0_6)⟩,
    ⟨r0_4, k0_pay7 (View.ld x0 r0_3)⟩,
    ⟨r0_1, k0_pay4 (View.ld x0 r0_0)⟩]

/-- Its stores tile the buffer (checked by evaluation), so they cover it. -/
theorem cover0_1 (p0 : Vec F S128x1x64 .f32) (p1 : Vec F S128x1x64 .f32) (p2 : Vec F S128x1x64 .f32) (p3 : Vec F S128x1x64 .f32) (p4 : Vec F S128x1x64 .f32) (p5 : Vec F S128x1x64 .f32) (p6 : Vec F S128x1x64 .f32) (p7 : Vec F S128x1x64 .f32) (p8 : Vec F S128x1x64 .f32) (p9 : Vec F S128x1x64 .f32) (p10 : Vec F S128x1x64 .f32) (p11 : Vec F S128x1x64 .f32) (p12 : Vec F S128x1x64 .f32) (p13 : Vec F S128x1x64 .f32) (p14 : Vec F S128x1x64 .f32) (p15 : Vec F S128x1x64 .f32) (p16 : Vec F S128x1x64 .f32) (p17 : Vec F S128x1x64 .f32) (p18 : Vec F S128x1x64 .f32) (p19 : Vec F S128x1x64 .f32) (p20 : Vec F S128x1x64 .f32) (p21 : Vec F S128x1x64 .f32) (p22 : Vec F S128x1x64 .f32) (p23 : Vec F S128x1x64 .f32) (p24 : Vec F S128x1x64 .f32) (p25 : Vec F S128x1x64 .f32) (p26 : Vec F S128x1x64 .f32) (p27 : Vec F S128x1x64 .f32) (p28 : Vec F S128x1x64 .f32) (p29 : Vec F S128x1x64 .f32) (p30 : Vec F S128x1x64 .f32) (p31 : Vec F S128x1x64 .f32) (p32 : Vec F S128x1x64 .f32) (p33 : Vec F S128x1x64 .f32) (p34 : Vec F S128x1x64 .f32) (p35 : Vec F S128x1x64 .f32) (p36 : Vec F S128x1x64 .f32) (p37 : Vec F S128x1x64 .f32) (p38 : Vec F S128x1x64 .f32) (p39 : Vec F S128x1x64 .f32) (p40 : Vec F S128x1x64 .f32) (p41 : Vec F S128x1x64 .f32) (p42 : Vec F S128x1x64 .f32) (p43 : Vec F S128x1x64 .f32) (p44 : Vec F S128x1x64 .f32) (p45 : Vec F S128x1x64 .f32) (p46 : Vec F S128x1x64 .f32) (p47 : Vec F S128x1x64 .f32) (p48 : Vec F S128x1x64 .f32) (p49 : Vec F S128x1x64 .f32) (p50 : Vec F S128x1x64 .f32) (p51 : Vec F S128x1x64 .f32) (p52 : Vec F S128x1x64 .f32) (p53 : Vec F S128x1x64 .f32) (p54 : Vec F S128x1x64 .f32) (p55 : Vec F S128x1x64 .f32) (p56 : Vec F S128x1x64 .f32) (p57 : Vec F S128x1x64 .f32) (p58 : Vec F S128x1x64 .f32) (p59 : Vec F S128x1x64 .f32) (p60 : Vec F S128x1x64 .f32) (p61 : Vec F S128x1x64 .f32) (p62 : Vec F S128x1x64 .f32) (p63 : Vec F S128x1x64 .f32) (p64 : Vec F S128x1x64 .f32) (p65 : Vec F S128x1x64 .f32) (p66 : Vec F S128x1x64 .f32) (p67 : Vec F S128x1x64 .f32) (p68 : Vec F S128x1x64 .f32) (p69 : Vec F S128x1x64 .f32) (p70 : Vec F S128x1x64 .f32) (p71 : Vec F S128x1x64 .f32) (p72 : Vec F S128x1x64 .f32) (p73 : Vec F S128x1x64 .f32) (p74 : Vec F S128x1x64 .f32) (p75 : Vec F S128x1x64 .f32) (p76 : Vec F S128x1x64 .f32) (p77 : Vec F S128x1x64 .f32) (p78 : Vec F S128x1x64 .f32) (p79 : Vec F S128x1x64 .f32) (p80 : Vec F S128x1x64 .f32) (p81 : Vec F S128x1x64 .f32) (p82 : Vec F S128x1x64 .f32) (p83 : Vec F S128x1x64 .f32) (p84 : Vec F S128x1x64 .f32) (p85 : Vec F S128x1x64 .f32) (p86 : Vec F S128x1x64 .f32) (p87 : Vec F S128x1x64 .f32) (p88 : Vec F S128x1x64 .f32) (p89 : Vec F S128x1x64 .f32) (p90 : Vec F S128x1x64 .f32) (p91 : Vec F S128x1x64 .f32) (p92 : Vec F S128x1x64 .f32) (p93 : Vec F S128x1x64 .f32) (p94 : Vec F S128x1x64 .f32) (p95 : Vec F S128x1x64 .f32) (p96 : Vec F S128x1x64 .f32) (p97 : Vec F S128x1x64 .f32) (p98 : Vec F S128x1x64 .f32) (p99 : Vec F S128x1x64 .f32) (p100 : Vec F S128x1x64 .f32) (p101 : Vec F S128x1x64 .f32) (p102 : Vec F S128x1x64 .f32) (p103 : Vec F S128x1x64 .f32) (p104 : Vec F S128x1x64 .f32) (p105 : Vec F S128x1x64 .f32) (p106 : Vec F S128x1x64 .f32) (p107 : Vec F S128x1x64 .f32) (p108 : Vec F S128x1x64 .f32) (p109 : Vec F S128x1x64 .f32) (p110 : Vec F S128x1x64 .f32) (p111 : Vec F S128x1x64 .f32) (p112 : Vec F S128x1x64 .f32) (p113 : Vec F S128x1x64 .f32) (p114 : Vec F S128x1x64 .f32) (p115 : Vec F S128x1x64 .f32) (p116 : Vec F S128x1x64 .f32) (p117 : Vec F S128x1x64 .f32) (p118 : Vec F S128x1x64 .f32) (p119 : Vec F S128x1x64 .f32) (p120 : Vec F S128x1x64 .f32) (p121 : Vec F S128x1x64 .f32) (p122 : Vec F S128x1x64 .f32) (p123 : Vec F S128x1x64 .f32) (p124 : Vec F S128x1x64 .f32) (p125 : Vec F S128x1x64 .f32) (p126 : Vec F S128x1x64 .f32) (p127 : Vec F S128x1x64 .f32) (p128 : Vec F S128x1x64 .f32) (p129 : Vec F S128x1x64 .f32) (p130 : Vec F S128x1x64 .f32) (p131 : Vec F S128x1x64 .f32) (p132 : Vec F S128x1x64 .f32) (p133 : Vec F S128x1x64 .f32) (p134 : Vec F S128x1x64 .f32) (p135 : Vec F S128x1x64 .f32) (p136 : Vec F S128x1x64 .f32) (p137 : Vec F S128x1x64 .f32) (p138 : Vec F S128x1x64 .f32) (p139 : Vec F S128x1x64 .f32) (p140 : Vec F S128x1x64 .f32) (p141 : Vec F S128x1x64 .f32) (p142 : Vec F S128x1x64 .f32) (p143 : Vec F S128x1x64 .f32) (p144 : Vec F S128x1x64 .f32) (p145 : Vec F S128x1x64 .f32) (p146 : Vec F S128x1x64 .f32) (p147 : Vec F S128x1x64 .f32) (p148 : Vec F S128x1x64 .f32) (p149 : Vec F S128x1x64 .f32) (p150 : Vec F S128x1x64 .f32) (p151 : Vec F S128x1x64 .f32) (p152 : Vec F S128x1x64 .f32) (p153 : Vec F S128x1x64 .f32) (p154 : Vec F S128x1x64 .f32) (p155 : Vec F S128x1x64 .f32) (p156 : Vec F S128x1x64 .f32) (p157 : Vec F S128x1x64 .f32) (p158 : Vec F S128x1x64 .f32) (p159 : Vec F S128x1x64 .f32) (p160 : Vec F S128x1x64 .f32) (p161 : Vec F S128x1x64 .f32) (p162 : Vec F S128x1x64 .f32) (p163 : Vec F S128x1x64 .f32) (p164 : Vec F S128x1x64 .f32) (p165 : Vec F S128x1x64 .f32) (p166 : Vec F S128x1x64 .f32) (p167 : Vec F S128x1x64 .f32) (y : S128x168x64.Idx) :
    ∃ pc ∈ ([⟨r0_383, p0⟩, ⟨r0_381, p1⟩, ⟨r0_379, p2⟩, ⟨r0_377, p3⟩, ⟨r0_375, p4⟩, ⟨r0_373, p5⟩, ⟨r0_371, p6⟩, ⟨r0_369, p7⟩, ⟨r0_367, p8⟩, ⟨r0_365, p9⟩, ⟨r0_363, p10⟩, ⟨r0_361, p11⟩, ⟨r0_359, p12⟩, ⟨r0_357, p13⟩, ⟨r0_355, p14⟩, ⟨r0_352, p15⟩, ⟨r0_349, p16⟩, ⟨r0_346, p17⟩, ⟨r0_343, p18⟩, ⟨r0_340, p19⟩, ⟨r0_337, p20⟩, ⟨r0_335, p21⟩, ⟨r0_333, p22⟩, ⟨r0_331, p23⟩, ⟨r0_329, p24⟩, ⟨r0_327, p25⟩, ⟨r0_325, p26⟩, ⟨r0_323, p27⟩, ⟨r0_321, p28⟩, ⟨r0_319, p29⟩, ⟨r0_317, p30⟩, ⟨r0_315, p31⟩, ⟨r0_313, p32⟩, ⟨r0_311, p33⟩, ⟨r0_309, p34⟩, ⟨r0_307, p35⟩, ⟨r0_304, p36⟩, ⟨r0_301, p37⟩, ⟨r0_298, p38⟩, ⟨r0_295, p39⟩, ⟨r0_292, p40⟩, ⟨r0_289, p41⟩, ⟨r0_287, p42⟩, ⟨r0_285, p43⟩, ⟨r0_283, p44⟩, ⟨r0_281, p45⟩, ⟨r0_279, p46⟩, ⟨r0_277, p47⟩, ⟨r0_275, p48⟩, ⟨r0_273, p49⟩, ⟨r0_271, p50⟩, ⟨r0_269, p51⟩, ⟨r0_267, p52⟩, ⟨r0_265, p53⟩, ⟨r0_263, p54⟩, ⟨r0_261, p55⟩, ⟨r0_259, p56⟩, ⟨r0_256, p57⟩, ⟨r0_253, p58⟩, ⟨r0_250, p59⟩, ⟨r0_247, p60⟩, ⟨r0_244, p61⟩, ⟨r0_241, p62⟩, ⟨r0_239, p63⟩, ⟨r0_237, p64⟩, ⟨r0_235, p65⟩, ⟨r0_233, p66⟩, ⟨r0_231, p67⟩, ⟨r0_229, p68⟩, ⟨r0_227, p69⟩, ⟨r0_225, p70⟩, ⟨r0_223, p71⟩, ⟨r0_221, p72⟩, ⟨r0_219, p73⟩, ⟨r0_217, p74⟩, ⟨r0_215, p75⟩, ⟨r0_213, p76⟩, ⟨r0_211, p77⟩, ⟨r0_208, p78⟩, ⟨r0_205, p79⟩, ⟨r0_202, p80⟩, ⟨r0_199, p81⟩, ⟨r0_196, p82⟩, ⟨r0_193, p83⟩, ⟨r0_191, p84⟩, ⟨r0_189, p85⟩, ⟨r0_187, p86⟩, ⟨r0_185, p87⟩, ⟨r0_183, p88⟩, ⟨r0_181, p89⟩, ⟨r0_179, p90⟩, ⟨r0_177, p91⟩, ⟨r0_175, p92⟩, ⟨r0_173, p93⟩, ⟨r0_171, p94⟩, ⟨r0_169, p95⟩, ⟨r0_167, p96⟩, ⟨r0_165, p97⟩, ⟨r0_163, p98⟩, ⟨r0_160, p99⟩, ⟨r0_157, p100⟩, ⟨r0_154, p101⟩, ⟨r0_151, p102⟩, ⟨r0_148, p103⟩, ⟨r0_145, p104⟩, ⟨r0_143, p105⟩, ⟨r0_141, p106⟩, ⟨r0_139, p107⟩, ⟨r0_137, p108⟩, ⟨r0_135, p109⟩, ⟨r0_133, p110⟩, ⟨r0_131, p111⟩, ⟨r0_129, p112⟩, ⟨r0_127, p113⟩, ⟨r0_125, p114⟩, ⟨r0_123, p115⟩, ⟨r0_121, p116⟩, ⟨r0_119, p117⟩, ⟨r0_117, p118⟩, ⟨r0_115, p119⟩, ⟨r0_112, p120⟩, ⟨r0_109, p121⟩, ⟨r0_106, p122⟩, ⟨r0_103, p123⟩, ⟨r0_100, p124⟩, ⟨r0_97, p125⟩, ⟨r0_95, p126⟩, ⟨r0_93, p127⟩, ⟨r0_91, p128⟩, ⟨r0_89, p129⟩, ⟨r0_87, p130⟩, ⟨r0_85, p131⟩, ⟨r0_83, p132⟩, ⟨r0_81, p133⟩, ⟨r0_79, p134⟩, ⟨r0_77, p135⟩, ⟨r0_75, p136⟩, ⟨r0_73, p137⟩, ⟨r0_71, p138⟩, ⟨r0_69, p139⟩, ⟨r0_67, p140⟩, ⟨r0_64, p141⟩, ⟨r0_61, p142⟩, ⟨r0_58, p143⟩, ⟨r0_55, p144⟩, ⟨r0_52, p145⟩, ⟨r0_49, p146⟩, ⟨r0_47, p147⟩, ⟨r0_45, p148⟩, ⟨r0_43, p149⟩, ⟨r0_41, p150⟩, ⟨r0_39, p151⟩, ⟨r0_37, p152⟩, ⟨r0_35, p153⟩, ⟨r0_33, p154⟩, ⟨r0_31, p155⟩, ⟨r0_29, p156⟩, ⟨r0_27, p157⟩, ⟨r0_25, p158⟩, ⟨r0_23, p159⟩, ⟨r0_21, p160⟩, ⟨r0_19, p161⟩, ⟨r0_16, p162⟩, ⟨r0_13, p163⟩, ⟨r0_10, p164⟩, ⟨r0_7, p165⟩, ⟨r0_4, p166⟩, ⟨r0_1, p167⟩] : List (View.Piece (Elt F) S128x168x64 .f32)), y ∈ pc.1.set :=
  View.cover_of_tiled [⟨r0_383, p0⟩, ⟨r0_381, p1⟩, ⟨r0_379, p2⟩, ⟨r0_377, p3⟩, ⟨r0_375, p4⟩, ⟨r0_373, p5⟩, ⟨r0_371, p6⟩, ⟨r0_369, p7⟩, ⟨r0_367, p8⟩, ⟨r0_365, p9⟩, ⟨r0_363, p10⟩, ⟨r0_361, p11⟩, ⟨r0_359, p12⟩, ⟨r0_357, p13⟩, ⟨r0_355, p14⟩, ⟨r0_352, p15⟩, ⟨r0_349, p16⟩, ⟨r0_346, p17⟩, ⟨r0_343, p18⟩, ⟨r0_340, p19⟩, ⟨r0_337, p20⟩, ⟨r0_335, p21⟩, ⟨r0_333, p22⟩, ⟨r0_331, p23⟩, ⟨r0_329, p24⟩, ⟨r0_327, p25⟩, ⟨r0_325, p26⟩, ⟨r0_323, p27⟩, ⟨r0_321, p28⟩, ⟨r0_319, p29⟩, ⟨r0_317, p30⟩, ⟨r0_315, p31⟩, ⟨r0_313, p32⟩, ⟨r0_311, p33⟩, ⟨r0_309, p34⟩, ⟨r0_307, p35⟩, ⟨r0_304, p36⟩, ⟨r0_301, p37⟩, ⟨r0_298, p38⟩, ⟨r0_295, p39⟩, ⟨r0_292, p40⟩, ⟨r0_289, p41⟩, ⟨r0_287, p42⟩, ⟨r0_285, p43⟩, ⟨r0_283, p44⟩, ⟨r0_281, p45⟩, ⟨r0_279, p46⟩, ⟨r0_277, p47⟩, ⟨r0_275, p48⟩, ⟨r0_273, p49⟩, ⟨r0_271, p50⟩, ⟨r0_269, p51⟩, ⟨r0_267, p52⟩, ⟨r0_265, p53⟩, ⟨r0_263, p54⟩, ⟨r0_261, p55⟩, ⟨r0_259, p56⟩, ⟨r0_256, p57⟩, ⟨r0_253, p58⟩, ⟨r0_250, p59⟩, ⟨r0_247, p60⟩, ⟨r0_244, p61⟩, ⟨r0_241, p62⟩, ⟨r0_239, p63⟩, ⟨r0_237, p64⟩, ⟨r0_235, p65⟩, ⟨r0_233, p66⟩, ⟨r0_231, p67⟩, ⟨r0_229, p68⟩, ⟨r0_227, p69⟩, ⟨r0_225, p70⟩, ⟨r0_223, p71⟩, ⟨r0_221, p72⟩, ⟨r0_219, p73⟩, ⟨r0_217, p74⟩, ⟨r0_215, p75⟩, ⟨r0_213, p76⟩, ⟨r0_211, p77⟩, ⟨r0_208, p78⟩, ⟨r0_205, p79⟩, ⟨r0_202, p80⟩, ⟨r0_199, p81⟩, ⟨r0_196, p82⟩, ⟨r0_193, p83⟩, ⟨r0_191, p84⟩, ⟨r0_189, p85⟩, ⟨r0_187, p86⟩, ⟨r0_185, p87⟩, ⟨r0_183, p88⟩, ⟨r0_181, p89⟩, ⟨r0_179, p90⟩, ⟨r0_177, p91⟩, ⟨r0_175, p92⟩, ⟨r0_173, p93⟩, ⟨r0_171, p94⟩, ⟨r0_169, p95⟩, ⟨r0_167, p96⟩, ⟨r0_165, p97⟩, ⟨r0_163, p98⟩, ⟨r0_160, p99⟩, ⟨r0_157, p100⟩, ⟨r0_154, p101⟩, ⟨r0_151, p102⟩, ⟨r0_148, p103⟩, ⟨r0_145, p104⟩, ⟨r0_143, p105⟩, ⟨r0_141, p106⟩, ⟨r0_139, p107⟩, ⟨r0_137, p108⟩, ⟨r0_135, p109⟩, ⟨r0_133, p110⟩, ⟨r0_131, p111⟩, ⟨r0_129, p112⟩, ⟨r0_127, p113⟩, ⟨r0_125, p114⟩, ⟨r0_123, p115⟩, ⟨r0_121, p116⟩, ⟨r0_119, p117⟩, ⟨r0_117, p118⟩, ⟨r0_115, p119⟩, ⟨r0_112, p120⟩, ⟨r0_109, p121⟩, ⟨r0_106, p122⟩, ⟨r0_103, p123⟩, ⟨r0_100, p124⟩, ⟨r0_97, p125⟩, ⟨r0_95, p126⟩, ⟨r0_93, p127⟩, ⟨r0_91, p128⟩, ⟨r0_89, p129⟩, ⟨r0_87, p130⟩, ⟨r0_85, p131⟩, ⟨r0_83, p132⟩, ⟨r0_81, p133⟩, ⟨r0_79, p134⟩, ⟨r0_77, p135⟩, ⟨r0_75, p136⟩, ⟨r0_73, p137⟩, ⟨r0_71, p138⟩, ⟨r0_69, p139⟩, ⟨r0_67, p140⟩, ⟨r0_64, p141⟩, ⟨r0_61, p142⟩, ⟨r0_58, p143⟩, ⟨r0_55, p144⟩, ⟨r0_52, p145⟩, ⟨r0_49, p146⟩, ⟨r0_47, p147⟩, ⟨r0_45, p148⟩, ⟨r0_43, p149⟩, ⟨r0_41, p150⟩, ⟨r0_39, p151⟩, ⟨r0_37, p152⟩, ⟨r0_35, p153⟩, ⟨r0_33, p154⟩, ⟨r0_31, p155⟩, ⟨r0_29, p156⟩, ⟨r0_27, p157⟩, ⟨r0_25, p158⟩, ⟨r0_23, p159⟩, ⟨r0_21, p160⟩, ⟨r0_19, p161⟩, ⟨r0_16, p162⟩, ⟨r0_13, p163⟩, ⟨r0_10, p164⟩, ⟨r0_7, p165⟩, ⟨r0_4, p166⟩, ⟨r0_1, p167⟩] S128x1x64.size (by rfl) y

/-- Window 2's staging buffer after the body, from the input windows' blocks: its 48 stores as pieces, LAST
    FIRST (Lib/Pipeline/FrameBody.lean `View.canon`; the payloads are the skeleton's and the values stated above). -/
def out0_2 (x0 : Vec F S64x21x8x128 .f32) : Vec F S128x8x6x64 .f32 :=
  View.canon [⟨r0_353, k0_pay262 (k0_pay260 (View.ld x0 r0_351))⟩,
    ⟨r0_350, k0_pay259 (View.ld x0 r0_348)⟩,
    ⟨r0_347, k0_pay256 (View.ld x0 r0_345)⟩,
    ⟨r0_344, k0_pay253 (View.ld x0 r0_342)⟩,
    ⟨r0_341, k0_pay250 (View.ld x0 r0_339)⟩,
    ⟨r0_338, k0_pay247 (View.ld x0 r0_336)⟩,
    ⟨r0_305, k0_pay227 (View.ld x0 r0_303)⟩,
    ⟨r0_302, k0_pay224 (k0_pay222 (View.ld x0 r0_300))⟩,
    ⟨r0_299, k0_pay221 (View.ld x0 r0_297)⟩,
    ⟨r0_296, k0_pay218 (View.ld x0 r0_294)⟩,
    ⟨r0_293, k0_pay215 (View.ld x0 r0_291)⟩,
    ⟨r0_290, k0_pay212 (View.ld x0 r0_288)⟩,
    ⟨r0_257, k0_pay192 (View.ld x0 r0_255)⟩,
    ⟨r0_254, k0_pay189 (View.ld x0 r0_252)⟩,
    ⟨r0_251, k0_pay186 (View.ld x0 r0_249)⟩,
    ⟨r0_248, k0_pay183 (View.ld x0 r0_246)⟩,
    ⟨r0_245, k0_pay180 (k0_pay283 x0)⟩,
    ⟨r0_242, k0_pay177 (View.ld x0 r0_240)⟩,
    ⟨r0_209, k0_pay157 (View.ld x0 r0_207)⟩,
    ⟨r0_206, k0_pay154 (View.ld x0 r0_204)⟩,
    ⟨r0_203, k0_pay151 (View.ld x0 r0_201)⟩,
    ⟨r0_200, k0_pay148 (View.ld x0 r0_198)⟩,
    ⟨r0_197, k0_pay145 (View.ld x0 r0_195)⟩,
    ⟨r0_194, k0_pay142 (k0_pay282 x0)⟩,
    ⟨r0_161, k0_pay123 (View.ld x0 r0_159)⟩,
    ⟨r0_158, k0_pay120 (View.ld x0 r0_156)⟩,
    ⟨r0_155, k0_pay117 (View.ld x0 r0_153)⟩,
    ⟨r0_152, k0_pay114 (k0_pay281 x0)⟩,
    ⟨r0_149, k0_pay111 (View.ld x0 r0_147)⟩,
    ⟨r0_146, k0_pay108 (View.ld x0 r0_144)⟩,
    ⟨r0_113, k0_pay88 (View.ld x0 r0_111)⟩,
    ⟨r0_110, k0_pay85 (k0_pay280 x0)⟩,
    ⟨r0_107, k0_pay82 (View.ld x0 r0_105)⟩,
    ⟨r0_104, k0_pay79 (View.ld x0 r0_102)⟩,
    ⟨r0_101, k0_pay76 (k0_pay74 (View.ld x0 r0_99))⟩,
    ⟨r0_98, k0_pay73 (View.ld x0 r0_96)⟩,
    ⟨r0_65, k0_pay54 (View.ld x0 r0_63)⟩,
    ⟨r0_62, k0_pay51 (View.ld x0 r0_60)⟩,
    ⟨r0_59, k0_pay48 (k0_pay279 x0)⟩,
    ⟨r0_56, k0_pay45 (View.ld x0 r0_54)⟩,
    ⟨r0_53, k0_pay42 (View.ld x0 r0_51)⟩,
    ⟨r0_50, k0_pay39 (k0_pay37 (View.ld x0 r0_48))⟩,
    ⟨r0_17, k0_pay20 (k0_pay278 x0)⟩,
    ⟨r0_14, k0_pay17 (View.ld x0 r0_12)⟩,
    ⟨r0_11, k0_pay14 (View.ld x0 r0_9)⟩,
    ⟨r0_8, k0_pay11 (k0_pay9 (View.ld x0 r0_6))⟩,
    ⟨r0_5, k0_pay8 (View.ld x0 r0_3)⟩,
    ⟨r0_2, k0_pay5 (View.ld x0 r0_0)⟩]

/-- Its stores tile the buffer (checked by evaluation), so they cover it. -/
theorem cover0_2 (p0 : Vec F S128x1x1x64 .f32) (p1 : Vec F S128x1x1x64 .f32) (p2 : Vec F S128x1x1x64 .f32) (p3 : Vec F S128x1x1x64 .f32) (p4 : Vec F S128x1x1x64 .f32) (p5 : Vec F S128x1x1x64 .f32) (p6 : Vec F S128x1x1x64 .f32) (p7 : Vec F S128x1x1x64 .f32) (p8 : Vec F S128x1x1x64 .f32) (p9 : Vec F S128x1x1x64 .f32) (p10 : Vec F S128x1x1x64 .f32) (p11 : Vec F S128x1x1x64 .f32) (p12 : Vec F S128x1x1x64 .f32) (p13 : Vec F S128x1x1x64 .f32) (p14 : Vec F S128x1x1x64 .f32) (p15 : Vec F S128x1x1x64 .f32) (p16 : Vec F S128x1x1x64 .f32) (p17 : Vec F S128x1x1x64 .f32) (p18 : Vec F S128x1x1x64 .f32) (p19 : Vec F S128x1x1x64 .f32) (p20 : Vec F S128x1x1x64 .f32) (p21 : Vec F S128x1x1x64 .f32) (p22 : Vec F S128x1x1x64 .f32) (p23 : Vec F S128x1x1x64 .f32) (p24 : Vec F S128x1x1x64 .f32) (p25 : Vec F S128x1x1x64 .f32) (p26 : Vec F S128x1x1x64 .f32) (p27 : Vec F S128x1x1x64 .f32) (p28 : Vec F S128x1x1x64 .f32) (p29 : Vec F S128x1x1x64 .f32) (p30 : Vec F S128x1x1x64 .f32) (p31 : Vec F S128x1x1x64 .f32) (p32 : Vec F S128x1x1x64 .f32) (p33 : Vec F S128x1x1x64 .f32) (p34 : Vec F S128x1x1x64 .f32) (p35 : Vec F S128x1x1x64 .f32) (p36 : Vec F S128x1x1x64 .f32) (p37 : Vec F S128x1x1x64 .f32) (p38 : Vec F S128x1x1x64 .f32) (p39 : Vec F S128x1x1x64 .f32) (p40 : Vec F S128x1x1x64 .f32) (p41 : Vec F S128x1x1x64 .f32) (p42 : Vec F S128x1x1x64 .f32) (p43 : Vec F S128x1x1x64 .f32) (p44 : Vec F S128x1x1x64 .f32) (p45 : Vec F S128x1x1x64 .f32) (p46 : Vec F S128x1x1x64 .f32) (p47 : Vec F S128x1x1x64 .f32) (y : S128x8x6x64.Idx) :
    ∃ pc ∈ ([⟨r0_353, p0⟩, ⟨r0_350, p1⟩, ⟨r0_347, p2⟩, ⟨r0_344, p3⟩, ⟨r0_341, p4⟩, ⟨r0_338, p5⟩, ⟨r0_305, p6⟩, ⟨r0_302, p7⟩, ⟨r0_299, p8⟩, ⟨r0_296, p9⟩, ⟨r0_293, p10⟩, ⟨r0_290, p11⟩, ⟨r0_257, p12⟩, ⟨r0_254, p13⟩, ⟨r0_251, p14⟩, ⟨r0_248, p15⟩, ⟨r0_245, p16⟩, ⟨r0_242, p17⟩, ⟨r0_209, p18⟩, ⟨r0_206, p19⟩, ⟨r0_203, p20⟩, ⟨r0_200, p21⟩, ⟨r0_197, p22⟩, ⟨r0_194, p23⟩, ⟨r0_161, p24⟩, ⟨r0_158, p25⟩, ⟨r0_155, p26⟩, ⟨r0_152, p27⟩, ⟨r0_149, p28⟩, ⟨r0_146, p29⟩, ⟨r0_113, p30⟩, ⟨r0_110, p31⟩, ⟨r0_107, p32⟩, ⟨r0_104, p33⟩, ⟨r0_101, p34⟩, ⟨r0_98, p35⟩, ⟨r0_65, p36⟩, ⟨r0_62, p37⟩, ⟨r0_59, p38⟩, ⟨r0_56, p39⟩, ⟨r0_53, p40⟩, ⟨r0_50, p41⟩, ⟨r0_17, p42⟩, ⟨r0_14, p43⟩, ⟨r0_11, p44⟩, ⟨r0_8, p45⟩, ⟨r0_5, p46⟩, ⟨r0_2, p47⟩] : List (View.Piece (Elt F) S128x8x6x64 .f32)), y ∈ pc.1.set :=
  View.cover_of_tiled [⟨r0_353, p0⟩, ⟨r0_350, p1⟩, ⟨r0_347, p2⟩, ⟨r0_344, p3⟩, ⟨r0_341, p4⟩, ⟨r0_338, p5⟩, ⟨r0_305, p6⟩, ⟨r0_302, p7⟩, ⟨r0_299, p8⟩, ⟨r0_296, p9⟩, ⟨r0_293, p10⟩, ⟨r0_290, p11⟩, ⟨r0_257, p12⟩, ⟨r0_254, p13⟩, ⟨r0_251, p14⟩, ⟨r0_248, p15⟩, ⟨r0_245, p16⟩, ⟨r0_242, p17⟩, ⟨r0_209, p18⟩, ⟨r0_206, p19⟩, ⟨r0_203, p20⟩, ⟨r0_200, p21⟩, ⟨r0_197, p22⟩, ⟨r0_194, p23⟩, ⟨r0_161, p24⟩, ⟨r0_158, p25⟩, ⟨r0_155, p26⟩, ⟨r0_152, p27⟩, ⟨r0_149, p28⟩, ⟨r0_146, p29⟩, ⟨r0_113, p30⟩, ⟨r0_110, p31⟩, ⟨r0_107, p32⟩, ⟨r0_104, p33⟩, ⟨r0_101, p34⟩, ⟨r0_98, p35⟩, ⟨r0_65, p36⟩, ⟨r0_62, p37⟩, ⟨r0_59, p38⟩, ⟨r0_56, p39⟩, ⟨r0_53, p40⟩, ⟨r0_50, p41⟩, ⟨r0_17, p42⟩, ⟨r0_14, p43⟩, ⟨r0_11, p44⟩, ⟨r0_8, p45⟩, ⟨r0_5, p46⟩, ⟨r0_2, p47⟩] S128x1x1x64.size (by rfl) y

/-! ## The body's triple -/

set_option maxHeartbeats 3640000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x21x8x128 .f32) (harg1 : arg1.IsWhole) (arg2 : Memref sig .tc .vmem S128x168x64 .f32) (harg2 : arg2.IsWhole) (arg3 : Memref sig .tc .vmem S128x8x6x64 .f32) (harg3 : arg3.IsWhole)
    (x0 : Vec F S64x21x8x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__pass0_body i arg1 harg1 arg2 harg2 arg3 harg3) K := by
  simp only [cc0__pass0_body_eq_skeleton]; unfold cc0__pass0_body_skel
  simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.Run.Region1.lean ====
/- The second call (the attention layers) at any entry contents: its body run for the first grid point and for the others, what each grid point leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__pass1_body` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, k1_cond1, e0]
    word_cmp
   : ∀ t : Fin grid1.N, cond1_0 (grid1.coords t) ↔ t.val % 32 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 32 := Nat.lt_of_lt_of_eq t.isLt N_1
    have e0 : (grid1.coords t 0).val = t.val / 1 % 32 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an input). -/
theorem liveAt1_9 : ∀ t : Fin cfg1.N, cfg1.idle 9 (grid1.coords t) = false := fun _ => rfl
/-- Window 10 is never idle (an input). -/
theorem liveAt1_10 : ∀ t : Fin cfg1.N, cfg1.idle 10 (grid1.coords t) = false := fun _ => rfl
/-- Window 11 is never idle (an output stored at every point, under no condition). -/
theorem liveAt1_11 : ∀ t : Fin cfg1.N, cfg1.idle 11 (grid1.coords t) = false := fun _ => rfl
/-- Window 12 is never idle (an output stored at every point, under no condition). -/
theorem liveAt1_12 : ∀ t : Fin cfg1.N, cfg1.idle 12 (grid1.coords t) = false := fun _ => rfl
/-- Whether output 13's buffer is FRESH at each position `1 ‥ N` — holds nothing the body stored since the region's entry or the
    last write-back (written back at the point before, or idle there and fresh before it) —, as a bitmask the classifier
    computed, bit `n` for position `n + 1`; position 0 is fresh. `freshTab1_13_step` checks it against the configuration's own
    step point by point and Lib/Pipeline/TableIdle.lean `Cfg.fresh_tab` makes it `Cfg.fresh` (`fresh1_13_eq`). -/
def freshTab1_13 : ℕ → Bool
  | 0 => true
  | n + 1 => (0x80000000 : ℕ).testBit n
theorem freshTab1_13_step : ∀ t : Fin cfg1.N,
    freshTab1_13 (t.val + 1) = ((cfg1.win 13).flush t || (cfg1.idle 13 (cfg1.grid.coords t) && freshTab1_13 t.val)) := by decide +kernel
theorem fresh1_13_eq (t : Fin cfg1.N) : cfg1.fresh 13 t.val = freshTab1_13 t.val :=
  Pipeline.Cfg.fresh_tab cfg1 13 freshTab1_13 rfl freshTab1_13_step t.val (Nat.le_of_lt t.isLt)
/-- At the points of case A the printed configuration (`Cfg.idle`) calls output 13 live: the case stores into it. -/
theorem liveAt1_13_A : ∀ t : Fin cfg1.N, cond1_0 (grid1.coords t) → ¬cond1_1 (grid1.coords t) → cfg1.idle 13 (grid1.coords t) = false := by decide +kernel
/-- At the points of case B the printed configuration (`Cfg.idle`) calls output 13 live: the case stores into it. -/
theorem liveAt1_13_B : ∀ t : Fin cfg1.N, ¬cond1_0 (grid1.coords t) → cond1_1 (grid1.coords t) → cfg1.idle 13 (grid1.coords t) = false := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab1_13`). -/
theorem notFresh1_13_B : ∀ t : Fin cfg1.N, ¬cond1_0 (grid1.coords t) → cond1_1 (grid1.coords t) → cfg1.fresh 13 t.val = false := by
  intro t; rw [fresh1_13_eq t]; revert t; decide +kernel

/-! ## The kernel body on any staging memrefs: a subtype the run finds -/

/-- One staging buffer of output window 11, through which its contents are stated (`View.read_writes_of_cover`: the
    choice does not matter). -/
abbrev VO1_11 : View sig .tc .vmem S5376x64 .f32 := (Memref.whole cc1_stg11_0 : Memref sig .tc .vmem S5376x64 .f32).view
/-- One staging buffer of output window 12, through which its contents are stated (`View.read_writes_of_cover`: the
    choice does not matter). -/
abbrev VO1_12 : View sig .tc .vmem S1536x64 .f32 := (Memref.whole cc1_stg12_0 : Memref sig .tc .vmem S1536x64 .f32).view
/-- One staging buffer of output window 13, through which its contents are stated (`View.read_writes_of_cover`: the
    choice does not matter). -/
abbrev VO1_13 : View sig .tc .vmem S64x2 .f32 := (Memref.whole cc1_stg13_0 : Memref sig .tc .vmem S64x2 .f32).view
/-- Each window's current staging memref at point `t`, spelled as the pipeline passes it (`bodyAt1`), and its wholeness. -/
abbrev ms1_0 (t : Fin cfg1.N) : Memref sig .tc .vmem S5376x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3x64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S3x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S5376x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1536x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S5376x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1536x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S64x2 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S1536x64 .f32 := Memref.whole cc1_scratch0
abbrev scM1_1 : Memref sig .tc .vmem S1536x64 .f32 := Memref.whole cc1_scratch1
abbrev scM1_2 : Memref sig .tc .vmem S1536x64 .f32 := Memref.whole cc1_scratch2
abbrev scM1_3 : Memref sig .tc .vmem S1536x64 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, scM1_3, owns_whole]; try rfl

set_option maxHeartbeats 1460000 in
/-- What the body's stores leave in each output's staging memref, as pieces (last first) IN CASE A (`scf.if` 0 taken, `scf.if` 1 not taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) :
    Σ' (L11 : List (View.Piece (Elt F) S5376x64 .f32)), Σ' (L12 : List (View.Piece (Elt F) S1536x64 .f32)), { L13 : List (View.Piece (Elt F) S64x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc1__pass1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc1__pass1_body_eq_skeleton]; unfold cc1__pass1_body_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- Case A's pieces for output 11 tile its block (1 store of `S5376x64`, checked by the kernel's evaluation: Lib/Ring.lean `Piece.tiledL`, linear in the pieces, through a loop's `@[irreducible]` trip theorem too), so they cover it. -/
theorem cover1_A_11 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (y : S5376x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1 S5376x64.size (by sl_kernel_rfl) y

/-- What case A leaves in output 11's staging buffer: its pieces read back over junk. -/
def out1_A_11 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) : Vec F S5376x64 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1)

/-- Case A's pieces for output 12 tile its block (1 store of `S1536x64`, checked by the kernel's evaluation: Lib/Ring.lean `Piece.tiledL`, linear in the pieces, through a loop's `@[irreducible]` trip theorem too), so they cover it. -/
theorem cover1_A_12 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (y : S1536x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1 S1536x64.size (by sl_kernel_rfl) y

/-- What case A leaves in output 12's staging buffer: its pieces read back over junk. -/
def out1_A_12 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) : Vec F S1536x64 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1)

/-- Case A's pieces for output 13 tile its block (1 store of `S64x2`, checked by the kernel's evaluation: Lib/Ring.lean `Piece.tiledL`, linear in the pieces, through a loop's `@[irreducible]` trip theorem too), so they cover it. -/
theorem cover1_A_13 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (y : S64x2.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1 S64x2.size (by sl_kernel_rfl) y

/-- What case A leaves in output 13's staging buffer: its pieces read back over junk. -/
def out1_A_13 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) : Vec F S64x2 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1)

set_option maxHeartbeats 1464000 in
/-- What the body's stores leave in each output's staging memref, as pieces (last first) IN CASE B (`scf.if` 0 not taken, `scf.if` 1 taken: points 1, 2, … 31: 31 of 32), WITH the
    proof that on whole staging memrefs — the inputs' at their contents, the outputs it reads before covering (13) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) :
    Σ' (L11 : List (View.Piece (Elt F) S5376x64 .f32)), Σ' (L12 : List (View.Piece (Elt F) S1536x64 .f32)), { L13 : List (View.Piece (Elt F) S64x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xo13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc1__pass1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc1__pass1_body_eq_skeleton]; unfold cc1__pass1_body_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- Case B's pieces for output 11 tile its block (1 store of `S5376x64`, checked by the kernel's evaluation: Lib/Ring.lean `Piece.tiledL`, linear in the pieces, through a loop's `@[irreducible]` trip theorem too), so they cover it. -/
theorem cover1_B_11 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) (y : S5376x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).1 S5376x64.size (by sl_kernel_rfl) y

/-- What case B leaves in output 11's staging buffer: its pieces read back over junk. -/
def out1_B_11 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) : Vec F S5376x64 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).1)

/-- Case B's pieces for output 12 tile its block (1 store of `S1536x64`, checked by the kernel's evaluation: Lib/Ring.lean `Piece.tiledL`, linear in the pieces, through a loop's `@[irreducible]` trip theorem too), so they cover it. -/
theorem cover1_B_12 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) (y : S1536x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.1 S1536x64.size (by sl_kernel_rfl) y

/-- What case B leaves in output 12's staging buffer: its pieces read back over junk. -/
def out1_B_12 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) : Vec F S1536x64 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.1)

/-- Case B's pieces for output 13 tile its block (1 store of `S64x2`, checked by the kernel's evaluation: Lib/Ring.lean `Piece.tiledL`, linear in the pieces, through a loop's `@[irreducible]` trip theorem too), so they cover it. -/
theorem cover1_B_13 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) (y : S64x2.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.2.1 S64x2.size (by sl_kernel_rfl) y

/-- What case B leaves in output 13's staging buffer: its pieces read back over junk. -/
def out1_B_13 (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i)
    (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32) : Vec F S64x2 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S5376x64 .f32 × Vec F S1536x64 .f32 × Vec F S64x2 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩))
  | n + 1, hn =>
    if h0 : (n + 1) % 32 = 0 then
      if h1 : 1 ≤ (n + 1) then
        False.elim (by have hN : n + 1 < 32 := lt_of_lt_of_eq hn (show cfg1.N = 32 from N_1); omega)
      else
        (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩))
    else
      if h1 : 1 ≤ (n + 1) then
        (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2)
      else
        False.elim (by have hN : n + 1 < 32 := lt_of_lt_of_eq hn (show cfg1.N = 32 from N_1); omega)

/-- `outsAt1` at a point of case A: that case's contents. -/
theorem outsAt1_A (c : Dev nD) (t : Fin cfg1.N) (h0 : t.val % 32 = 0) (h1 : ¬1 ≤ t.val) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : 1 ≤ t.val) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
    | ⟨12, _⟩ => (outsAt1 V c t.val t.isLt).2.1
    | ⟨13, _⟩ => (outsAt1 V c t.val t.isLt).2.2
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).1 := by dsimp only [dat1]
theorem after1_12 (c : Dev nD) (t : Fin cfg1.N) : (dat1 V c).after 12 t = (outsAt1 V c t.val t.isLt).2.1 := by dsimp only [dat1]
theorem after1_13 (c : Dev nD) (t : Fin cfg1.N) : (dat1 V c).after 13 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- Output 13's contents CARRY through the points that leave it idle: at such a point, its buffer not fresh, the proof data's
    `after` is the point before's (the case there stores nothing into the window and its term says so; a case that stores
    into it is not idle there by `liveAt1_13_κ`) — the hypothesis of Lib/Pipeline/TableIdle.lean `Dat.before_out_traj`. -/
theorem hcarry1_13 (c : Dev nD) : ∀ (t : Fin cfg1.N) (_ : t.val ≠ 0), cfg1.idle 13 (grid1.coords t) = true → cfg1.fresh 13 t.val = false →
    (dat1 V c).after 13 t = (dat1 V c).after 13 ⟨t.val - 1, by omega⟩ := by
  intro t _ hi _
  have hN : t.val < 32 := lt_of_lt_of_eq t.isLt (show cfg1.N = 32 from N_1)
  rw [after1_13, after1_13]
  by_cases h0 : t.val % 32 = 0
  · by_cases h1 : 1 ≤ t.val
    · exfalso; omega
    · rw [liveAt1_13_A t ((hcond1_0 t).mpr h0) (fun h => h1 ((hcond1_1 t).mp h))] at hi
      exact absurd hi Bool.false_ne_true
  · by_cases h1 : 1 ≤ t.val
    · rw [liveAt1_13_B t (fun h => h0 ((hcond1_0 t).mp h)) ((hcond1_1 t).mpr h1)] at hi
      exact absurd hi Bool.false_ne_true
    · exfalso; omega
/-- At a point of case B output 13's current staging buffer holds what the point before left: the buffer is not fresh
    there (`notFresh1_13_B`: stored into since the region's entry or the last write-back, carried through the points that
    leave it idle by `hcarry1_13`; Lib/Pipeline/TableIdle.lean `Dat.before_out_traj`). -/
theorem before1_13_B (c : Dev nD) (t : Fin cfg1.N) (h0 : ¬t.val % 32 = 0) (h1 : 1 ≤ t.val) (d) :
    (dat1 V c).before 13 t d = (outsAt1 V c (t.val - 1) (Nat.lt_of_le_of_lt (Nat.sub_le _ _) t.isLt)).2.2 := by
  rw [Dat.before_out_traj _ 13 rfl (fun _ _ => rfl) (hcarry1_13 V c) t.val t rfl d,
    if_neg (by rw [notFresh1_13_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 3200000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  have hN : t.val < 32 := lt_of_lt_of_eq t.isLt (show cfg1.N = 32 from N_1)
  by_cases h0 : t.val % 32 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [show (dat1 V c).leavesExact 12 t = owns (c : Thread nD τ) (ms1_12 t) fullShare ((dat1 V c).after 12 t) from by
      unfold Dat.leavesExact; rw [liveAt1_12 t], after1_12]
      rw [show (dat1 V c).leavesExact 13 t = owns (c : Thread nD τ) (ms1_13 t) fullShare ((dat1 V c).after 13 t) from by
      unfold Dat.leavesExact; rw [liveAt1_13_A t ((hcond1_0 t).mpr h0) (fun h => h1 ((hcond1_1 t).mp h))], after1_13]
      rw [outsAt1_A V c t h0 h1]
      unfold out1_A_11 out1_A_12 out1_A_13; (try dsimp only)
      iintro ⟨⟨⟨HR0, HR1, HR2, HR3, HR4, HR5, HS0, HS1, HS2, HS3, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      iintro ⟨H0, H1, H2, H3, H4, H5, H6, H7, H8, H9, H10, ⟨%e11, H11⟩, ⟨%e12, H12⟩, ⟨%e13, H13⟩, HS0, HS1, HS2, HS3⟩
      isplitl [HR0 HR1 HR2 HR3 HR4 HR5 HS0 HS1 HS2 HS3 HR10 HR11 HR12 HR13 HR14 HR15 HR16 HR17 HR18 HR19 HR20 HR21 HR22 Hg]
      · isplitl [HR0 HR1 HR2 HR3 HR4 HR5 HS0 HS1 HS2 HS3 HR10 HR11 HR12 HR13 HR14 HR15 HR16 HR17 HR18 HR19 HR20 HR21 HR22]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HS0]
          · iexact HS0
          isplitl [HS1]
          · iexact HS1
          isplitl [HS2]
          · iexact HS2
          isplitl [HS3]
          · iexact HS3
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          iexact HR22
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [show (dat1 V c).leavesExact 12 t = owns (c : Thread nD τ) (ms1_12 t) fullShare ((dat1 V c).after 12 t) from by
      unfold Dat.leavesExact; rw [liveAt1_12 t], after1_12]
      rw [show (dat1 V c).leavesExact 13 t = owns (c : Thread nD τ) (ms1_13 t) fullShare ((dat1 V c).after 13 t) from by
      unfold Dat.leavesExact; rw [liveAt1_13_B t (fun h => h0 ((hcond1_0 t).mp h)) ((hcond1_1 t).mpr h1)], after1_13]
      rw [outsAt1_B V c t h0 h1]
      simp only [before1_13_B V c t h0 h1]
      unfold out1_B_11 out1_B_12 out1_B_13; (try dsimp only)
      iintro ⟨⟨⟨HR0, HR1, HR2, HR3, HR4, HR5, HS0, HS1, HS2, HS3, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, ⟨%e11, H11⟩, ⟨%e12, H12⟩, ⟨%e13, H13⟩, HS0, HS1, HS2, HS3⟩
      isplitl [HR0 HR1 HR2 HR3 HR4 HR5 HS0 HS1 HS2 HS3 HR10 HR11 HR12 HR13 HR14 HR15 HR16 HR17 HR18 HR19 HR20 HR21 HR22 Hg]
      · isplitl [HR0 HR1 HR2 HR3 HR4 HR5 HS0 HS1 HS2 HS3 HR10 HR11 HR12 HR13 HR14 HR15 HR16 HR17 HR18 HR19 HR20 HR21 HR22]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HS0]
          · iexact HS0
          isplitl [HS1]
          · iexact HS1
          isplitl [HS2]
          · iexact HS2
          isplitl [HS3]
          · iexact HS3
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          iexact HR22
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.Run.Region2.lean ====
/- The third call (the normalisation) at any entry contents: its body run, what each grid point leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__pass2_body` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 7, through which its contents are stated (`View.read_writes_of_cover`: the
    choice does not matter). -/
abbrev VO2_7 : View sig .tc .vmem S5376x64 .f32 := (Memref.whole cc2_stg7_0 : Memref sig .tc .vmem S5376x64 .f32).view
/-- Each window's current staging memref at point `t`, spelled as the pipeline passes it (`bodyAt2`), and its wholeness. -/
abbrev ms2_0 (t : Fin cfg2.N) : Memref sig .tc .vmem S5376x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5376x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5376x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5376x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S5376x64 .f32 := win2_7.stage (cfg2.slots t 7)
abbrev hs2_7 (t : Fin cfg2.N) : (ms2_7 t).IsWhole := hstage2_7 ((cfg2.slots t 7).cast nbuf2_7)
/-- The scratch operands: whole scoped buffers of the kernel's own, passed beside the windows. -/
abbrev scM2_0 : Memref sig .tc .vmem S5376x64 .f32 := Memref.whole cc2_scratch0

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1520000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S5376x64 .f32) (harg1 : arg1.IsWhole) (arg2 : Memref sig .tc .vmem S5376x64 .f32) (harg2 : arg2.IsWhole) (arg3 : Memref sig .tc .vmem S5376x64 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S5376x64 .f32) (harg7 : arg7.IsWhole) (arg8 : Memref sig .tc .vmem S5376x64 .f32) (harg8 : arg8.IsWhole) (arg9 : Memref sig .tc .vmem S5376x64 .f32) (harg9 : arg9.IsWhole)
    (x0 : Vec F S5376x64 .f32) (x1 : Vec F S5376x64 .f32) (x2 : Vec F S5376x64 .f32) (x3 : Vec F S64x2 .f32) (x4 : Vec F S64x1 .f32) (x5 : Vec F S64x1 .f32) (x6 : Vec F S5376x64 .f32) :
    { L7 : List (View.Piece (Elt F) S5376x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc2__pass2_body i arg1 harg1 arg2 harg2 arg3 harg3 arg4 harg4 arg5 harg5 arg6 harg6 arg7 harg7 arg8 harg8 arg9 harg9) K } := by
  refine ⟨?_, fun E K => ?run⟩
  case run =>
    simp only [cc2__pass2_body_eq_skeleton]; unfold cc2__pass2_body_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _, _; isplitr; swap; · iexact HS0
    ipureintro; rfl

/-- The run's pieces for output 7 tile its block (1 store of `S5376x64`, checked by the kernel's evaluation: Lib/Ring.lean `Piece.tiledL`, linear in the pieces, through a loop's `@[irreducible]` trip theorem too), so they cover it. -/
theorem cover2_A_7 (c : Dev nD) (i : grid2.Coords) (arg1 : Memref sig .tc .vmem S5376x64 .f32) (harg1 : arg1.IsWhole) (arg2 : Memref sig .tc .vmem S5376x64 .f32) (harg2 : arg2.IsWhole) (arg3 : Memref sig .tc .vmem S5376x64 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S5376x64 .f32) (harg7 : arg7.IsWhole) (arg8 : Memref sig .tc .vmem S5376x64 .f32) (harg8 : arg8.IsWhole) (arg9 : Memref sig .tc .vmem S5376x64 .f32) (harg9 : arg9.IsWhole)
    (x0 : Vec F S5376x64 .f32) (x1 : Vec F S5376x64 .f32) (x2 : Vec F S5376x64 .f32) (x3 : Vec F S64x2 .f32) (x4 : Vec F S64x1 .f32) (x5 : Vec F S64x1 .f32) (x6 : Vec F S5376x64 .f32) (y : S5376x64.Idx) :
    ∃ pc ∈ (kernelRun2_A c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 x0 x1 x2 x3 x4 x5 x6).1 S5376x64.size (by sl_kernel_rfl) y

/-- What the run leaves in output 7's staging buffer: its pieces read back over junk. -/
def out2_A_7 (c : Dev nD) (i : grid2.Coords) (arg1 : Memref sig .tc .vmem S5376x64 .f32) (harg1 : arg1.IsWhole) (arg2 : Memref sig .tc .vmem S5376x64 .f32) (harg2 : arg2.IsWhole) (arg3 : Memref sig .tc .vmem S5376x64 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S5376x64 .f32) (harg7 : arg7.IsWhole) (arg8 : Memref sig .tc .vmem S5376x64 .f32) (harg8 : arg8.IsWhole) (arg9 : Memref sig .tc .vmem S5376x64 .f32) (harg9 : arg9.IsWhole)
    (x0 : Vec F S5376x64 .f32) (x1 : Vec F S5376x64 .f32) (x2 : Vec F S5376x64 .f32) (x3 : Vec F S64x2 .f32) (x4 : Vec F S64x1 .f32) (x5 : Vec F S64x1 .f32) (x6 : Vec F S5376x64 .f32) : Vec F S5376x64 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 x0 x1 x2 x3 x4 x5 x6).1)

/-! ## What the outputs hold after each point -/

/-- What the outputs' staging buffers hold after the body at point `t`: the run's contents at
    the point's memrefs and input blocks. -/
def outsAt2 (c : Dev nD) (t : Fin cfg2.N) : Vec F S5376x64 .f32 :=
  out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (iblk2 V c 0 t) (iblk2 V c 1 t) (iblk2 V c 2 t) (iblk2 V c 3 t) (iblk2 V c 4 t) (iblk2 V c 5 t) (iblk2 V c 6 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  rw [show (dat2 V c).Φ t.castSucc = Pipeline.ΦA spec2 c from rfl, PhiA2_eq]
  unfold outsAt2
  unfold out2_A_7
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%e7, H7⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 c _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Whole

end
-- ==== Proof.Run.Hosts0.lean ====
/- What each stretch of host operations between the calls writes, and that it leaves the arguments alone. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v7]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v8]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_v9, main_v10, main_v11, main_v12, main_v13, main_v14, main_v15, main_v16, main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v17]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v18]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v19, main_v20, main_v21, main_v22, main_v23, main_v24, main_v25]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v27, main_c_3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v28]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_c_4]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps2_3` allocates a buffer. -/
theorem hostOps2_3_fresh : (hostOps2_3 : List (HloOp τ sig (Elt F))).Forall fun op => op.fresh = ∅ := by
  simp only [List.Forall]; repeat' constructor
/-- The reference each operation of `hostOps2_3` writes, in order. -/
abbrev hostOps2_3_W : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v29]
theorem hostOps2_3_writes : (hostOps2_3 : List (HloOp τ sig (Elt F))).Forall fun op => op.writes ⊆ (hostOps2_3_W.map (Proc.devRef (τ := τ) .tc)).toFinset :=
  StableHlo.forall_writes_sub_of_map rfl
/-- `hostOps2_3` writes none of the argument arrays (checked: each argument against each reference it writes). -/
theorem hostOps2_3_args : ∀ a ∈ argRefs, a ∉ hostOps2_3_W := ListAll.forall_mem_of_all_decide (by decide +kernel)

/-- No operation of `hostOps2_4` allocates a buffer. -/
theorem hostOps2_4_fresh : (hostOps2_4 : List (HloOp τ sig (Elt F))).Forall fun op => op.fresh = ∅ := by
  simp only [List.Forall]; repeat' constructor
/-- The reference each operation of `hostOps2_4` writes, in order. -/
abbrev hostOps2_4_W : List (Ref sig .tc) := [main_v30, main_v31, main_v32, main_v33, main_v34, main_v35, main_v36]
theorem hostOps2_4_writes : (hostOps2_4 : List (HloOp τ sig (Elt F))).Forall fun op => op.writes ⊆ (hostOps2_4_W.map (Proc.devRef (τ := τ) .tc)).toFinset :=
  StableHlo.forall_writes_sub_of_map rfl
/-- `hostOps2_4` writes none of the argument arrays (checked: each argument against each reference it writes). -/
theorem hostOps2_4_args : ∀ a ∈ argRefs, a ∉ hostOps2_4_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v38]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Whole

end
-- ==== Proof.Run.Fold0.lean ====
/- The contents of the buffers at every boundary between host stretches and calls. -/
module

public import proofs.«01_k».proof.Proof.Run.Region0
public import proofs.«01_k».proof.Proof.Run.Region1
public import proofs.«01_k».proof.Proof.Run.Region2
public import proofs.«01_k».proof.Proof.Run.Hosts0

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8` (region 1's entry). -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- The same read at the TensorCore's references (what region 1's proof data take). -/
abbrev V11 : (c : Dev nD) → (b : Ref sig .tc) → Buf (Elt F) ((c : Thread nD τ).loc b) := fun c b => W11 m ρ c b
/-- At region 1's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact (dat1 (V11 m ρ) c).withArrays_arrAt launch₀1.sharedIn _ (A_eq1 (V11 m ρ) c) w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- A reference that is none of region 1's OUTPUT arrays keeps its entry contents across it: an input window's
    array is never written back (`Dat.arrAt_in`, `A_eq1`); any other buffer is left as is. -/
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After `hostOps2`. -/
abbrev W13 : Dev nD → Valuation τ sig (Elt F) := fun c => StableHlo.after hostOps2 (W12 m ρ c)
/-- A reference `hostOps2` does not write keeps its contents across it. -/
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a (hostOps2_args a ha)).trans (W12_args m ρ c a ha)
/-- After `hostOps2_1`. -/
abbrev W14 : Dev nD → Valuation τ sig (Elt F) := fun c => StableHlo.after hostOps2_1 (W13 m ρ c)
/-- A reference `hostOps2_1` does not write keeps its contents across it. -/
theorem W14_of (c : Dev nD) (r : Ref sig .tc) (h : r ∉ hostOps2_1_W) : W14 m ρ c (Proc.devRef .tc r) = W13 m ρ c (Proc.devRef .tc r) :=
  StableHlo.after_of_writes_sub hostOps2_1 _ hostOps2_1_writes h
theorem W14_args (c : Dev nD) : ∀ a ∈ argRefs, W14 m ρ c (Proc.devRef .tc a) = m ((c : Thread nD τ).loc a) :=
  fun a ha => (W14_of m ρ c a (hostOps2_1_args a ha)).trans (W13_args m ρ c a ha)
/-- After `hostOps2_2`. -/
abbrev W15 : Dev nD → Valuation τ sig (Elt F) := fun c => StableHlo.after hostOps2_2 (W14 m ρ c)
/-- A reference `hostOps2_2` does not write keeps its contents across it. -/
theorem W15_of (c : Dev nD) (r : Ref sig .tc) (h : r ∉ hostOps2_2_W) : W15 m ρ c (Proc.devRef .tc r) = W14 m ρ c (Proc.devRef .tc r) :=
  StableHlo.after_of_writes_sub hostOps2_2 _ hostOps2_2_writes h
theorem W15_args (c : Dev nD) : ∀ a ∈ argRefs, W15 m ρ c (Proc.devRef .tc a) = m ((c : Thread nD τ).loc a) :=
  fun a ha => (W15_of m ρ c a (hostOps2_2_args a ha)).trans (W14_args m ρ c a ha)
/-- After `hostOps2_3`. -/
abbrev W16 : Dev nD → Valuation τ sig (Elt F) := fun c => StableHlo.after hostOps2_3 (W15 m ρ c)
/-- A reference `hostOps2_3` does not write keeps its contents across it. -/
theorem W16_of (c : Dev nD) (r : Ref sig .tc) (h : r ∉ hostOps2_3_W) : W16 m ρ c (Proc.devRef .tc r) = W15 m ρ c (Proc.devRef .tc r) :=
  StableHlo.after_of_writes_sub hostOps2_3 _ hostOps2_3_writes h
theorem W16_args (c : Dev nD) : ∀ a ∈ argRefs, W16 m ρ c (Proc.devRef .tc a) = m ((c : Thread nD τ).loc a) :=
  fun a ha => (W16_of m ρ c a (hostOps2_3_args a ha)).trans (W15_args m ρ c a ha)
/-- After `hostOps2_4` (region 2's entry). -/
abbrev W17 : Dev nD → Valuation τ sig (Elt F) := fun c => StableHlo.after hostOps2_4 (W16 m ρ c)
/-- A reference `hostOps2_4` does not write keeps its contents across it. -/
theorem W17_of (c : Dev nD) (r : Ref sig .tc) (h : r ∉ hostOps2_4_W) : W17 m ρ c (Proc.devRef .tc r) = W16 m ρ c (Proc.devRef .tc r) :=
  StableHlo.after_of_writes_sub hostOps2_4 _ hostOps2_4_writes h
theorem W17_args (c : Dev nD) : ∀ a ∈ argRefs, W17 m ρ c (Proc.devRef .tc a) = m ((c : Thread nD τ).loc a) :=
  fun a ha => (W17_of m ρ c a (hostOps2_4_args a ha)).trans (W16_args m ρ c a ha)
/-- The same read at the TensorCore's references (what region 2's proof data take). -/
abbrev V17 : (c : Dev nD) → (b : Ref sig .tc) → Buf (Elt F) ((c : Thread nD τ).loc b) := fun c b => W17 m ρ c b
/-- At region 2's exit: its arrays at what the pipeline leaves (the inputs as entered, each output's write-backs
    folded: `Dat.arrAt … N`), every other buffer as entered (Lib/Pipeline/FrameSuffix.lean `withArrays`). -/
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
/-- A reference that is none of region 2's OUTPUT arrays keeps its entry contents across it: an input window's
    array is never written back (`Dat.arrAt_in`, `A_eq2`); any other buffer is left as is. -/
theorem W18_of (c : Dev nD) (r : Ref sig .tc) (h : ∀ w : Fin cfg2.W, Pipeline.arrRef spec2 w = r → (cfg2.win w).isOut = false) :
    W18 m ρ c (Proc.devRef .tc r) = W17 m ρ c (Proc.devRef .tc r) := by
  by_cases hw : ∃ w : Fin cfg2.W, Pipeline.arrRef spec2 w = r
  · obtain ⟨w, rfl⟩ := hw
    exact (W18_arr m ρ c w).trans (((dat2 (V17 m ρ) c).arrAt_in w (h w rfl) _).trans (A_eq2 (V17 m ρ) c w))
  · exact W18_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn2 a ha)).trans (W17_args m ρ c a ha)
/-- The same read at the TensorCore's references (region 2's exit contents). -/
abbrev V18 : (c : Dev nD) → (b : Ref sig .tc) → Buf (Elt F) ((c : Thread nD τ).loc b) := fun c b => W18 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V17 m ρ) c).arrAt w cfg2.N = V18 m ρ c (Pipeline.arrRef spec2 w) :=
  (W18_arr m ρ c w).symm
theorem hrest2 (c : Dev nD) : ∀ b, b ∉ Finset.univ.image (Pipeline.arrRef spec2) → V18 m ρ c b = V17 m ρ c b :=
  fun b hb => W18_of_ne m ρ c b fun w e => hb (Finset.mem_image.mpr ⟨w, Finset.mem_univ _, e⟩)

/-- After `hostOps3`. -/
abbrev W19 : Dev nD → Valuation τ sig (Elt F) := fun c => StableHlo.after hostOps3 (W18 m ρ c)
/-- A reference `hostOps3` does not write keeps its contents across it. -/
theorem W19_of (c : Dev nD) (r : Ref sig .tc) (h : r ∉ hostOps3_W) : W19 m ρ c (Proc.devRef .tc r) = W18 m ρ c (Proc.devRef .tc r) :=
  StableHlo.after_of_writes_sub hostOps3 _ hostOps3_writes h
theorem W19_args (c : Dev nD) : ∀ a ∈ argRefs, W19 m ρ c (Proc.devRef .tc a) = m ((c : Thread nD τ).loc a) :=
  fun a ha => (W19_of m ρ c a (hostOps3_args a ha)).trans (W18_args m ρ c a ha)

/-! ### The arguments end as launched: no host stretch writes one and no region may change one (a region reads it
    through an input window or bypasses it) -/

theorem W19_main_arg0 (c : Dev nD) : W19 m ρ c (Proc.devRef .tc main_arg0) = m ((c : Thread nD τ).loc main_arg0) :=
  W19_args m ρ c main_arg0 (by decide)
theorem W19_main_arg1 (c : Dev nD) : W19 m ρ c (Proc.devRef .tc main_arg1) = m ((c : Thread nD τ).loc main_arg1) :=
  W19_args m ρ c main_arg1 (by decide)
theorem W19_main_arg2 (c : Dev nD) : W19 m ρ c (Proc.devRef .tc main_arg2) = m ((c : Thread nD τ).loc main_arg2) :=
  W19_args m ρ c main_arg2 (by decide)
theorem W19_main_arg3 (c : Dev nD) : W19 m ρ c (Proc.devRef .tc main_arg3) = m ((c : Thread nD τ).loc main_arg3) :=
  W19_args m ρ c main_arg3 (by decide)
theorem W19_main_arg4 (c : Dev nD) : W19 m ρ c (Proc.devRef .tc main_arg4) = m ((c : Thread nD τ).loc main_arg4) :=
  W19_args m ρ c main_arg4 (by decide)
theorem W19_main_arg5 (c : Dev nD) : W19 m ρ c (Proc.devRef .tc main_arg5) = m ((c : Thread nD τ).loc main_arg5) :=
  W19_args m ρ c main_arg5 (by decide)
theorem W19_main_arg6 (c : Dev nD) : W19 m ρ c (Proc.devRef .tc main_arg6) = m ((c : Thread nD τ).loc main_arg6) :=
  W19_args m ρ c main_arg6 (by decide)
theorem W19_main_arg7 (c : Dev nD) : W19 m ρ c (Proc.devRef .tc main_arg7) = m ((c : Thread nD τ).loc main_arg7) :=
  W19_args m ρ c main_arg7 (by decide)
theorem W19_main_arg8 (c : Dev nD) : W19 m ρ c (Proc.devRef .tc main_arg8) = m ((c : Thread nD τ).loc main_arg8) :=
  W19_args m ρ c main_arg8 (by decide)
end Cert.KernelIdeal.Whole

end
-- ==== Proof.Run.State.lean ====
/- The proof data of the three calls and the state that is carried from one to the next. -/
module

public import proofs.«01_k».proof.Proof.Run.Fold0

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
  | ⟨2, _⟩ => fun c => dat2 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W19`, the generator register at some state. -/
abbrev Tₙ (c : Dev nD) : sProp 𝕄 := iprop(StableHlo.held (c : Thread nD τ) (Pipeline.ucRefs τ sig) (W19 m ρ c) ∗ ∃ r, prngReg c r)

end Cert.KernelIdeal.Whole

end
-- ==== Proof.Run.Record0.lean ====
/- The first call as a segment of the run. -/
module

public import proofs.«01_k».proof.Proof.Run.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Run.Record1.lean ====
/- The second call as a segment of the run. -/
module

public import proofs.«01_k».proof.Proof.Run.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W11`, left at `W12`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Run.Record2.lean ====
/- The third call as a segment of the run. -/
module

public import proofs.«01_k».proof.Proof.Run.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W17`, left at `W18`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V17 m ρ c) (A_eq2 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V17 m ρ c) (V18 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Run.Frame.lean ====
/- The run of the whole program: it ends with the arguments unchanged, every counter at zero and every buffer at the last boundary's contents. -/
module

public import proofs.«01_k».proof.Proof.Run.Record0
public import proofs.«01_k».proof.Proof.Run.Record1
public import proofs.«01_k».proof.Proof.Run.Record2

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 19 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .region (reg2 m ρ),
    .host (hseg hostOps3 hostOps3_sub hostOps3_fresh (W18 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN. From any initial memory the program ends on every device with its result array at the last boundary's contents, with
    every argument array as it was, and with every counter at zero. It is the launch rule for several regions at the segments, the
    last thread state read against the final state (`pointsTo_read_all`), each argument by `W19_<arg>`; the only counters the rule
    leaves open are unscoped ones, of which there are none. -/
theorem ends : θ_run defs (onTc (τ := τ) (main (F := F))) ⟨m, fun _ => 0, ρ⟩ (fun r => (∀ c : Dev nD,
      r.2.mem ((c.tc : Thread nD τ).loc main_v38) = W19 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => ⟨(fun c =>
      ⟨(h c _ (mem_uc main_v38 (by decide))),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c)⟩), funext fun g => hz g (.inr (no_unscoped g.2))⟩)

/-- What the run says of the arguments and the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (ends m ρ)

/-- What the run says of the result and the arguments. -/
theorem run : θ_run defs (onTc (τ := τ) (main (F := F))) ⟨m, fun _ => 0, ρ⟩ (fun r => ∀ c : Dev nD,
      r.2.mem ((c.tc : Thread nD τ).loc main_v38) = W19 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h => h.1) (ends m ρ)

end Cert.KernelIdeal.Whole

end
-- ==== Proof.Frames.lean ====
/- The runs end, leaving the arguments and the counters as they were. -/
module

public import proofs.«01_k».proof.Proof.Gen.Kernel
public import proofs.«01_k».proof.Proof.Run.Frame
public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

/-- The idealized kernel's frame, read at the machine's floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

/-- The two programs have the same text. -/
theorem same_text : Cert.quiescent_Kernel (hKernel := Cert.Kernel.Gen.facts) = FrameBits := by chain_rfl

theorem frame_kernel : Cert.quiescent_Kernel (hKernel := Cert.Kernel.Gen.facts) :=
  same_text.mpr fun m ρ _ => Cert.KernelIdeal.Whole.frame (F := Bits) m ρ

theorem frame_ideal : Cert.quiescent_KernelIdeal (hKernelIdeal := Cert.KernelIdeal.Gen.facts) :=
  fun m ρ _ => Cert.KernelIdeal.Whole.frame (F := Ideal) m ρ

theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Pre.lean ====
/- What the precondition says: every element of every argument is a real number. -/
module

public import proofs.«01_k».proof.Pre_finite
public import Idealize.ShloMosaic.Lib.ReduceAll
public import Idealize.ShloMosaic.Lib.Affine
public import Idealize.ShloMosaic.Lib.Decide
public import Idealize.ShloMosaic.PureOps
public import Idealize.ShloMosaic.Lib.Pointwise

@[expose] public section

noncomputable section

namespace Cert.Pre_finite

open Idealize.ShloMosaic

theorem holds : Facts where
  bcast_S_S128x64x64x21 := by decide
  reducesTo_S128x64x64x21_S_d0_1_2_3 := by decide
  h_S_ := by decide
  bcast_S_S3x64x64 := by decide
  reducesTo_S3x64x64_S_d0_1_2 := by decide
  bcast_S_S3x64 := by decide
  reducesTo_S3x64_S_d0_1 := by decide
  bcast_S_S64 := by decide
  reducesTo_S64_S_d0 := by decide

/-- An extended real whose magnitude is below infinity is a real. -/
theorem real_of_lt (a : EReal) (h : max a (-a) < ⊤) : a = (a.toReal : EReal) := by
  refine (EReal.coe_toReal ?_ ?_).symm
  · rintro rfl; simp at h
  · rintro rfl; simp at h

instance : Subsingleton S_.Idx := ⟨fun a b => funext fun i => i.elim0⟩

/-- One argument's part of the precondition: the conjunction over its elements of being below infinity in magnitude. -/
theorem entry {S : Shape} {axes : List (Fin S.rank)} (hb : S_.BroadcastsInDim S (![] : Fin 0 → Fin S.rank))
    (hr : S.ReducesTo axes S_) (hu : 0 < S_.numel) (a : FVec Ideal S .f32) (i : S_.Idx)
    (h : Host.reduce IntOp.andi (cmpf .olt (Host.absf a) (broadcastInDim S ![] hb (constant (F := Ideal) S_ .f32 0x7F800000#32)))
      (constantI S_ 1 1#1) hr hu i = 1#1) (j : S.Idx) : (a j : EReal) = ((a j : EReal).toReal : EReal) := by
  have e := Host.reduce_andi_all _ _ hr hu i h j
  refine real_of_lt _ ?_
  have hc : (FloatOps.cmpf .olt (FloatOps.absf (a j)) (FloatOps.ofBits (F := Ideal) .f32 0x7F800000#32)) = 1#1 := e
  have ht : (FloatOps.ofBits (F := Ideal) .f32 0x7F800000#32 : EReal) = ⊤ := by
    simp [FloatOps.ofBits, Ideal.ofBits, Ideal.ieee]
  rw [Ideal.absf_def, ht] at hc
  by_contra hn
  simp [FloatOps.cmpf, Ideal.cmp, hn] at hc

variable (a0 : FVec Ideal S128x64x64x21 .f32) (a1 a3 : FVec Ideal S3x64x64 .f32) (a2 a4 a5 a6 : FVec Ideal S3x64 .f32)
  (a7 a8 : FVec Ideal S64 .f32)

/-- The precondition makes every element of every argument a real number. -/
theorem reals (h : @fn holds Ideal _ a0 a1 a2 a3 a4 a5 a6 a7 a8 = fun _ => 1#1) :
    (∀ j, (a0 j : EReal) = ((a0 j : EReal).toReal : EReal)) ∧ (∀ j, (a1 j : EReal) = ((a1 j : EReal).toReal : EReal))
    ∧ (∀ j, (a2 j : EReal) = ((a2 j : EReal).toReal : EReal)) ∧ (∀ j, (a3 j : EReal) = ((a3 j : EReal).toReal : EReal))
    ∧ (∀ j, (a4 j : EReal) = ((a4 j : EReal).toReal : EReal)) ∧ (∀ j, (a5 j : EReal) = ((a5 j : EReal).toReal : EReal))
    ∧ (∀ j, (a6 j : EReal) = ((a6 j : EReal).toReal : EReal)) ∧ (∀ j, (a7 j : EReal) = ((a7 j : EReal).toReal : EReal))
    ∧ (∀ j, (a8 j : EReal) = ((a8 j : EReal).toReal : EReal)) := by
  have h0 := congrFun h ix0
  dsimp only [fn, fn_part1, fn_part2] at h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨h0, r1⟩ := IntOp.andi_eq_one.1 h0
  obtain ⟨-, r0⟩ := IntOp.andi_eq_one.1 h0
  exact ⟨entry _ _ _ _ _ r0, entry _ _ _ _ _ r1, entry _ _ _ _ _ r2, entry _ _ _ _ _ r3, entry _ _ _ _ _ r4,
    entry _ _ _ _ _ r5, entry _ _ _ _ _ r6, entry _ _ _ _ _ r7, entry _ _ _ _ _ r8⟩

end Cert.Pre_finite

end
-- ==== Proof.Val.Piece.lean ====
/- Reading a scratch buffer of rows that is written every `q`-th row at a time: what a load of every `q`-th row reads
   after such writes, and what the whole buffer holds. -/
module

public import Idealize.ShloMosaic.Lib.Pipeline.FrameBody
public import Idealize.ShloMosaic.Lib.Pipeline.ValueKit.Basic
public import Idealize.ShloMosaic.Lib.Pointwise
public import Idealize.ShloMosaic.Lib.WholeRead

@[expose] public section

namespace Cert.Rows

open Idealize.ShloMosaic

variable {Val : EltTy → Type} [∀ e, Nonempty (Val e)] {e : EltTy} {N M C : ℕ}

/-- Every `q`-th row of an array, from row `r`. -/
def cut {α : Type} (q r : ℕ) (hb : ∀ g : Fin M, r + q * g.val < N) (P : (⟨2, ![N, C]⟩ : Shape).Idx → α) :
    (⟨2, ![M, C]⟩ : Shape).Idx → α :=
  fun y => P (ix2 ⟨r + q * (y 0).val, hb (y 0)⟩ ⟨(y 1).val, (y 1).isLt⟩)

/-- The rectangle of every `q`-th row from row `r` sends `(g, o)` to row `r + q g`. -/
theorem idx_rows (q r : ℕ) (inb) (y : (⟨2, ![M, C]⟩ : Shape).Idx) (h : r + q * (y 0).val < N) :
    (LoadRect.idx (⟨![r, 0], (⟨2, ![M, C]⟩ : Shape).size, ![q, 1], inb⟩ : LoadRect (⟨2, ![N, C]⟩ : Shape)) y)
      = ix2 ⟨r + q * (y 0).val, h⟩ ⟨(y 1).val, (y 1).isLt⟩ := by
  funext a
  match a with
  | ⟨0, _⟩ => exact Fin.ext rfl
  | ⟨1, _⟩ =>
    refine Fin.ext ?_
    show 0 + 1 * (y 1).val = (y 1).val
    omega

theorem row_lt (q r : ℕ) (inb : ∀ a : Fin 2, (⟨2, ![M, C]⟩ : Shape).size a = 0 ∨ (![r, 0] : Fin 2 → ℕ) a + (![q, 1] : Fin 2 → ℕ) a * ((⟨2, ![M, C]⟩ : Shape).size a - 1) < (⟨2, ![N, C]⟩ : Shape).size a)
    (g : Fin M) : r + q * g.val < N := by
  have hg := g.isLt
  have h := inb 0
  change M = 0 ∨ r + q * (M - 1) < N at h
  rcases h with h | h
  · omega
  · have : q * g.val ≤ q * (M - 1) := Nat.mul_le_mul_left q (by omega)
    omega

variable {sig : RefSig} {κ : Kind} {sp : Space}

theorem canon_hit (q r : ℕ) (inb) (pos) (w : (⟨2, ![M, C]⟩ : Shape).Idx → Val e)
    (L : List (View.Piece Val (⟨2, ![N, C]⟩ : Shape) e)) (n : Fin N) (g : Fin M) (o : Fin C) (h : n.val = r + q * g.val) :
    View.canon ((⟨⟨⟨![r, 0], (⟨2, ![M, C]⟩ : Shape).size, ![q, 1], inb⟩, pos⟩, w⟩ : View.Piece Val (⟨2, ![N, C]⟩ : Shape) e) :: L) (ix2 n o)
      = w (ix2 g o) := by
  have e1 := View.canon_cons_emb (Val := Val) (e := e) (⟨⟨![r, 0], (⟨2, ![M, C]⟩ : Shape).size, ![q, 1], inb⟩, pos⟩ : Rect (⟨2, ![N, C]⟩ : Shape)) w L (ix2 g o)
  rw [← e1]
  congr 1
  have := idx_rows (N := N) (M := M) (C := C) q r inb (ix2 g o) (row_lt q r inb g)
  refine Eq.trans ?_ this.symm
  funext a
  match a with
  | ⟨0, _⟩ => exact Fin.ext h
  | ⟨1, _⟩ => exact Fin.ext rfl

theorem canon_miss (q r : ℕ) (inb) (pos) (w : (⟨2, ![M, C]⟩ : Shape).Idx → Val e)
    (L : List (View.Piece Val (⟨2, ![N, C]⟩ : Shape) e)) (n : Fin N) (o : Fin C) (h : ∀ g : Fin M, n.val ≠ r + q * g.val) :
    View.canon ((⟨⟨⟨![r, 0], (⟨2, ![M, C]⟩ : Shape).size, ![q, 1], inb⟩, pos⟩, w⟩ : View.Piece Val (⟨2, ![N, C]⟩ : Shape) e) :: L) (ix2 n o)
      = View.canon L (ix2 n o) := by
  refine View.canon_cons_of_not_mem _ L fun hm => ?_
  obtain ⟨x, hx⟩ := LoadRect.exists_idx_of_mem _ hm
  have := congrArg (fun i : (⟨2, ![N, C]⟩ : Shape).Idx => (i 0).val) hx
  exact h (x 0) this.symm

/-- A load of the rows last written reads what was written. -/
theorem load_hit (v : View sig κ sp (⟨2, ![N, C]⟩ : Shape) e) (q r : ℕ) (inb inb') (pos) (w : (⟨2, ![M, C]⟩ : Shape).Idx → Val e)
    (L : List (View.Piece Val (⟨2, ![N, C]⟩ : Shape) e)) :
    v.readCov ((⟨⟨⟨![r, 0], (⟨2, ![M, C]⟩ : Shape).size, ![q, 1], inb⟩, pos⟩, w⟩ : View.Piece Val (⟨2, ![N, C]⟩ : Shape) e) :: L)
      ⟨![r, 0], (⟨2, ![M, C]⟩ : Shape).size, ![q, 1], inb'⟩ = w := by
  rw [View.readCov_eq_canon']
  funext y
  exact View.canon_cons_emb (⟨⟨![r, 0], (⟨2, ![M, C]⟩ : Shape).size, ![q, 1], inb⟩, pos⟩ : Rect (⟨2, ![N, C]⟩ : Shape)) w L y

/-- A load of other rows passes over it. -/
theorem load_skip (v : View sig κ sp (⟨2, ![N, C]⟩ : Shape) e) (q r r' : ℕ) (hr : r % q ≠ r' % q) (inb inb') (pos) (w : (⟨2, ![M, C]⟩ : Shape).Idx → Val e)
    (L : List (View.Piece Val (⟨2, ![N, C]⟩ : Shape) e)) :
    v.readCov ((⟨⟨⟨![r', 0], (⟨2, ![M, C]⟩ : Shape).size, ![q, 1], inb⟩, pos⟩, w⟩ : View.Piece Val (⟨2, ![N, C]⟩ : Shape) e) :: L)
      ⟨![r, 0], (⟨2, ![M, C]⟩ : Shape).size, ![q, 1], inb'⟩
      = v.readCov L ⟨![r, 0], (⟨2, ![M, C]⟩ : Shape).size, ![q, 1], inb'⟩ := by
  rw [View.readCov_eq_canon', View.readCov_eq_canon']
  funext y
  rw [idx_rows (N := N) q r inb' y (row_lt q r inb' (y 0))]
  refine canon_miss q r' inb pos w L _ _ fun g hg => hr ?_
  have := congrArg (· % q) hg
  simpa [Nat.add_mul_mod_self_left] using this

/-- A load of every `q`-th row of a buffer last written whole. -/
theorem load_whole (v : View sig κ sp (⟨2, ![N, C]⟩ : Shape) e) (q r : ℕ) (inb0) (inb') (P : (⟨2, ![N, C]⟩ : Shape).Idx → Val e)
    (L : List (View.Piece Val (⟨2, ![N, C]⟩ : Shape) e)) :
    v.readCov ((⟨Rect.unit ![0, 0] (⟨2, ![N, C]⟩ : Shape).size inb0, P⟩ : View.Piece Val (⟨2, ![N, C]⟩ : Shape) e) :: L)
      ⟨![r, 0], (⟨2, ![M, C]⟩ : Shape).size, ![q, 1], inb'⟩ = cut q r (row_lt q r inb') P := by
  rw [View.readCov_eq_canon']
  funext y
  have h0 : ∀ a, (![0, 0] : Fin 2 → ℕ) a = 0 := fun a => by
    match a with
    | ⟨0, _⟩ => rfl
    | ⟨1, _⟩ => rfl
  have := View.canon_cons_unit_lit (Val := Val) (S := (⟨2, ![N, C]⟩ : Shape)) (e := e) (off := ![0, 0]) inb0 P L h0
  rw [this, idx_rows (N := N) q r inb' y (row_lt q r inb' (y 0))]
  rfl

theorem idx_whole (inb) (n : Fin N) (o : Fin C) :
    (Rect.unit (s := (⟨2, ![N, C]⟩ : Shape)) ![0, 0] (⟨2, ![N, C]⟩ : Shape).size inb).toLoadRect.idx (ix2 n o) = ix2 n o := by
  funext a
  match a with
  | ⟨0, _⟩ => exact Fin.ext (by show 0 + 1 * n.val = n.val; omega)
  | ⟨1, _⟩ => exact Fin.ext (by show 0 + 1 * o.val = o.val; omega)

theorem load_whole_apply (v : View sig κ sp (⟨2, ![N, C]⟩ : Shape) e) (inb) (L : List (View.Piece Val (⟨2, ![N, C]⟩ : Shape) e))
    (n : Fin N) (o : Fin C) :
    v.readCov L (Rect.unit (s := (⟨2, ![N, C]⟩ : Shape)) ![0, 0] (⟨2, ![N, C]⟩ : Shape).size inb).toLoadRect (ix2 n o)
      = View.canon L (ix2 n o) := by
  rw [View.readCov_eq_canon']
  exact congrArg (View.canon L) (idx_whole inb n o)

/-- A load of a whole buffer of rows. -/
theorem read_whole {m : Memref sig κ sp (⟨2, ![N, C]⟩ : Shape) e} (h : m.IsWhole) (X : (⟨2, ![N, C]⟩ : Shape).Idx → Val e) (inb) :
    View.readAt Val m.view (Rect.unit (s := (⟨2, ![N, C]⟩ : Shape)) ![0, 0] (⟨2, ![N, C]⟩ : Shape).size inb).toLoadRect (h.unread X) = X := by
  funext y
  refine (h.readAt_unread X _ y).trans (congrArg X ?_)
  have := idx_whole (N := N) (C := C) inb (y 0) (y 1)
  rwa [← eq_ix2] at this

end Cert.Rows
-- ==== Proof.Val.Out0.lean ====
/- What the first call's body leaves in its two outputs: the block's features moved to the last axis. -/
module

public import proofs.«01_k».proof.Proof.Run.Region0
public import proofs.«01_k».proof.Proof.Val.Piece
public import Idealize.ShloMosaic.Lib.Pipeline.ValueKit.Tiles
public import Idealize.ShloMosaic.Lib.Pointwise

@[expose] public section

set_option maxRecDepth 16384

noncomputable section

namespace Cert.KernelIdeal.Whole

open Cert.KernelIdeal Cert.KernelIdeal.Gen Idealize.ShloMosaic

variable {F : FTy → Type} [FloatOps F]

/-- Row `s` of a block of rows: time `s / 21`, joint `s % 21`. -/
def joint (s : Fin 168) : Fin 21 := ⟨s.val % 21, Nat.mod_lt _ (by norm_num)⟩
def time (s : Fin 168) : Fin 8 := ⟨s.val / 21, by have := s.isLt; omega⟩

def moved (x : Vec F S64x21x8x128 .f32) : Vec F S128x168x64 .f32 := fun y => x (ix4 (y 2) (joint (y 1)) (time (y 1)) (y 0))

def movedS (x : Vec F S64x21x8x128 .f32) : Vec F S128x8x6x64 .f32 := fun y => x (ix4 (y 3) ⟨(y 2).val, lt_trans (y 2).isLt (by decide)⟩ (y 1) (y 0))

theorem tile1 (x : Vec F S64x21x8x128 .f32) (y : S128x168x64.Idx) (k v t : ℕ) (hk : k = t * 21 + v) (hv : v < 21)
    (inb : ∀ a, ![0, v, t, 0] a + ![64, 1, 1, 128] a ≤ S64x21x8x128.size a) :
    View.TileAt (S := S128x168x64) (Val := Elt F) (e := .f32) y ![0, k, 0] ![128, 1, 64]
      (shapeCast S128x1x64 (transpose S128x64 [1, 0] (shapeCast S64x128 (View.ld x (Rect.unit (s := S64x21x8x128) ![0, v, t, 0] ![64, 1, 1, 128] inb))
        shapeCasts_S64x1x1x128_S64x128) transposes_S64x128_p1_0_S128x64) shapeCasts_S128x64_S128x1x64) (moved x y) := by
  tile_intro z h
  have ez : z = ix3 (z 0) (z 1) (z 2) := by
    funext a
    fin_cases a <;> rfl
  rw [ez]
  pointwise
  have e0 : y 0 = z 0 := Fin.ext h0
  have e2 : y 2 = z 2 := Fin.ext h2
  have ej : joint (y 1) = ⟨v, hv⟩ := Fin.ext (by show (y 1).val % 21 = v; omega)
  have et : (time (y 1)).val = t := by show (y 1).val / 21 = t; omega
  unfold moved
  rw [ej, e0, e2]
  congr 2
  exact Fin.ext et.symm

theorem tile2 (x : Vec F S64x21x8x128 .f32) (y : S128x8x6x64.Idx) (v t : ℕ)
    (inb : ∀ a, ![0, v, t, 0] a + ![64, 1, 1, 128] a ≤ S64x21x8x128.size a) :
    View.TileAt (S := S128x8x6x64) (Val := Elt F) (e := .f32) y ![0, t, v, 0] ![128, 1, 1, 64]
      (shapeCast S128x1x1x64 (transpose S128x64 [1, 0] (shapeCast S64x128 (View.ld x (Rect.unit (s := S64x21x8x128) ![0, v, t, 0] ![64, 1, 1, 128] inb))
        shapeCasts_S64x1x1x128_S64x128) transposes_S64x128_p1_0_S128x64) shapeCasts_S128x64_S128x1x1x64) (movedS x y) := by
  tile_intro z h
  have ez : z = ix4 (z 0) (z 1) (z 2) (z 3) := by
    funext a
    fin_cases a <;> rfl
  rw [ez]
  pointwise
  have e0 : y 0 = z 0 := Fin.ext h0
  have e3 : y 3 = z 3 := Fin.ext h3
  unfold movedS
  rw [e0, e3]
  congr 2
  · exact Fin.ext (show v = (y 2).val by omega)
  · exact Fin.ext (show t = (y 1).val by omega)

theorem out0_1_eq (x : Vec F S64x21x8x128 .f32) : out0_1 x = moved x := by
  funext y
  refine View.canon_eq_of_allAt _ y _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (tile1 x y 167 20 7 rfl (by norm_num) _) ?_
  refine View.allAt_cons_unit _ _ _ _ _ (tile1 x y 166 19 7 rfl (by norm_num) _) ?_
  refine View.allAt_cons_unit _ _ _ _ _ (tile1 x y 165 18 7 rfl (by norm_num) _) ?_
  refine View.allAt_cons_unit _ _ _ _ _ (tile1 x y 164 17 7 rfl (by norm_num) _) ?_
  refine View.allAt_cons_unit _ _ _ _ _ (tile1 x y 163 16 7 rfl (by norm_num) _) ?_
  refine View.allAt_cons_unit _ _ _ _ _ (tile1 x y 162 15 7 rfl (by norm_num) _) ?_
  refine View.allAt_cons_unit _ _ _ _ _ (tile1 x y 161 14 7 rfl (by norm_num) _) ?_
  refine View.allAt_cons_unit _ _ _ _ _ (tile1 x y 160 13 7 rfl (by norm_num) _) ?_
  refine View.allAt_cons_unit _ _ _ _ _ (tile1 x y 159 12 7 rfl (by norm_num) _) ?_
  refine View.allAt_cons_unit _ _ _ _ _ (tile1 x y 158 11 7 rfl (by norm_num) _) ?_
  refine View.allAt_cons_unit _ _ _ _ _ (tile1 x y 157 10 7 rfl (by norm_num) _) ?_
  refine View.allAt_cons_unit _ _ _ _ _ (tile1 x y 156 9 7 rfl (by norm_num) _) ?_
  refine View.allAt_cons_unit _ _ _ _ _ (tile1 x y 155 8 7 rfl (by norm_num) _) ?_
  refine View.allAt_cons_unit _ _ _ _ _ (tile1 x y 154 7 7 rfl (by norm_num) _) ?_
  refine View.allAt_cons_unit _ _ _ _ _ (tile1 x y 153 6 7 rfl (by norm_num) _) ?_
  refine View.allAt_cons_unit _ _ _ _ _ (tile1 x y 152 5 7 rfl (by norm_num) _) ?_
  refine View.allAt_cons_unit _ _ _ _ _ (tile1 x y 151 4 7 rfl (by norm_num) _) ?_
  refine View.allAt_cons_unit _ _ _ _ _ (tile1 x y 150 3 7 rfl (by norm_num) _) ?_
  refine View.allAt_cons_unit _ _ _ _ _ (tile1 x y 149 2 7 rfl (by norm_num) _) ?_
  refine View.allAt_cons_unit _ _ _ _ _ (tile1 x y 148 1 7 rfl (by norm_num) _) ?_
  refine View.allAt_cons_unit _ _ _ _ _ (tile1 x y 147 0 7 rfl (by norm_num) _) ?_
  refine View.allAt_cons_unit _ _ _ _ _ (tile1 x y 146 20 6 rfl (by norm_num) _) ?_
  refine View.allAt_cons_unit _ _ _ _ _ (tile1 x y 145 19 6 rfl (by norm_num) _) ?_
  refine View.allAt_cons_unit _ _ _ _ _ (tile1 x y 144 18 6 rfl (by norm_num) _) ?_
  refine View.allAt_cons_unit _ _ _ _ _ (tile1 x y 143 17 6 rfl (by norm_num) _) ?_
  refine View.allAt_cons_unit _ _ _ _ _ (tile1 x y 142 16 6 rfl (by norm_num) _) ?_
  refine View.allAt_cons_unit _ _ _ _ _ (tile1 x y 141 15 6 rfl (by norm_num) _) ?_
  refine View.allAt_cons_unit _ _ _ _ _ (tile1 x y 140 14 6 rfl (by norm_num) _) ?_
  refine View.allAt_cons_unit _ _ _ _ _ (tile1 x y 139 13 6 rfl (by norm_num) _) ?_
  refine View.allAt_cons_unit _ _ _ _ _ (tile1 x y 138 12 6 rfl (by norm_num) _) ?_
  refine View.allAt_cons_unit _ _ _ _ _ (tile1 x y 137 11 6 rfl (by norm_num) _) ?_
  refine View.allAt_cons_unit _ _ _ _ _ (tile1 x y 136 10 6 rfl (by norm_num) _) ?_
  refine View.allAt_cons_unit _ _ _ _ _ (tile1 x y 135 9 6 rfl (by norm_num) _) ?_
  refine View.allAt_cons_unit _ _ _ _ _ (tile1 x y 134 8 6 rfl (by norm_num) _) ?_
  refine View.allAt_cons_unit _ _ _ _ _ (tile1 x y 133 7 6 rfl (by norm_num) _) ?_
  refine View.allAt_cons_unit _ _ _ _ _ (tile1 x y 132 6 6 rfl (by norm_num) _) ?_
  refine View.allAt_cons_unit _ _ _ _ _ (tile1 x y 131 5 6 rfl (by norm_num) _) ?_
  refine View.allAt_cons_unit _ _ _ _ _ (tile1 x y 130 4 6 rfl (by norm_num) _) ?_
  refine View.allAt_cons_unit _ _ _ _ _ (tile1 x y 129 3 6 rfl (by norm_num) _) ?_
  refine View.allAt_cons_unit _ _ _ _ _ (tile1 x y 128 2 6 rfl (by norm_num) _) ?_
  refine View.allAt_cons_unit _ _ _ _ _ (tile1 x y 127 1 6 rfl (by norm_num) _) ?_
  refine View.allAt_cons_unit _ _ _ _ _ (tile1 x y 126 0 6 rfl (by norm_num) _) ?_
  refine View.allAt_cons_unit _ _ _ _ _ (tile1 x y 125 20 5 rfl (by norm_num) _) ?_
  refine View.allAt_cons_unit _ _ _ _ _ (tile1 x y 124 19 5 rfl (by norm_num) _) ?_
  refine View.allAt_cons_unit _ _ _ _ _ (tile1 x y 123 18 5 rfl (by norm_num) _) ?_
  refine View.allAt_cons_unit _ _ _ _ _ (tile1 x y 122 17 5 rfl (by norm_num) _) ?_
  refine View.allAt_cons_unit _ _ _ _ _ (tile1 x y 121 16 5 rfl (by norm_num) _) ?_
  refine View.allAt_cons_unit _ _ _ _ _ (tile1 x y 120 15 5 rfl (by norm_num) _) ?_
  refine View.allAt_cons_unit _ _ _ _ _ (tile1 x y 119 14 5 rfl (by norm_num) _) ?_
  refine View.allAt_cons_unit _ _ _ _ _ (tile1 x y 118 13 5 rfl (by norm_num) _) ?_
  refine View.allAt_cons_unit _ _ _ _ _ (tile1 x y 117 12 5 rfl (by norm_num) _) ?_
  refine View.allAt_cons_unit _ _ _ _ _ (tile1 x y 116 11 5 rfl (by norm_num) _) ?_
  refine View.allAt_cons_unit _ _ _ _ _ (tile1 x y 115 10 5 rfl (by norm_num) _) ?_
  refine View.allAt_cons_unit _ _ _ _ _ (tile1 x y 114 9 5 rfl (by norm_num) _) ?_
  refine View.allAt_cons_unit _ _ _ _ _ (tile1 x y 113 8 5 rfl (by norm_num) _) ?_
  refine View.allAt_cons_unit _ _ _ _ _ (tile1 x y 112 7 5 rfl (by norm_num) _) ?_
  refine View.allAt_cons_unit _ _ _ _ _ (tile1 x y 111 6 5 rfl (by norm_num) _) ?_
  refine View.allAt_cons_unit _ _ _ _ _ (tile1 x y 110 5 5 rfl (by norm_num) _) ?_
  refine View.allAt_cons_unit _ _ _ _ _ (tile1 x y 109 4 5 rfl (by norm_num) _) ?_
  refine View.allAt_cons_unit _ _ _ _ _ (tile1 x y 108 3 5 rfl (by norm_num) _) ?_
  refine View.allAt_cons_unit _ _ _ _ _ (tile1 x y 107 2 5 rfl (by norm_num) _) ?_
  refine View.allAt_cons_unit _ _ _ _ _ (tile1 x y 106 1 5 rfl (by norm_num) _) ?_
  refine View.allAt_cons_unit _ _ _ _ _ (tile1 x y 105 0 5 rfl (by norm_num) _) ?_
  refine View.allAt_cons_unit _ _ _ _ _ (tile1 x y 104 20 4 rfl (by norm_num) _) ?_
  refine View.allAt_cons_unit _ _ _ _ _ (tile1 x y 103 19 4 rfl (by norm_num) _) ?_
  refine View.allAt_cons_unit _ _ _ _ _ (tile1 x y 102 18 4 rfl (by norm_num) _) ?_
  refine View.allAt_cons_unit _ _ _ _ _ (tile1 x y 101 17 4 rfl (by norm_num) _) ?_
  refine View.allAt_cons_unit _ _ _ _ _ (tile1 x y 100 16 4 rfl (by norm_num) _) ?_
  refine View.allAt_cons_unit _ _ _ _ _ (tile1 x y 99 15 4 rfl (by norm_num) _) ?_
  refine View.allAt_cons_unit _ _ _ _ _ (tile1 x y 98 14 4 rfl (by norm_num) _) ?_
  refine View.allAt_cons_unit _ _ _ _ _ (tile1 x y 97 13 4 rfl (by norm_num) _) ?_
  refine View.allAt_cons_unit _ _ _ _ _ (tile1 x y 96 12 4 rfl (by norm_num) _) ?_
  refine View.allAt_cons_unit _ _ _ _ _ (tile1 x y 95 11 4 rfl (by norm_num) _) ?_
  refine View.allAt_cons_unit _ _ _ _ _ (tile1 x y 94 10 4 rfl (by norm_num) _) ?_
  refine View.allAt_cons_unit _ _ _ _ _ (tile1 x y 93 9 4 rfl (by norm_num) _) ?_
  refine View.allAt_cons_unit _ _ _ _ _ (tile1 x y 92 8 4 rfl (by norm_num) _) ?_
  refine View.allAt_cons_unit _ _ _ _ _ (tile1 x y 91 7 4 rfl (by norm_num) _) ?_
  refine View.allAt_cons_unit _ _ _ _ _ (tile1 x y 90 6 4 rfl (by norm_num) _) ?_
  refine View.allAt_cons_unit _ _ _ _ _ (tile1 x y 89 5 4 rfl (by norm_num) _) ?_
  refine View.allAt_cons_unit _ _ _ _ _ (tile1 x y 88 4 4 rfl (by norm_num) _) ?_
  refine View.allAt_cons_unit _ _ _ _ _ (tile1 x y 87 3 4 rfl (by norm_num) _) ?_
  refine View.allAt_cons_unit _ _ _ _ _ (tile1 x y 86 2 4 rfl (by norm_num) _) ?_
  refine View.allAt_cons_unit _ _ _ _ _ (tile1 x y 85 1 4 rfl (by norm_num) _) ?_
  refine View.allAt_cons_unit _ _ _ _ _ (tile1 x y 84 0 4 rfl (by norm_num) _) ?_
  refine View.allAt_cons_unit _ _ _ _ _ (tile1 x y 83 20 3 rfl (by norm_num) _) ?_
  refine View.allAt_cons_unit _ _ _ _ _ (tile1 x y 82 19 3 rfl (by norm_num) _) ?_
  refine View.allAt_cons_unit _ _ _ _ _ (tile1 x y 81 18 3 rfl (by norm_num) _) ?_
  refine View.allAt_cons_unit _ _ _ _ _ (tile1 x y 80 17 3 rfl (by norm_num) _) ?_
  refine View.allAt_cons_unit _ _ _ _ _ (tile1 x y 79 16 3 rfl (by norm_num) _) ?_
  refine View.allAt_cons_unit _ _ _ _ _ (tile1 x y 78 15 3 rfl (by norm_num) _) ?_
  refine View.allAt_cons_unit _ _ _ _ _ (tile1 x y 77 14 3 rfl (by norm_num) _) ?_
  refine View.allAt_cons_unit _ _ _ _ _ (tile1 x y 76 13 3 rfl (by norm_num) _) ?_
  refine View.allAt_cons_unit _ _ _ _ _ (tile1 x y 75 12 3 rfl (by norm_num) _) ?_
  refine View.allAt_cons_unit _ _ _ _ _ (tile1 x y 74 11 3 rfl (by norm_num) _) ?_
  refine View.allAt_cons_unit _ _ _ _ _ (tile1 x y 73 10 3 rfl (by norm_num) _) ?_
  refine View.allAt_cons_unit _ _ _ _ _ (tile1 x y 72 9 3 rfl (by norm_num) _) ?_
  refine View.allAt_cons_unit _ _ _ _ _ (tile1 x y 71 8 3 rfl (by norm_num) _) ?_
  refine View.allAt_cons_unit _ _ _ _ _ (tile1 x y 70 7 3 rfl (by norm_num) _) ?_
  refine View.allAt_cons_unit _ _ _ _ _ (tile1 x y 69 6 3 rfl (by norm_num) _) ?_
  refine View.allAt_cons_unit _ _ _ _ _ (tile1 x y 68 5 3 rfl (by norm_num) _) ?_
  refine View.allAt_cons_unit _ _ _ _ _ (tile1 x y 67 4 3 rfl (by norm_num) _) ?_
  refine View.allAt_cons_unit _ _ _ _ _ (tile1 x y 66 3 3 rfl (by norm_num) _) ?_
  refine View.allAt_cons_unit _ _ _ _ _ (tile1 x y 65 2 3 rfl (by norm_num) _) ?_
  refine View.allAt_cons_unit _ _ _ _ _ (tile1 x y 64 1 3 rfl (by norm_num) _) ?_
  refine View.allAt_cons_unit _ _ _ _ _ (tile1 x y 63 0 3 rfl (by norm_num) _) ?_
  refine View.allAt_cons_unit _ _ _ _ _ (tile1 x y 62 20 2 rfl (by norm_num) _) ?_
  refine View.allAt_cons_unit _ _ _ _ _ (tile1 x y 61 19 2 rfl (by norm_num) _) ?_
  refine View.allAt_cons_unit _ _ _ _ _ (tile1 x y 60 18 2 rfl (by norm_num) _) ?_
  refine View.allAt_cons_unit _ _ _ _ _ (tile1 x y 59 17 2 rfl (by norm_num) _) ?_
  refine View.allAt_cons_unit _ _ _ _ _ (tile1 x y 58 16 2 rfl (by norm_num) _) ?_
  refine View.allAt_cons_unit _ _ _ _ _ (tile1 x y 57 15 2 rfl (by norm_num) _) ?_
  refine View.allAt_cons_unit _ _ _ _ _ (tile1 x y 56 14 2 rfl (by norm_num) _) ?_
  refine View.allAt_cons_unit _ _ _ _ _ (tile1 x y 55 13 2 rfl (by norm_num) _) ?_
  refine View.allAt_cons_unit _ _ _ _ _ (tile1 x y 54 12 2 rfl (by norm_num) _) ?_
  refine View.allAt_cons_unit _ _ _ _ _ (tile1 x y 53 11 2 rfl (by norm_num) _) ?_
  refine View.allAt_cons_unit _ _ _ _ _ (tile1 x y 52 10 2 rfl (by norm_num) _) ?_
  refine View.allAt_cons_unit _ _ _ _ _ (tile1 x y 51 9 2 rfl (by norm_num) _) ?_
  refine View.allAt_cons_unit _ _ _ _ _ (tile1 x y 50 8 2 rfl (by norm_num) _) ?_
  refine View.allAt_cons_unit _ _ _ _ _ (tile1 x y 49 7 2 rfl (by norm_num) _) ?_
  refine View.allAt_cons_unit _ _ _ _ _ (tile1 x y 48 6 2 rfl (by norm_num) _) ?_
  refine View.allAt_cons_unit _ _ _ _ _ (tile1 x y 47 5 2 rfl (by norm_num) _) ?_
  refine View.allAt_cons_unit _ _ _ _ _ (tile1 x y 46 4 2 rfl (by norm_num) _) ?_
  refine View.allAt_cons_unit _ _ _ _ _ (tile1 x y 45 3 2 rfl (by norm_num) _) ?_
  refine View.allAt_cons_unit _ _ _ _ _ (tile1 x y 44 2 2 rfl (by norm_num) _) ?_
  refine View.allAt_cons_unit _ _ _ _ _ (tile1 x y 43 1 2 rfl (by norm_num) _) ?_
  refine View.allAt_cons_unit _ _ _ _ _ (tile1 x y 42 0 2 rfl (by norm_num) _) ?_
  refine View.allAt_cons_unit _ _ _ _ _ (tile1 x y 41 20 1 rfl (by norm_num) _) ?_
  refine View.allAt_cons_unit _ _ _ _ _ (tile1 x y 40 19 1 rfl (by norm_num) _) ?_
  refine View.allAt_cons_unit _ _ _ _ _ (tile1 x y 39 18 1 rfl (by norm_num) _) ?_
  refine View.allAt_cons_unit _ _ _ _ _ (tile1 x y 38 17 1 rfl (by norm_num) _) ?_
  refine View.allAt_cons_unit _ _ _ _ _ (tile1 x y 37 16 1 rfl (by norm_num) _) ?_
  refine View.allAt_cons_unit _ _ _ _ _ (tile1 x y 36 15 1 rfl (by norm_num) _) ?_
  refine View.allAt_cons_unit _ _ _ _ _ (tile1 x y 35 14 1 rfl (by norm_num) _) ?_
  refine View.allAt_cons_unit _ _ _ _ _ (tile1 x y 34 13 1 rfl (by norm_num) _) ?_
  refine View.allAt_cons_unit _ _ _ _ _ (tile1 x y 33 12 1 rfl (by norm_num) _) ?_
  refine View.allAt_cons_unit _ _ _ _ _ (tile1 x y 32 11 1 rfl (by norm_num) _) ?_
  refine View.allAt_cons_unit _ _ _ _ _ (tile1 x y 31 10 1 rfl (by norm_num) _) ?_
  refine View.allAt_cons_unit _ _ _ _ _ (tile1 x y 30 9 1 rfl (by norm_num) _) ?_
  refine View.allAt_cons_unit _ _ _ _ _ (tile1 x y 29 8 1 rfl (by norm_num) _) ?_
  refine View.allAt_cons_unit _ _ _ _ _ (tile1 x y 28 7 1 rfl (by norm_num) _) ?_
  refine View.allAt_cons_unit _ _ _ _ _ (tile1 x y 27 6 1 rfl (by norm_num) _) ?_
  refine View.allAt_cons_unit _ _ _ _ _ (tile1 x y 26 5 1 rfl (by norm_num) _) ?_
  refine View.allAt_cons_unit _ _ _ _ _ (tile1 x y 25 4 1 rfl (by norm_num) _) ?_
  refine View.allAt_cons_unit _ _ _ _ _ (tile1 x y 24 3 1 rfl (by norm_num) _) ?_
  refine View.allAt_cons_unit _ _ _ _ _ (tile1 x y 23 2 1 rfl (by norm_num) _) ?_
  refine View.allAt_cons_unit _ _ _ _ _ (tile1 x y 22 1 1 rfl (by norm_num) _) ?_
  refine View.allAt_cons_unit _ _ _ _ _ (tile1 x y 21 0 1 rfl (by norm_num) _) ?_
  refine View.allAt_cons_unit _ _ _ _ _ (tile1 x y 20 20 0 rfl (by norm_num) _) ?_
  refine View.allAt_cons_unit _ _ _ _ _ (tile1 x y 19 19 0 rfl (by norm_num) _) ?_
  refine View.allAt_cons_unit _ _ _ _ _ (tile1 x y 18 18 0 rfl (by norm_num) _) ?_
  refine View.allAt_cons_unit _ _ _ _ _ (tile1 x y 17 17 0 rfl (by norm_num) _) ?_
  refine View.allAt_cons_unit _ _ _ _ _ (tile1 x y 16 16 0 rfl (by norm_num) _) ?_
  refine View.allAt_cons_unit _ _ _ _ _ (tile1 x y 15 15 0 rfl (by norm_num) _) ?_
  refine View.allAt_cons_unit _ _ _ _ _ (tile1 x y 14 14 0 rfl (by norm_num) _) ?_
  refine View.allAt_cons_unit _ _ _ _ _ (tile1 x y 13 13 0 rfl (by norm_num) _) ?_
  refine View.allAt_cons_unit _ _ _ _ _ (tile1 x y 12 12 0 rfl (by norm_num) _) ?_
  refine View.allAt_cons_unit _ _ _ _ _ (tile1 x y 11 11 0 rfl (by norm_num) _) ?_
  refine View.allAt_cons_unit _ _ _ _ _ (tile1 x y 10 10 0 rfl (by norm_num) _) ?_
  refine View.allAt_cons_unit _ _ _ _ _ (tile1 x y 9 9 0 rfl (by norm_num) _) ?_
  refine View.allAt_cons_unit _ _ _ _ _ (tile1 x y 8 8 0 rfl (by norm_num) _) ?_
  refine View.allAt_cons_unit _ _ _ _ _ (tile1 x y 7 7 0 rfl (by norm_num) _) ?_
  refine View.allAt_cons_unit _ _ _ _ _ (tile1 x y 6 6 0 rfl (by norm_num) _) ?_
  refine View.allAt_cons_unit _ _ _ _ _ (tile1 x y 5 5 0 rfl (by norm_num) _) ?_
  refine View.allAt_cons_unit _ _ _ _ _ (tile1 x y 4 4 0 rfl (by norm_num) _) ?_
  refine View.allAt_cons_unit _ _ _ _ _ (tile1 x y 3 3 0 rfl (by norm_num) _) ?_
  refine View.allAt_cons_unit _ _ _ _ _ (tile1 x y 2 2 0 rfl (by norm_num) _) ?_
  refine View.allAt_cons_unit _ _ _ _ _ (tile1 x y 1 1 0 rfl (by norm_num) _) ?_
  refine View.allAt_cons_unit _ _ _ _ _ (tile1 x y 0 0 0 rfl (by norm_num) _) ?_
  exact View.allAt_nil y _

theorem out0_2_eq (x : Vec F S64x21x8x128 .f32) : out0_2 x = movedS x := by
  funext y
  refine View.canon_eq_of_allAt _ y _ (cover0_2 _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (tile2 x y 5 7 _) ?_
  refine View.allAt_cons_unit _ _ _ _ _ (tile2 x y 4 7 _) ?_
  refine View.allAt_cons_unit _ _ _ _ _ (tile2 x y 3 7 _) ?_
  refine View.allAt_cons_unit _ _ _ _ _ (tile2 x y 2 7 _) ?_
  refine View.allAt_cons_unit _ _ _ _ _ (tile2 x y 1 7 _) ?_
  refine View.allAt_cons_unit _ _ _ _ _ (tile2 x y 0 7 _) ?_
  refine View.allAt_cons_unit _ _ _ _ _ (tile2 x y 5 6 _) ?_
  refine View.allAt_cons_unit _ _ _ _ _ (tile2 x y 4 6 _) ?_
  refine View.allAt_cons_unit _ _ _ _ _ (tile2 x y 3 6 _) ?_
  refine View.allAt_cons_unit _ _ _ _ _ (tile2 x y 2 6 _) ?_
  refine View.allAt_cons_unit _ _ _ _ _ (tile2 x y 1 6 _) ?_
  refine View.allAt_cons_unit _ _ _ _ _ (tile2 x y 0 6 _) ?_
  refine View.allAt_cons_unit _ _ _ _ _ (tile2 x y 5 5 _) ?_
  refine View.allAt_cons_unit _ _ _ _ _ (tile2 x y 4 5 _) ?_
  refine View.allAt_cons_unit _ _ _ _ _ (tile2 x y 3 5 _) ?_
  refine View.allAt_cons_unit _ _ _ _ _ (tile2 x y 2 5 _) ?_
  refine View.allAt_cons_unit _ _ _ _ _ (tile2 x y 1 5 _) ?_
  refine View.allAt_cons_unit _ _ _ _ _ (tile2 x y 0 5 _) ?_
  refine View.allAt_cons_unit _ _ _ _ _ (tile2 x y 5 4 _) ?_
  refine View.allAt_cons_unit _ _ _ _ _ (tile2 x y 4 4 _) ?_
  refine View.allAt_cons_unit _ _ _ _ _ (tile2 x y 3 4 _) ?_
  refine View.allAt_cons_unit _ _ _ _ _ (tile2 x y 2 4 _) ?_
  refine View.allAt_cons_unit _ _ _ _ _ (tile2 x y 1 4 _) ?_
  refine View.allAt_cons_unit _ _ _ _ _ (tile2 x y 0 4 _) ?_
  refine View.allAt_cons_unit _ _ _ _ _ (tile2 x y 5 3 _) ?_
  refine View.allAt_cons_unit _ _ _ _ _ (tile2 x y 4 3 _) ?_
  refine View.allAt_cons_unit _ _ _ _ _ (tile2 x y 3 3 _) ?_
  refine View.allAt_cons_unit _ _ _ _ _ (tile2 x y 2 3 _) ?_
  refine View.allAt_cons_unit _ _ _ _ _ (tile2 x y 1 3 _) ?_
  refine View.allAt_cons_unit _ _ _ _ _ (tile2 x y 0 3 _) ?_
  refine View.allAt_cons_unit _ _ _ _ _ (tile2 x y 5 2 _) ?_
  refine View.allAt_cons_unit _ _ _ _ _ (tile2 x y 4 2 _) ?_
  refine View.allAt_cons_unit _ _ _ _ _ (tile2 x y 3 2 _) ?_
  refine View.allAt_cons_unit _ _ _ _ _ (tile2 x y 2 2 _) ?_
  refine View.allAt_cons_unit _ _ _ _ _ (tile2 x y 1 2 _) ?_
  refine View.allAt_cons_unit _ _ _ _ _ (tile2 x y 0 2 _) ?_
  refine View.allAt_cons_unit _ _ _ _ _ (tile2 x y 5 1 _) ?_
  refine View.allAt_cons_unit _ _ _ _ _ (tile2 x y 4 1 _) ?_
  refine View.allAt_cons_unit _ _ _ _ _ (tile2 x y 3 1 _) ?_
  refine View.allAt_cons_unit _ _ _ _ _ (tile2 x y 2 1 _) ?_
  refine View.allAt_cons_unit _ _ _ _ _ (tile2 x y 1 1 _) ?_
  refine View.allAt_cons_unit _ _ _ _ _ (tile2 x y 0 1 _) ?_
  refine View.allAt_cons_unit _ _ _ _ _ (tile2 x y 5 0 _) ?_
  refine View.allAt_cons_unit _ _ _ _ _ (tile2 x y 4 0 _) ?_
  refine View.allAt_cons_unit _ _ _ _ _ (tile2 x y 3 0 _) ?_
  refine View.allAt_cons_unit _ _ _ _ _ (tile2 x y 2 0 _) ?_
  refine View.allAt_cons_unit _ _ _ _ _ (tile2 x y 1 0 _) ?_
  refine View.allAt_cons_unit _ _ _ _ _ (tile2 x y 0 0 _) ?_
  exact View.allAt_nil y _

end Cert.KernelIdeal.Whole
-- ==== Proof.Val.Arr0.lean ====
/- The arrays the first call leaves. -/
module

public import proofs.«01_k».proof.Proof.Val.Out0
public import Idealize.ShloMosaic.Lib.Pipeline.ValueKit.Partial
public import Idealize.ShloMosaic.Lib.Pipeline.ValueKit.Acc

@[expose] public section

set_option maxRecDepth 16384

noncomputable section

namespace Cert.KernelIdeal.Whole

open Cert.KernelIdeal Cert.KernelIdeal.Gen Idealize.ShloMosaic Idealize.ShloMosaic.TcCoe

variable {F : FTy → Type} [FloatOps F]
variable (V : (c : Dev nD) → (b : Ref sig .tc) → Buf (Elt F) ((c : Thread nD τ).loc b))

/-- Entry `(nm, s, o)`: row `nm`'s feature `o` at time `s / 21`, joint `s % 21`. -/
def laid (x : Vec F S64x21x64x128 .f32) : Vec F S128x1344x64 .f32 := fun y =>
  x (ix4 (y 2) ⟨(y 1).val % 21, Nat.mod_lt _ (by norm_num)⟩ ⟨(y 1).val / 21, by have : (y 1).val < 1344 := (y 1).isLt; omega⟩ (y 0))

def laidS (x : Vec F S64x21x64x128 .f32) : Vec F S128x64x6x64 .f32 := fun y =>
  x (ix4 (y 3) ⟨(y 2).val, lt_trans (y 2).isLt (by decide)⟩ (y 1) (y 0))

theorem index0_0 : ∀ t : Fin cfg0.N, win0_0.index t = ![0, 0, t.val, 0] :=
  (by decide +kernel : ∀ t : Fin grid0.N, win0_0.index t = ![0, 0, t.val, 0])
theorem index0_1 : ∀ t : Fin cfg0.N, win0_1.index t = ![0, t.val, 0] :=
  (by decide +kernel : ∀ t : Fin grid0.N, win0_1.index t = ![0, t.val, 0])
theorem index0_2 : ∀ t : Fin cfg0.N, win0_2.index t = ![0, t.val, 0, 0] :=
  (by decide +kernel : ∀ t : Fin grid0.N, win0_2.index t = ![0, t.val, 0, 0])

theorem arr0_1 (c : Dev nD) : (dat0 V c).arrAt 1 cfg0.N = laid (V c main_v0) := by
  refine (dat0 V c).arrAt_eq_of_covers 1 _ (by decide +kernel) fun t hf y => ?_
  blk_simp
  rw [after0_1, out0_1_eq]
  unfold moved laid
  blk_simp [iblk0]
  congr 1
  have h1 : (y 1).val < 168 := (y 1).isLt
  blk_ext [index0_0, index0_1, joint, time]

theorem arr0_2 (c : Dev nD) : (dat0 V c).arrAt 2 cfg0.N = laidS (V c main_v0) := by
  refine (dat0 V c).arrAt_eq_of_covers 2 _ (by decide +kernel) fun t hf y => ?_
  blk_simp
  rw [after0_2, out0_2_eq]
  unfold movedS laidS
  blk_simp [iblk0]
  congr 1
  blk_ext [index0_0, index0_2]

end Cert.KernelIdeal.Whole
-- ==== Proof.Val.Step.lean ====
/- One destination row class of one attention layer, as the kernel's vector operations: the softmax over a row's own
   logit and its neighbours', and the rows it mixes. -/
module

public import proofs.«01_k».proof.Proof.Gen.KernelIdeal.Skeleton
public import proofs.«01_k».proof.Proof.Val.Piece
public import Idealize.ShloMosaic.Lib.Pointwise

@[expose] public section

noncomputable section

namespace Cert.KernelIdeal.Whole

open Cert.KernelIdeal Cert.KernelIdeal.Gen Idealize.ShloMosaic

variable {F : FTy → Type} [FloatOps F]

/-- The logits of the edges from the rows `s` into the rows `d`. -/
def lgt (att : Vec F S1x64 .f32) (d s : Vec F S256x64 .f32) : FVec F S256x1 .f32 :=
  shapeCast S256x1 (multiReduction .add [1] S256
    (mulf (select (cmpf .oge (addf s d) (broadcast S256x64 (Scalar.ofBits .f32 0x00000000#32))) (addf s d)
      (mulf (broadcast S256x64 (Scalar.ofBits .f32 0x3E4CCCCD#32)) (addf s d))) (broadcastTo S256x64 att broadcasts_S1x64_S256x64))
    0x00000000#32 reduces_S256x64_S256 (.inl rfl) rfl) shapeCasts_S256_S256x1

/-- The largest logit. -/
def stepMax (att : Vec F S1x64 .f32) (d l : Vec F S256x64 .f32) (ss : List (Vec F S256x64 .f32)) : FVec F S256x1 .f32 :=
  ss.foldl (fun m s => maximumf m (lgt att d s)) (lgt att d l)

/-- An edge's weight, before it is divided by the sum of them. -/
def wgt (att : Vec F S1x64 .f32) (d s : Vec F S256x64 .f32) (m : FVec F S256x1 .f32) : FVec F S256x1 .f32 :=
  exp (subf (lgt att d s) m)

def stepDen (att : Vec F S1x64 .f32) (d l : Vec F S256x64 .f32) (ss : List (Vec F S256x64 .f32)) (m : FVec F S256x1 .f32) : FVec F S256x1 .f32 :=
  ss.foldl (fun n s => addf n (wgt att d s m)) (wgt att d l m)

def stepMix (att : Vec F S1x64 .f32) (d l : Vec F S256x64 .f32) (ss : List (Vec F S256x64 .f32)) (m : FVec F S256x1 .f32) : FVec F S256x64 .f32 :=
  ss.foldl (fun n s => addf n (mulf (broadcastTo S256x64 (wgt att d s m) broadcasts_S256x1_S256x64) s))
    (mulf (broadcastTo S256x64 (wgt att d l m) broadcasts_S256x1_S256x64) l)

/-- The rows with one layer's contribution added. -/
def step (att b : Vec F S1x64 .f32) (d l : Vec F S256x64 .f32) (ss : List (Vec F S256x64 .f32)) (old : Vec F S256x64 .f32) : FVec F S256x64 .f32 :=
  shapeCast S256x64 (addf (addf old (divf (stepMix att d l ss (stepMax att d l ss))
    (broadcastTo S256x64 (addf (stepDen att d l ss (stepMax att d l ss)) (broadcast S256x1 (Scalar.ofBits .f32 0x24E69595#32))) broadcasts_S256x1_S256x64)))
    (broadcastTo S256x64 b broadcasts_S1x64_S256x64)) shapeCasts_S256x64_S256x64

/-- A layer's rows of a block of 1536. -/
def lin (x : Vec F S1536x64 .f32) (w : Vec F S1x64x64 .f32) (b : Vec F S1x64 .f32) : FVec F S1536x64 .f32 :=
  shapeCast S1536x64 (addf (matmul dot_S1536x64_S64x64_S1536x64_1_1_0_0_n_n none (shapeCast S1536x64 x shapeCasts_S1536x64_S1536x64)
    (shapeCast S64x64 w shapeCasts_S1x64x64_S64x64) (constant S1536x64 .f32 0x00000000#32)) (broadcastTo S1536x64 b broadcasts_S1x64_S1536x64)) shapeCasts_S1536x64_S1536x64

/-- A layer's rows of a block of 5376. -/
def linB (x : Vec F S5376x64 .f32) (w : Vec F S1x64x64 .f32) (b : Vec F S1x64 .f32) : FVec F S5376x64 .f32 :=
  addf (matmul dot_S5376x64_S64x64_S5376x64_1_1_0_0_n_n none (shapeCast S5376x64 x shapeCasts_S5376x64_S5376x64)
    (shapeCast S64x64 w shapeCasts_S1x64x64_S64x64) (constant S5376x64 .f32 0x00000000#32)) (broadcastTo S5376x64 b broadcasts_S1x64_S5376x64)

/-- Layer `i`'s matrix and vector. -/
def mat (i : Fin 3) (w : Vec F S3x64x64 .f32) : Vec F S1x64x64 .f32 := fun y => w (ix3 i ⟨(y 1).val, (y 1).isLt⟩ ⟨(y 2).val, (y 2).isLt⟩)
def row (i : Fin 3) (w : Vec F S3x64 .f32) : Vec F S1x64 .f32 := fun y => w (ix2 i ⟨(y 1).val, (y 1).isLt⟩)

variable {κ : Kind} {sp : Space}

theorem read_mat0 {m : Memref sig κ sp S3x64x64 .f32} (h : m.IsWhole) (X : Vec F S3x64x64 .f32) (inb) :
    View.readAt (Elt F) m.view (Rect.unit (s := S3x64x64) ![0, 0, 0] ![1, 64, 64] inb).toLoadRect (h.unread X) = mat 0 X := by
  funext y
  refine (h.readAt_unread X _ y).trans (congrArg X (funext fun a => Fin.ext ?_))
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

theorem read_row0 {m : Memref sig κ sp S3x64 .f32} (h : m.IsWhole) (X : Vec F S3x64 .f32) (inb) :
    View.readAt (Elt F) m.view (Rect.unit (s := S3x64) ![0, 0] ![1, 64] inb).toLoadRect (h.unread X) = row 0 X := by
  funext y
  refine (h.readAt_unread X _ y).trans (congrArg X (funext fun a => Fin.ext ?_))
  have h0 : (y 0).val < 1 := (y 0).isLt
  match a with
  | ⟨0, _⟩ => show 0 + 1 * (y 0).val = 0; omega
  | ⟨1, _⟩ => show 0 + 1 * (y 1).val = (y 1).val; omega

theorem read_mat1 {m : Memref sig κ sp S3x64x64 .f32} (h : m.IsWhole) (X : Vec F S3x64x64 .f32) (inb) :
    View.readAt (Elt F) m.view (Rect.unit (s := S3x64x64) ![1, 0, 0] ![1, 64, 64] inb).toLoadRect (h.unread X) = mat 1 X := by
  funext y
  refine (h.readAt_unread X _ y).trans (congrArg X (funext fun a => Fin.ext ?_))
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

theorem read_row1 {m : Memref sig κ sp S3x64 .f32} (h : m.IsWhole) (X : Vec F S3x64 .f32) (inb) :
    View.readAt (Elt F) m.view (Rect.unit (s := S3x64) ![1, 0] ![1, 64] inb).toLoadRect (h.unread X) = row 1 X := by
  funext y
  refine (h.readAt_unread X _ y).trans (congrArg X (funext fun a => Fin.ext ?_))
  have h0 : (y 0).val < 1 := (y 0).isLt
  match a with
  | ⟨0, _⟩ => show 1 + 1 * (y 0).val = 1; omega
  | ⟨1, _⟩ => show 0 + 1 * (y 1).val = (y 1).val; omega

theorem read_mat2 {m : Memref sig κ sp S3x64x64 .f32} (h : m.IsWhole) (X : Vec F S3x64x64 .f32) (inb) :
    View.readAt (Elt F) m.view (Rect.unit (s := S3x64x64) ![2, 0, 0] ![1, 64, 64] inb).toLoadRect (h.unread X) = mat 2 X := by
  funext y
  refine (h.readAt_unread X _ y).trans (congrArg X (funext fun a => Fin.ext ?_))
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega

theorem read_row2 {m : Memref sig κ sp S3x64 .f32} (h : m.IsWhole) (X : Vec F S3x64 .f32) (inb) :
    View.readAt (Elt F) m.view (Rect.unit (s := S3x64) ![2, 0] ![1, 64] inb).toLoadRect (h.unread X) = row 2 X := by
  funext y
  refine (h.readAt_unread X _ y).trans (congrArg X (funext fun a => Fin.ext ?_))
  have h0 : (y 0).val < 1 := (y 0).isLt
  match a with
  | ⟨0, _⟩ => show 2 + 1 * (y 0).val = 2; omega
  | ⟨1, _⟩ => show 0 + 1 * (y 1).val = (y 1).val; omega

theorem cut_lt (r : ℕ) (hr : r < 6) (g : Fin 256) : r + 6 * g.val < 1536 := by have := g.isLt; omega

/-- Every sixth row, from row `r`. -/
abbrev six {α : Type} (r : ℕ) (hr : r < 6) (P : S1536x64.Idx → α) : S256x64.Idx → α := Rows.cut (N := 1536) (M := 256) (C := 64) 6 r (cut_lt r hr) P

section
variable (v : View sig κ sp S1536x64 .f32) (r r' : ℕ)

theorem rows_hit (inb inb') (pos) (w : S256x64.Idx → Elt F .f32) (L : List (View.Piece (Elt F) S1536x64 .f32)) :
    v.readCov ((⟨⟨⟨![r, 0], ![256, 64], ![6, 1], inb⟩, pos⟩, w⟩ : View.Piece (Elt F) S1536x64 .f32) :: L)
      ⟨![r, 0], ![256, 64], ![6, 1], inb'⟩ = w := Rows.load_hit (N := 1536) (M := 256) (C := 64) v 6 r inb inb' pos w L

theorem rows_skip (hr : r % 6 ≠ r' % 6) (inb inb') (pos) (w : S256x64.Idx → Elt F .f32) (L : List (View.Piece (Elt F) S1536x64 .f32)) :
    v.readCov ((⟨⟨⟨![r', 0], ![256, 64], ![6, 1], inb⟩, pos⟩, w⟩ : View.Piece (Elt F) S1536x64 .f32) :: L)
      ⟨![r, 0], ![256, 64], ![6, 1], inb'⟩ = v.readCov L ⟨![r, 0], ![256, 64], ![6, 1], inb'⟩ :=
  Rows.load_skip (N := 1536) (M := 256) (C := 64) v 6 r r' hr inb inb' pos w L

theorem rows_whole (hr : r < 6) (inb0) (inb') (P : S1536x64.Idx → Elt F .f32) (L : List (View.Piece (Elt F) S1536x64 .f32)) :
    v.readCov ((⟨Rect.unit (s := S1536x64) ![0, 0] ![1536, 64] inb0, P⟩ : View.Piece (Elt F) S1536x64 .f32) :: L)
      ⟨![r, 0], ![256, 64], ![6, 1], inb'⟩ = six r hr P := Rows.load_whole (N := 1536) (M := 256) (C := 64) v 6 r inb0 inb' P L
end

theorem read_a {m : Memref sig κ sp S1536x64 .f32} (h : m.IsWhole) (X : Vec F S1536x64 .f32) (inb) :
    View.readAt (Elt F) m.view (Rect.unit (s := S1536x64) ![0, 0] ![1536, 64] inb).toLoadRect (h.unread X) = X :=
  Rows.read_whole (N := 1536) (C := 64) h X inb

theorem read_b {m : Memref sig κ sp S5376x64 .f32} (h : m.IsWhole) (X : Vec F S5376x64 .f32) (inb) :
    View.readAt (Elt F) m.view (Rect.unit (s := S5376x64) ![0, 0] ![5376, 64] inb).toLoadRect (h.unread X) = X :=
  Rows.read_whole (N := 5376) (C := 64) h X inb

/-- The columns of the incidence table: the rows a destination row class draws from. -/
def nbrs : Fin 6 → List (Fin 6)
  | 0 => [0, 1, 2, 3, 4]
  | 1 => [1, 5]
  | 2 => [2, 5]
  | 3 => [3]
  | 4 => [0, 4]
  | 5 => [1, 2, 5]

section
variable (xd xs : Vec F S1536x64 .f32) (wl wr : Vec F S3x64x64 .f32) (bl br att b : Vec F S3x64 .f32)

/-- Row class `r`'s contribution of layer `i`, added to `old`. -/
def layerStep (i : Fin 3) (r : Fin 6) (old : Vec F S256x64 .f32) : FVec F S256x64 .f32 :=
  step (row i att) (row i b) (six r.val r.isLt (lin xd (mat i wr) (row i br))) (six r.val r.isLt (lin xd (mat i wl) (row i bl)))
    ((nbrs r).map fun c => six c.val c.isLt (lin xs (mat i wl) (row i bl))) old

/-- Row class `r` after the three layers. -/
def rowsOut (r : Fin 6) : FVec F S256x64 .f32 :=
  layerStep xd xs wl wr bl br att b 2 r (layerStep xd xs wl wr bl br att b 1 r (layerStep xd xs wl wr bl br att b 0 r
    (six r.val r.isLt (shapeCast S1536x64 (broadcast S1536x64 (Scalar.ofBits .f32 0x00000000#32)) shapeCasts_S1536x64_S1536x64))))
end

end Cert.KernelIdeal.Whole
-- ==== Proof.Val.RowsA.lean ====
/- What the second call's body leaves in the rows that receive neighbours. -/
module

public import proofs.«01_k».proof.Proof.Run.Region1
public import proofs.«01_k».proof.Proof.Val.Step

@[expose] public section

set_option maxRecDepth 16384

noncomputable section

namespace Cert.KernelIdeal.Whole

open Cert.KernelIdeal Cert.KernelIdeal.Gen Idealize.ShloMosaic

variable {F : FTy → Type} [FloatOps F]

variable (c : Dev nD) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg15 : Memref sig .tc .vmem S1536x64 .f32) (arg16 : Memref sig .tc .vmem S1536x64 .f32) (arg17 : Memref sig .tc .vmem S1536x64 .f32) (arg18 : Memref sig .tc .vmem S1536x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32)

set_option maxHeartbeats 4000000 in
theorem rowsA_0 (n : Fin 1536) (g : Fin 256) (o : Fin 64) (h : n.val = 0 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 0 (ix2 g o) := by
  unfold kernelRun1_A.sl.v1403
  refine (Rows.load_whole_apply (N := 1536) (C := 64) _ _ _ n o).trans ?_
  unfold kernelRun1_A.sl.HS3_19
  refine (Rows.canon_miss (N := 1536) (M := 256) (C := 64) 6 5 _ _ _ _ n o (fun g' hg => by omega)).trans ?_
  unfold kernelRun1_A.sl.HS3_18
  refine (Rows.canon_miss (N := 1536) (M := 256) (C := 64) 6 4 _ _ _ _ n o (fun g' hg => by omega)).trans ?_
  unfold kernelRun1_A.sl.HS3_17
  refine (Rows.canon_miss (N := 1536) (M := 256) (C := 64) 6 3 _ _ _ _ n o (fun g' hg => by omega)).trans ?_
  unfold kernelRun1_A.sl.HS3_16
  refine (Rows.canon_miss (N := 1536) (M := 256) (C := 64) 6 2 _ _ _ _ n o (fun g' hg => by omega)).trans ?_
  unfold kernelRun1_A.sl.HS3_15
  refine (Rows.canon_miss (N := 1536) (M := 256) (C := 64) 6 1 _ _ _ _ n o (fun g' hg => by omega)).trans ?_
  unfold kernelRun1_A.sl.HS3_14
  refine (Rows.canon_hit (N := 1536) (M := 256) (C := 64) 6 0 _ _ _ _ n g o h).trans ?_
  refine congrFun (?_ : _ = rowsOut x1 x2 x3 x5 x4 x6 x7 x8 0) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

set_option maxHeartbeats 4000000 in
theorem rowsA_1 (n : Fin 1536) (g : Fin 256) (o : Fin 64) (h : n.val = 1 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 1 (ix2 g o) := by
  unfold kernelRun1_A.sl.v1403
  refine (Rows.load_whole_apply (N := 1536) (C := 64) _ _ _ n o).trans ?_
  unfold kernelRun1_A.sl.HS3_19
  refine (Rows.canon_miss (N := 1536) (M := 256) (C := 64) 6 5 _ _ _ _ n o (fun g' hg => by omega)).trans ?_
  unfold kernelRun1_A.sl.HS3_18
  refine (Rows.canon_miss (N := 1536) (M := 256) (C := 64) 6 4 _ _ _ _ n o (fun g' hg => by omega)).trans ?_
  unfold kernelRun1_A.sl.HS3_17
  refine (Rows.canon_miss (N := 1536) (M := 256) (C := 64) 6 3 _ _ _ _ n o (fun g' hg => by omega)).trans ?_
  unfold kernelRun1_A.sl.HS3_16
  refine (Rows.canon_miss (N := 1536) (M := 256) (C := 64) 6 2 _ _ _ _ n o (fun g' hg => by omega)).trans ?_
  unfold kernelRun1_A.sl.HS3_15
  refine (Rows.canon_hit (N := 1536) (M := 256) (C := 64) 6 1 _ _ _ _ n g o h).trans ?_
  refine congrFun (?_ : _ = rowsOut x1 x2 x3 x5 x4 x6 x7 x8 1) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

set_option maxHeartbeats 4000000 in
theorem rowsA_2 (n : Fin 1536) (g : Fin 256) (o : Fin 64) (h : n.val = 2 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 2 (ix2 g o) := by
  unfold kernelRun1_A.sl.v1403
  refine (Rows.load_whole_apply (N := 1536) (C := 64) _ _ _ n o).trans ?_
  unfold kernelRun1_A.sl.HS3_19
  refine (Rows.canon_miss (N := 1536) (M := 256) (C := 64) 6 5 _ _ _ _ n o (fun g' hg => by omega)).trans ?_
  unfold kernelRun1_A.sl.HS3_18
  refine (Rows.canon_miss (N := 1536) (M := 256) (C := 64) 6 4 _ _ _ _ n o (fun g' hg => by omega)).trans ?_
  unfold kernelRun1_A.sl.HS3_17
  refine (Rows.canon_miss (N := 1536) (M := 256) (C := 64) 6 3 _ _ _ _ n o (fun g' hg => by omega)).trans ?_
  unfold kernelRun1_A.sl.HS3_16
  refine (Rows.canon_hit (N := 1536) (M := 256) (C := 64) 6 2 _ _ _ _ n g o h).trans ?_
  refine congrFun (?_ : _ = rowsOut x1 x2 x3 x5 x4 x6 x7 x8 2) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

set_option maxHeartbeats 4000000 in
theorem rowsA_3 (n : Fin 1536) (g : Fin 256) (o : Fin 64) (h : n.val = 3 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 3 (ix2 g o) := by
  unfold kernelRun1_A.sl.v1403
  refine (Rows.load_whole_apply (N := 1536) (C := 64) _ _ _ n o).trans ?_
  unfold kernelRun1_A.sl.HS3_19
  refine (Rows.canon_miss (N := 1536) (M := 256) (C := 64) 6 5 _ _ _ _ n o (fun g' hg => by omega)).trans ?_
  unfold kernelRun1_A.sl.HS3_18
  refine (Rows.canon_miss (N := 1536) (M := 256) (C := 64) 6 4 _ _ _ _ n o (fun g' hg => by omega)).trans ?_
  unfold kernelRun1_A.sl.HS3_17
  refine (Rows.canon_hit (N := 1536) (M := 256) (C := 64) 6 3 _ _ _ _ n g o h).trans ?_
  refine congrFun (?_ : _ = rowsOut x1 x2 x3 x5 x4 x6 x7 x8 3) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

set_option maxHeartbeats 4000000 in
theorem rowsA_4 (n : Fin 1536) (g : Fin 256) (o : Fin 64) (h : n.val = 4 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 4 (ix2 g o) := by
  unfold kernelRun1_A.sl.v1403
  refine (Rows.load_whole_apply (N := 1536) (C := 64) _ _ _ n o).trans ?_
  unfold kernelRun1_A.sl.HS3_19
  refine (Rows.canon_miss (N := 1536) (M := 256) (C := 64) 6 5 _ _ _ _ n o (fun g' hg => by omega)).trans ?_
  unfold kernelRun1_A.sl.HS3_18
  refine (Rows.canon_hit (N := 1536) (M := 256) (C := 64) 6 4 _ _ _ _ n g o h).trans ?_
  refine congrFun (?_ : _ = rowsOut x1 x2 x3 x5 x4 x6 x7 x8 4) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

set_option maxHeartbeats 4000000 in
theorem rowsA_5 (n : Fin 1536) (g : Fin 256) (o : Fin 64) (h : n.val = 5 + 6 * g.val) :
    @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 5 (ix2 g o) := by
  unfold kernelRun1_A.sl.v1403
  refine (Rows.load_whole_apply (N := 1536) (C := 64) _ _ _ n o).trans ?_
  unfold kernelRun1_A.sl.HS3_19
  refine (Rows.canon_hit (N := 1536) (M := 256) (C := 64) 6 5 _ _ _ _ n g o h).trans ?_
  refine congrFun (?_ : _ = rowsOut x1 x2 x3 x5 x4 x6 x7 x8 5) (ix2 g o)
  simp (config := { decide := true }) only [kernelRun1_A.sl.HS0_1, kernelRun1_A.sl.HS0_2, kernelRun1_A.sl.HS0_3, kernelRun1_A.sl.HS1_1, kernelRun1_A.sl.HS1_2, kernelRun1_A.sl.HS1_3, kernelRun1_A.sl.HS2_1, kernelRun1_A.sl.HS2_2, kernelRun1_A.sl.HS2_3, kernelRun1_A.sl.HS3_1, kernelRun1_A.sl.HS3_10, kernelRun1_A.sl.HS3_11, kernelRun1_A.sl.HS3_12, kernelRun1_A.sl.HS3_13, kernelRun1_A.sl.HS3_14, kernelRun1_A.sl.HS3_15, kernelRun1_A.sl.HS3_16, kernelRun1_A.sl.HS3_17, kernelRun1_A.sl.HS3_18, kernelRun1_A.sl.HS3_19, kernelRun1_A.sl.HS3_2, kernelRun1_A.sl.HS3_3, kernelRun1_A.sl.HS3_4, kernelRun1_A.sl.HS3_5, kernelRun1_A.sl.HS3_6, kernelRun1_A.sl.HS3_7, kernelRun1_A.sl.HS3_8, kernelRun1_A.sl.HS3_9, kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, kernelRun1_A.sl.v100, kernelRun1_A.sl.v1004, kernelRun1_A.sl.v1016, kernelRun1_A.sl.v1028, kernelRun1_A.sl.v1074, kernelRun1_A.sl.v1085, kernelRun1_A.sl.v1086, kernelRun1_A.sl.v1109, kernelRun1_A.sl.v1137, kernelRun1_A.sl.v1148, kernelRun1_A.sl.v1149, kernelRun1_A.sl.v1200, kernelRun1_A.sl.v1211, kernelRun1_A.sl.v1212, kernelRun1_A.sl.v1245, kernelRun1_A.sl.v1256, kernelRun1_A.sl.v1257, kernelRun1_A.sl.v1308, kernelRun1_A.sl.v1319, kernelRun1_A.sl.v1320, kernelRun1_A.sl.v1389, kernelRun1_A.sl.v1403, kernelRun1_A.sl.v146, kernelRun1_A.sl.v157, kernelRun1_A.sl.v158, kernelRun1_A.sl.v181, kernelRun1_A.sl.v209, kernelRun1_A.sl.v220, kernelRun1_A.sl.v221, kernelRun1_A.sl.v272, kernelRun1_A.sl.v283, kernelRun1_A.sl.v284, kernelRun1_A.sl.v317, kernelRun1_A.sl.v328, kernelRun1_A.sl.v329, kernelRun1_A.sl.v380, kernelRun1_A.sl.v391, kernelRun1_A.sl.v392, kernelRun1_A.sl.v40, kernelRun1_A.sl.v41, kernelRun1_A.sl.v461, kernelRun1_A.sl.v501, kernelRun1_A.sl.v504, kernelRun1_A.sl.v505, kernelRun1_A.sl.v516, kernelRun1_A.sl.v52, kernelRun1_A.sl.v528, kernelRun1_A.sl.v540, kernelRun1_A.sl.v552, kernelRun1_A.sl.v564, kernelRun1_A.sl.v610, kernelRun1_A.sl.v621, kernelRun1_A.sl.v622, kernelRun1_A.sl.v64, kernelRun1_A.sl.v645, kernelRun1_A.sl.v673, kernelRun1_A.sl.v684, kernelRun1_A.sl.v685, kernelRun1_A.sl.v736, kernelRun1_A.sl.v747, kernelRun1_A.sl.v748, kernelRun1_A.sl.v76, kernelRun1_A.sl.v781, kernelRun1_A.sl.v792, kernelRun1_A.sl.v793, kernelRun1_A.sl.v844, kernelRun1_A.sl.v855, kernelRun1_A.sl.v856, kernelRun1_A.sl.v88, kernelRun1_A.sl.v925, kernelRun1_A.sl.v968, kernelRun1_A.sl.v969, kernelRun1_A.sl.v980, kernelRun1_A.sl.v992, rows_hit, rows_skip, rows_whole, read_a, read_mat0, read_mat1, read_mat2, read_row0, read_row1, read_row2]
  rfl

end Cert.KernelIdeal.Whole
-- ==== Proof.Val.RowsB.lean ====
/- What the second call's body leaves in the rows that receive neighbours. -/
module

public import proofs.«01_k».proof.Proof.Run.Region1
public import proofs.«01_k».proof.Proof.Val.Step

@[expose] public section

set_option maxRecDepth 16384

noncomputable section

namespace Cert.KernelIdeal.Whole

open Cert.KernelIdeal Cert.KernelIdeal.Gen Idealize.ShloMosaic

variable {F : FTy → Type} [FloatOps F]

variable (c : Dev nD) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg15 : Memref sig .tc .vmem S1536x64 .f32) (arg16 : Memref sig .tc .vmem S1536x64 .f32) (arg17 : Memref sig .tc .vmem S1536x64 .f32) (arg18 : Memref sig .tc .vmem S1536x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32)

set_option maxHeartbeats 4000000 in
theorem rowsB_0 (n : Fin 1536) (g : Fin 256) (o : Fin 64) (h : n.val = 0 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 0 (ix2 g o) := by
  unfold kernelRun1_B.sl.v1403
  refine (Rows.load_whole_apply (N := 1536) (C := 64) _ _ _ n o).trans ?_
  unfold kernelRun1_B.sl.HS3_19
  refine (Rows.canon_miss (N := 1536) (M := 256) (C := 64) 6 5 _ _ _ _ n o (fun g' hg => by omega)).trans ?_
  unfold kernelRun1_B.sl.HS3_18
  refine (Rows.canon_miss (N := 1536) (M := 256) (C := 64) 6 4 _ _ _ _ n o (fun g' hg => by omega)).trans ?_
  unfold kernelRun1_B.sl.HS3_17
  refine (Rows.canon_miss (N := 1536) (M := 256) (C := 64) 6 3 _ _ _ _ n o (fun g' hg => by omega)).trans ?_
  unfold kernelRun1_B.sl.HS3_16
  refine (Rows.canon_miss (N := 1536) (M := 256) (C := 64) 6 2 _ _ _ _ n o (fun g' hg => by omega)).trans ?_
  unfold kernelRun1_B.sl.HS3_15
  refine (Rows.canon_miss (N := 1536) (M := 256) (C := 64) 6 1 _ _ _ _ n o (fun g' hg => by omega)).trans ?_
  unfold kernelRun1_B.sl.HS3_14
  refine (Rows.canon_hit (N := 1536) (M := 256) (C := 64) 6 0 _ _ _ _ n g o h).trans ?_
  refine congrFun (?_ : _ = rowsOut x1 x2 x3 x5 x4 x6 x7 x8 0) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

set_option maxHeartbeats 4000000 in
theorem rowsB_1 (n : Fin 1536) (g : Fin 256) (o : Fin 64) (h : n.val = 1 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 1 (ix2 g o) := by
  unfold kernelRun1_B.sl.v1403
  refine (Rows.load_whole_apply (N := 1536) (C := 64) _ _ _ n o).trans ?_
  unfold kernelRun1_B.sl.HS3_19
  refine (Rows.canon_miss (N := 1536) (M := 256) (C := 64) 6 5 _ _ _ _ n o (fun g' hg => by omega)).trans ?_
  unfold kernelRun1_B.sl.HS3_18
  refine (Rows.canon_miss (N := 1536) (M := 256) (C := 64) 6 4 _ _ _ _ n o (fun g' hg => by omega)).trans ?_
  unfold kernelRun1_B.sl.HS3_17
  refine (Rows.canon_miss (N := 1536) (M := 256) (C := 64) 6 3 _ _ _ _ n o (fun g' hg => by omega)).trans ?_
  unfold kernelRun1_B.sl.HS3_16
  refine (Rows.canon_miss (N := 1536) (M := 256) (C := 64) 6 2 _ _ _ _ n o (fun g' hg => by omega)).trans ?_
  unfold kernelRun1_B.sl.HS3_15
  refine (Rows.canon_hit (N := 1536) (M := 256) (C := 64) 6 1 _ _ _ _ n g o h).trans ?_
  refine congrFun (?_ : _ = rowsOut x1 x2 x3 x5 x4 x6 x7 x8 1) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

set_option maxHeartbeats 4000000 in
theorem rowsB_2 (n : Fin 1536) (g : Fin 256) (o : Fin 64) (h : n.val = 2 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 2 (ix2 g o) := by
  unfold kernelRun1_B.sl.v1403
  refine (Rows.load_whole_apply (N := 1536) (C := 64) _ _ _ n o).trans ?_
  unfold kernelRun1_B.sl.HS3_19
  refine (Rows.canon_miss (N := 1536) (M := 256) (C := 64) 6 5 _ _ _ _ n o (fun g' hg => by omega)).trans ?_
  unfold kernelRun1_B.sl.HS3_18
  refine (Rows.canon_miss (N := 1536) (M := 256) (C := 64) 6 4 _ _ _ _ n o (fun g' hg => by omega)).trans ?_
  unfold kernelRun1_B.sl.HS3_17
  refine (Rows.canon_miss (N := 1536) (M := 256) (C := 64) 6 3 _ _ _ _ n o (fun g' hg => by omega)).trans ?_
  unfold kernelRun1_B.sl.HS3_16
  refine (Rows.canon_hit (N := 1536) (M := 256) (C := 64) 6 2 _ _ _ _ n g o h).trans ?_
  refine congrFun (?_ : _ = rowsOut x1 x2 x3 x5 x4 x6 x7 x8 2) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

set_option maxHeartbeats 4000000 in
theorem rowsB_3 (n : Fin 1536) (g : Fin 256) (o : Fin 64) (h : n.val = 3 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 3 (ix2 g o) := by
  unfold kernelRun1_B.sl.v1403
  refine (Rows.load_whole_apply (N := 1536) (C := 64) _ _ _ n o).trans ?_
  unfold kernelRun1_B.sl.HS3_19
  refine (Rows.canon_miss (N := 1536) (M := 256) (C := 64) 6 5 _ _ _ _ n o (fun g' hg => by omega)).trans ?_
  unfold kernelRun1_B.sl.HS3_18
  refine (Rows.canon_miss (N := 1536) (M := 256) (C := 64) 6 4 _ _ _ _ n o (fun g' hg => by omega)).trans ?_
  unfold kernelRun1_B.sl.HS3_17
  refine (Rows.canon_hit (N := 1536) (M := 256) (C := 64) 6 3 _ _ _ _ n g o h).trans ?_
  refine congrFun (?_ : _ = rowsOut x1 x2 x3 x5 x4 x6 x7 x8 3) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

set_option maxHeartbeats 4000000 in
theorem rowsB_4 (n : Fin 1536) (g : Fin 256) (o : Fin 64) (h : n.val = 4 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 4 (ix2 g o) := by
  unfold kernelRun1_B.sl.v1403
  refine (Rows.load_whole_apply (N := 1536) (C := 64) _ _ _ n o).trans ?_
  unfold kernelRun1_B.sl.HS3_19
  refine (Rows.canon_miss (N := 1536) (M := 256) (C := 64) 6 5 _ _ _ _ n o (fun g' hg => by omega)).trans ?_
  unfold kernelRun1_B.sl.HS3_18
  refine (Rows.canon_hit (N := 1536) (M := 256) (C := 64) 6 4 _ _ _ _ n g o h).trans ?_
  refine congrFun (?_ : _ = rowsOut x1 x2 x3 x5 x4 x6 x7 x8 4) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

set_option maxHeartbeats 4000000 in
theorem rowsB_5 (n : Fin 1536) (g : Fin 256) (o : Fin 64) (h : n.val = 5 + 6 * g.val) :
    @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 (ix2 n o) = rowsOut x1 x2 x3 x5 x4 x6 x7 x8 5 (ix2 g o) := by
  unfold kernelRun1_B.sl.v1403
  refine (Rows.load_whole_apply (N := 1536) (C := 64) _ _ _ n o).trans ?_
  unfold kernelRun1_B.sl.HS3_19
  refine (Rows.canon_hit (N := 1536) (M := 256) (C := 64) 6 5 _ _ _ _ n g o h).trans ?_
  refine congrFun (?_ : _ = rowsOut x1 x2 x3 x5 x4 x6 x7 x8 5) (ix2 g o)
  simp (config := { decide := true }) only [kernelRun1_B.sl.HS0_1, kernelRun1_B.sl.HS0_2, kernelRun1_B.sl.HS0_3, kernelRun1_B.sl.HS1_1, kernelRun1_B.sl.HS1_2, kernelRun1_B.sl.HS1_3, kernelRun1_B.sl.HS2_1, kernelRun1_B.sl.HS2_2, kernelRun1_B.sl.HS2_3, kernelRun1_B.sl.HS3_1, kernelRun1_B.sl.HS3_10, kernelRun1_B.sl.HS3_11, kernelRun1_B.sl.HS3_12, kernelRun1_B.sl.HS3_13, kernelRun1_B.sl.HS3_14, kernelRun1_B.sl.HS3_15, kernelRun1_B.sl.HS3_16, kernelRun1_B.sl.HS3_17, kernelRun1_B.sl.HS3_18, kernelRun1_B.sl.HS3_19, kernelRun1_B.sl.HS3_2, kernelRun1_B.sl.HS3_3, kernelRun1_B.sl.HS3_4, kernelRun1_B.sl.HS3_5, kernelRun1_B.sl.HS3_6, kernelRun1_B.sl.HS3_7, kernelRun1_B.sl.HS3_8, kernelRun1_B.sl.HS3_9, kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, kernelRun1_B.sl.v100, kernelRun1_B.sl.v1004, kernelRun1_B.sl.v1016, kernelRun1_B.sl.v1028, kernelRun1_B.sl.v1074, kernelRun1_B.sl.v1085, kernelRun1_B.sl.v1086, kernelRun1_B.sl.v1109, kernelRun1_B.sl.v1137, kernelRun1_B.sl.v1148, kernelRun1_B.sl.v1149, kernelRun1_B.sl.v1200, kernelRun1_B.sl.v1211, kernelRun1_B.sl.v1212, kernelRun1_B.sl.v1245, kernelRun1_B.sl.v1256, kernelRun1_B.sl.v1257, kernelRun1_B.sl.v1308, kernelRun1_B.sl.v1319, kernelRun1_B.sl.v1320, kernelRun1_B.sl.v1389, kernelRun1_B.sl.v1403, kernelRun1_B.sl.v146, kernelRun1_B.sl.v157, kernelRun1_B.sl.v158, kernelRun1_B.sl.v181, kernelRun1_B.sl.v209, kernelRun1_B.sl.v220, kernelRun1_B.sl.v221, kernelRun1_B.sl.v272, kernelRun1_B.sl.v283, kernelRun1_B.sl.v284, kernelRun1_B.sl.v317, kernelRun1_B.sl.v328, kernelRun1_B.sl.v329, kernelRun1_B.sl.v380, kernelRun1_B.sl.v391, kernelRun1_B.sl.v392, kernelRun1_B.sl.v40, kernelRun1_B.sl.v41, kernelRun1_B.sl.v461, kernelRun1_B.sl.v501, kernelRun1_B.sl.v504, kernelRun1_B.sl.v505, kernelRun1_B.sl.v516, kernelRun1_B.sl.v52, kernelRun1_B.sl.v528, kernelRun1_B.sl.v540, kernelRun1_B.sl.v552, kernelRun1_B.sl.v564, kernelRun1_B.sl.v610, kernelRun1_B.sl.v621, kernelRun1_B.sl.v622, kernelRun1_B.sl.v64, kernelRun1_B.sl.v645, kernelRun1_B.sl.v673, kernelRun1_B.sl.v684, kernelRun1_B.sl.v685, kernelRun1_B.sl.v736, kernelRun1_B.sl.v747, kernelRun1_B.sl.v748, kernelRun1_B.sl.v76, kernelRun1_B.sl.v781, kernelRun1_B.sl.v792, kernelRun1_B.sl.v793, kernelRun1_B.sl.v844, kernelRun1_B.sl.v855, kernelRun1_B.sl.v856, kernelRun1_B.sl.v88, kernelRun1_B.sl.v925, kernelRun1_B.sl.v968, kernelRun1_B.sl.v969, kernelRun1_B.sl.v980, kernelRun1_B.sl.v992, rows_hit, rows_skip, rows_whole, read_a, read_mat0, read_mat1, read_mat2, read_row0, read_row1, read_row2]
  rfl

end Cert.KernelIdeal.Whole
-- ==== Proof.Val.Out.lean ====
/- What the second call's body leaves in its three outputs, as the kernel's vector operations on its input blocks. -/
module

public import proofs.«01_k».proof.Proof.Val.RowsA
public import proofs.«01_k».proof.Proof.Val.RowsB

@[expose] public section

set_option maxRecDepth 16384

noncomputable section

namespace Cert.KernelIdeal.Whole

open Cert.KernelIdeal Cert.KernelIdeal.Gen Idealize.ShloMosaic

variable {F : FTy → Type} [FloatOps F]

/-- A layer's image of the rows of a block, and the layer's bias, added to `old`. -/
def baseStep (x : Vec F S5376x64 .f32) (wl : Vec F S3x64x64 .f32) (bl b : Vec F S3x64 .f32) (i : Fin 3) (old : FVec F S5376x64 .f32) : FVec F S5376x64 .f32 :=
  addf (addf old (linB x (mat i wl) (row i bl))) (broadcastTo S5376x64 (row i b) broadcasts_S1x64_S5376x64)

/-- The rows of a block with no neighbours counted. -/
def baseOut (x : Vec F S5376x64 .f32) (wl : Vec F S3x64x64 .f32) (bl b : Vec F S3x64 .f32) : FVec F S5376x64 .f32 :=
  baseStep x wl bl b 2 (baseStep x wl bl b 1 (baseStep x wl bl b 0 (broadcast S5376x64 (Scalar.ofBits .f32 0x00000000#32))))

/-- A point's share of the channels' sums and sums of squares. -/
def stat (j : BitVec 32) (base : FVec F S5376x64 .f32) (a : Vec F S1536x64 .f32) (ohb : Vec F S5376x64 .f32) (oha : Vec F S1536x64 .f32) : FVec F S64x2 .f32 :=
  k1_pay177 base a (k1_pay175 j)
    (mulf (shapeCast S5376x1 (multiReduction .add [1] S5376 base 0x00000000#32 reduces_S5376x64_S5376 (.inl rfl) rfl) shapeCasts_S5376_S5376x1) (k1_pay175 j)) ohb oha

variable {κ : Kind} {sp : Space}

theorem read_s {m : Memref sig κ sp S64x2 .f32} (h : m.IsWhole) (X : Vec F S64x2 .f32) (inb) :
    View.readAt (Elt F) m.view (Rect.unit (s := S64x2) ![0, 0] ![64, 2] inb).toLoadRect (h.unread X) = X :=
  Rows.read_whole (N := 64) (C := 2) h X inb

theorem zero2 : ∀ a : Fin 2, (![0, 0] : Fin 2 → ℕ) a = 0 := by decide

section
variable (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : cond1_0 i) (hc1 : ¬cond1_1 i) (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32)

theorem outA_11 : out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = baseOut x0 x3 x4 x8 := by
  unfold out1_A_11 kernelRun1_A
  funext y
  refine (View.read_writes_junk_apply_eq_canon _ y _).trans ?_
  refine (congrFun (View.canon_cons_unit_lit (S := S5376x64) _ _ _ zero2) y).trans (congrFun ?_ y)
  simp only [kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, read_mat0, read_mat1, read_mat2, read_row0, read_row1, read_row2, read_b]
  rfl

theorem outA_12v : out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = @kernelRun1_A.sl.v1403 F _ c arg2 harg2 arg3 harg3 arg4 harg4 arg5 harg5 arg6 harg6 arg7 harg7 arg8 harg8 arg9 harg9 arg15 arg16 arg17 arg18 x1 x2 x3 x4 x5 x6 x7 x8 := by
  unfold out1_A_12 kernelRun1_A
  funext y
  refine (View.read_writes_junk_apply_eq_canon _ y _).trans ?_
  exact congrFun (View.canon_cons_unit_lit (S := S1536x64) _ _ _ zero2) y

theorem outA_12_0 (n : Fin 1536) (g : Fin 256) (o : Fin 64) (h : n.val = 0 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 0 (ix2 g o) := by
  rw [outA_12v]
  exact rowsA_0 c arg2 harg2 arg3 harg3 arg4 harg4 arg5 harg5 arg6 harg6 arg7 harg7 arg8 harg8 arg9 harg9 arg15 arg16 arg17 arg18 x1 x2 x3 x4 x5 x6 x7 x8 n g o h

theorem outA_12_1 (n : Fin 1536) (g : Fin 256) (o : Fin 64) (h : n.val = 1 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 1 (ix2 g o) := by
  rw [outA_12v]
  exact rowsA_1 c arg2 harg2 arg3 harg3 arg4 harg4 arg5 harg5 arg6 harg6 arg7 harg7 arg8 harg8 arg9 harg9 arg15 arg16 arg17 arg18 x1 x2 x3 x4 x5 x6 x7 x8 n g o h

theorem outA_12_2 (n : Fin 1536) (g : Fin 256) (o : Fin 64) (h : n.val = 2 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 2 (ix2 g o) := by
  rw [outA_12v]
  exact rowsA_2 c arg2 harg2 arg3 harg3 arg4 harg4 arg5 harg5 arg6 harg6 arg7 harg7 arg8 harg8 arg9 harg9 arg15 arg16 arg17 arg18 x1 x2 x3 x4 x5 x6 x7 x8 n g o h

theorem outA_12_3 (n : Fin 1536) (g : Fin 256) (o : Fin 64) (h : n.val = 3 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 3 (ix2 g o) := by
  rw [outA_12v]
  exact rowsA_3 c arg2 harg2 arg3 harg3 arg4 harg4 arg5 harg5 arg6 harg6 arg7 harg7 arg8 harg8 arg9 harg9 arg15 arg16 arg17 arg18 x1 x2 x3 x4 x5 x6 x7 x8 n g o h

theorem outA_12_4 (n : Fin 1536) (g : Fin 256) (o : Fin 64) (h : n.val = 4 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 4 (ix2 g o) := by
  rw [outA_12v]
  exact rowsA_4 c arg2 harg2 arg3 harg3 arg4 harg4 arg5 harg5 arg6 harg6 arg7 harg7 arg8 harg8 arg9 harg9 arg15 arg16 arg17 arg18 x1 x2 x3 x4 x5 x6 x7 x8 n g o h

theorem outA_12_5 (n : Fin 1536) (g : Fin 256) (o : Fin 64) (h : n.val = 5 + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 5 (ix2 g o) := by
  rw [outA_12v]
  exact rowsA_5 c arg2 harg2 arg3 harg3 arg4 harg4 arg5 harg5 arg6 harg6 arg7 harg7 arg8 harg8 arg9 harg9 arg15 arg16 arg17 arg18 x1 x2 x3 x4 x5 x6 x7 x8 n g o h

theorem outA_12 (r : Fin 6) (n : Fin 1536) (g : Fin 256) (o : Fin 64) (h : n.val = r.val + 6 * g.val) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n o) = rowsOut x1 x2 x3 x5 x4 x6 x7 x8 r (ix2 g o) :=
  match r, h with
  | 0, h => outA_12_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h
  | 1, h => outA_12_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h
  | 2, h => outA_12_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h
  | 3, h => outA_12_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h
  | 4, h => outA_12_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h
  | 5, h => outA_12_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 n g o h

theorem outA_13 : out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = stat (BitVec.ofNat 32 (i 0).val) (baseOut x0 x3 x4 x8) (out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10) x9 x10 := by
  rw [outA_12v]
  unfold out1_A_13 kernelRun1_A
  funext y
  refine (View.read_writes_junk_apply_eq_canon _ y _).trans ?_
  refine (congrFun (View.canon_cons_unit_lit (S := S64x2) _ _ _ zero2) y).trans (congrFun ?_ y)
  simp only [kernelRun1_A.sl.cst_130, kernelRun1_A.sl.cst_26, kernelRun1_A.sl.cst_45, kernelRun1_A.sl.r, kernelRun1_A.sl.r_1, kernelRun1_A.sl.r_10, kernelRun1_A.sl.r_100, kernelRun1_A.sl.r_101, kernelRun1_A.sl.r_102, kernelRun1_A.sl.r_103, kernelRun1_A.sl.r_104, kernelRun1_A.sl.r_105, kernelRun1_A.sl.r_106, kernelRun1_A.sl.r_107, kernelRun1_A.sl.r_108, kernelRun1_A.sl.r_109, kernelRun1_A.sl.r_11, kernelRun1_A.sl.r_110, kernelRun1_A.sl.r_111, kernelRun1_A.sl.r_112, kernelRun1_A.sl.r_113, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_2, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_3, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_4, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, kernelRun1_A.sl.r_48, kernelRun1_A.sl.r_49, kernelRun1_A.sl.r_5, kernelRun1_A.sl.r_50, kernelRun1_A.sl.r_51, kernelRun1_A.sl.r_52, kernelRun1_A.sl.r_53, kernelRun1_A.sl.r_54, kernelRun1_A.sl.r_55, kernelRun1_A.sl.r_56, kernelRun1_A.sl.r_57, kernelRun1_A.sl.r_58, kernelRun1_A.sl.r_59, kernelRun1_A.sl.r_6, kernelRun1_A.sl.r_60, kernelRun1_A.sl.r_61, kernelRun1_A.sl.r_62, kernelRun1_A.sl.r_63, kernelRun1_A.sl.r_64, kernelRun1_A.sl.r_65, kernelRun1_A.sl.r_66, kernelRun1_A.sl.r_67, kernelRun1_A.sl.r_68, kernelRun1_A.sl.r_69, kernelRun1_A.sl.r_7, kernelRun1_A.sl.r_70, kernelRun1_A.sl.r_71, kernelRun1_A.sl.r_72, kernelRun1_A.sl.r_73, kernelRun1_A.sl.r_74, kernelRun1_A.sl.r_75, kernelRun1_A.sl.r_76, kernelRun1_A.sl.r_77, kernelRun1_A.sl.r_78, kernelRun1_A.sl.r_79, kernelRun1_A.sl.r_8, kernelRun1_A.sl.r_80, kernelRun1_A.sl.r_81, kernelRun1_A.sl.r_82, kernelRun1_A.sl.r_83, kernelRun1_A.sl.r_84, kernelRun1_A.sl.r_85, kernelRun1_A.sl.r_86, kernelRun1_A.sl.r_87, kernelRun1_A.sl.r_88, kernelRun1_A.sl.r_89, kernelRun1_A.sl.r_9, kernelRun1_A.sl.r_90, kernelRun1_A.sl.r_91, kernelRun1_A.sl.r_92, kernelRun1_A.sl.r_93, kernelRun1_A.sl.r_94, kernelRun1_A.sl.r_95, kernelRun1_A.sl.r_96, kernelRun1_A.sl.r_97, kernelRun1_A.sl.r_98, kernelRun1_A.sl.r_99, read_mat0, read_mat1, read_mat2, read_row0, read_row1, read_row2, read_a, read_b, read_s]
  rfl
end

section
variable (c : Dev nD) (i : grid1.Coords) (arg1 : Memref sig .tc .vmem S5376x64 .f32) (harg1 : arg1.IsWhole) (arg2 : Memref sig .tc .vmem S1536x64 .f32) (harg2 : arg2.IsWhole) (arg3 : Memref sig .tc .vmem S1536x64 .f32) (harg3 : arg3.IsWhole) (arg4 : Memref sig .tc .vmem S3x64x64 .f32) (harg4 : arg4.IsWhole) (arg5 : Memref sig .tc .vmem S3x64 .f32) (harg5 : arg5.IsWhole) (arg6 : Memref sig .tc .vmem S3x64x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5376x64 .f32) (harg10 : arg10.IsWhole) (arg11 : Memref sig .tc .vmem S1536x64 .f32) (harg11 : arg11.IsWhole) (arg12 : Memref sig .tc .vmem S5376x64 .f32) (harg12 : arg12.IsWhole) (arg13 : Memref sig .tc .vmem S1536x64 .f32) (harg13 : arg13.IsWhole) (arg14 : Memref sig .tc .vmem S64x2 .f32) (harg14 : arg14.IsWhole) (arg15 : Memref sig .tc .vmem S1536x64 .f32) (harg15 : arg15.IsWhole) (arg16 : Memref sig .tc .vmem S1536x64 .f32) (harg16 : arg16.IsWhole) (arg17 : Memref sig .tc .vmem S1536x64 .f32) (harg17 : arg17.IsWhole) (arg18 : Memref sig .tc .vmem S1536x64 .f32) (harg18 : arg18.IsWhole) (hc0 : ¬cond1_0 i) (hc1 : cond1_1 i) (x0 : Vec F S5376x64 .f32) (x1 : Vec F S1536x64 .f32) (x2 : Vec F S1536x64 .f32) (x3 : Vec F S3x64x64 .f32) (x4 : Vec F S3x64 .f32) (x5 : Vec F S3x64x64 .f32) (x6 : Vec F S3x64 .f32) (x7 : Vec F S3x64 .f32) (x8 : Vec F S3x64 .f32) (x9 : Vec F S5376x64 .f32) (x10 : Vec F S1536x64 .f32) (xo13 : Vec F S64x2 .f32)

theorem outB_11 : out1_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 = baseOut x0 x3 x4 x8 := by
  unfold out1_B_11 kernelRun1_B
  funext y
  refine (View.read_writes_junk_apply_eq_canon _ y _).trans ?_
  refine (congrFun (View.canon_cons_unit_lit (S := S5376x64) _ _ _ zero2) y).trans (congrFun ?_ y)
  simp only [kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, read_mat0, read_mat1, read_mat2, read_row0, read_row1, read_row2, read_b]
  rfl

theorem outB_12v : out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 = @kernelRun1_B.sl.v1403 F _ c arg2 harg2 arg3 harg3 arg4 harg4 arg5 harg5 arg6 harg6 arg7 harg7 arg8 harg8 arg9 harg9 arg15 arg16 arg17 arg18 x1 x2 x3 x4 x5 x6 x7 x8 := by
  unfold out1_B_12 kernelRun1_B
  funext y
  refine (View.read_writes_junk_apply_eq_canon _ y _).trans ?_
  exact congrFun (View.canon_cons_unit_lit (S := S1536x64) _ _ _ zero2) y

theorem outB_12_0 (n : Fin 1536) (g : Fin 256) (o : Fin 64) (h : n.val = 0 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 0 (ix2 g o) := by
  rw [outB_12v]
  exact rowsB_0 c arg2 harg2 arg3 harg3 arg4 harg4 arg5 harg5 arg6 harg6 arg7 harg7 arg8 harg8 arg9 harg9 arg15 arg16 arg17 arg18 x1 x2 x3 x4 x5 x6 x7 x8 n g o h

theorem outB_12_1 (n : Fin 1536) (g : Fin 256) (o : Fin 64) (h : n.val = 1 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 1 (ix2 g o) := by
  rw [outB_12v]
  exact rowsB_1 c arg2 harg2 arg3 harg3 arg4 harg4 arg5 harg5 arg6 harg6 arg7 harg7 arg8 harg8 arg9 harg9 arg15 arg16 arg17 arg18 x1 x2 x3 x4 x5 x6 x7 x8 n g o h

theorem outB_12_2 (n : Fin 1536) (g : Fin 256) (o : Fin 64) (h : n.val = 2 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 2 (ix2 g o) := by
  rw [outB_12v]
  exact rowsB_2 c arg2 harg2 arg3 harg3 arg4 harg4 arg5 harg5 arg6 harg6 arg7 harg7 arg8 harg8 arg9 harg9 arg15 arg16 arg17 arg18 x1 x2 x3 x4 x5 x6 x7 x8 n g o h

theorem outB_12_3 (n : Fin 1536) (g : Fin 256) (o : Fin 64) (h : n.val = 3 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 3 (ix2 g o) := by
  rw [outB_12v]
  exact rowsB_3 c arg2 harg2 arg3 harg3 arg4 harg4 arg5 harg5 arg6 harg6 arg7 harg7 arg8 harg8 arg9 harg9 arg15 arg16 arg17 arg18 x1 x2 x3 x4 x5 x6 x7 x8 n g o h

theorem outB_12_4 (n : Fin 1536) (g : Fin 256) (o : Fin 64) (h : n.val = 4 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 4 (ix2 g o) := by
  rw [outB_12v]
  exact rowsB_4 c arg2 harg2 arg3 harg3 arg4 harg4 arg5 harg5 arg6 harg6 arg7 harg7 arg8 harg8 arg9 harg9 arg15 arg16 arg17 arg18 x1 x2 x3 x4 x5 x6 x7 x8 n g o h

theorem outB_12_5 (n : Fin 1536) (g : Fin 256) (o : Fin 64) (h : n.val = 5 + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 5 (ix2 g o) := by
  rw [outB_12v]
  exact rowsB_5 c arg2 harg2 arg3 harg3 arg4 harg4 arg5 harg5 arg6 harg6 arg7 harg7 arg8 harg8 arg9 harg9 arg15 arg16 arg17 arg18 x1 x2 x3 x4 x5 x6 x7 x8 n g o h

theorem outB_12 (r : Fin 6) (n : Fin 1536) (g : Fin 256) (o : Fin 64) (h : n.val = r.val + 6 * g.val) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 (ix2 n o) = rowsOut x1 x2 x3 x5 x4 x6 x7 x8 r (ix2 g o) :=
  match r, h with
  | 0, h => outB_12_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h
  | 1, h => outB_12_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h
  | 2, h => outB_12_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h
  | 3, h => outB_12_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h
  | 4, h => outB_12_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h
  | 5, h => outB_12_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 n g o h

theorem outB_13 : out1_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13 = addf (shapeCast S64x2 xo13 shapeCasts_S64x2_S64x2) (stat (BitVec.ofNat 32 (i 0).val) (baseOut x0 x3 x4 x8) (out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xo13) x9 x10) := by
  rw [outB_12v]
  unfold out1_B_13 kernelRun1_B
  funext y
  refine (View.read_writes_junk_apply_eq_canon _ y _).trans ?_
  refine (congrFun (View.canon_cons_unit_lit (S := S64x2) _ _ _ zero2) y).trans (congrFun ?_ y)
  simp only [kernelRun1_B.sl.cst_130, kernelRun1_B.sl.cst_26, kernelRun1_B.sl.cst_45, kernelRun1_B.sl.r, kernelRun1_B.sl.r_1, kernelRun1_B.sl.r_10, kernelRun1_B.sl.r_100, kernelRun1_B.sl.r_101, kernelRun1_B.sl.r_102, kernelRun1_B.sl.r_103, kernelRun1_B.sl.r_104, kernelRun1_B.sl.r_105, kernelRun1_B.sl.r_106, kernelRun1_B.sl.r_107, kernelRun1_B.sl.r_108, kernelRun1_B.sl.r_109, kernelRun1_B.sl.r_11, kernelRun1_B.sl.r_110, kernelRun1_B.sl.r_111, kernelRun1_B.sl.r_112, kernelRun1_B.sl.r_113, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_2, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_3, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_4, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, kernelRun1_B.sl.r_48, kernelRun1_B.sl.r_49, kernelRun1_B.sl.r_5, kernelRun1_B.sl.r_50, kernelRun1_B.sl.r_51, kernelRun1_B.sl.r_52, kernelRun1_B.sl.r_53, kernelRun1_B.sl.r_54, kernelRun1_B.sl.r_55, kernelRun1_B.sl.r_56, kernelRun1_B.sl.r_57, kernelRun1_B.sl.r_58, kernelRun1_B.sl.r_59, kernelRun1_B.sl.r_6, kernelRun1_B.sl.r_60, kernelRun1_B.sl.r_61, kernelRun1_B.sl.r_62, kernelRun1_B.sl.r_63, kernelRun1_B.sl.r_64, kernelRun1_B.sl.r_65, kernelRun1_B.sl.r_66, kernelRun1_B.sl.r_67, kernelRun1_B.sl.r_68, kernelRun1_B.sl.r_69, kernelRun1_B.sl.r_7, kernelRun1_B.sl.r_70, kernelRun1_B.sl.r_71, kernelRun1_B.sl.r_72, kernelRun1_B.sl.r_73, kernelRun1_B.sl.r_74, kernelRun1_B.sl.r_75, kernelRun1_B.sl.r_76, kernelRun1_B.sl.r_77, kernelRun1_B.sl.r_78, kernelRun1_B.sl.r_79, kernelRun1_B.sl.r_8, kernelRun1_B.sl.r_80, kernelRun1_B.sl.r_81, kernelRun1_B.sl.r_82, kernelRun1_B.sl.r_83, kernelRun1_B.sl.r_84, kernelRun1_B.sl.r_85, kernelRun1_B.sl.r_86, kernelRun1_B.sl.r_87, kernelRun1_B.sl.r_88, kernelRun1_B.sl.r_89, kernelRun1_B.sl.r_9, kernelRun1_B.sl.r_90, kernelRun1_B.sl.r_91, kernelRun1_B.sl.r_92, kernelRun1_B.sl.r_93, kernelRun1_B.sl.r_94, kernelRun1_B.sl.r_95, kernelRun1_B.sl.r_96, kernelRun1_B.sl.r_97, kernelRun1_B.sl.r_98, kernelRun1_B.sl.r_99, read_mat0, read_mat1, read_mat2, read_row0, read_row1, read_row2, read_a, read_b, read_s]
  rfl
end

end Cert.KernelIdeal.Whole
-- ==== Proof.Val.Real.lean ====
/- One row of one attention layer over the reals: an affine map of the row, the logit of an edge, and the softmax mix of
   a row with its neighbours. -/
module

public import Idealize.ShloMosaic.Lib.Pointwise

@[expose] public section

noncomputable section

namespace Cert.Att

open Idealize.ShloMosaic

/-- A row of 64 features. -/
abbrev Row := Fin 64 → ℝ

/-- The slope of the leaky part, as the program's constant denotes it. -/
def slope : ℝ := 13421773 / 67108864

/-- The guard of the softmax's denominator. -/
def eps : ℝ := (Ideal.ofBits .f32 0x24E69595#32).toReal

theorem slope_coe : Ideal.ofBits .f32 0x3E4CCCCD#32 = (slope : EReal) := by
  unfold slope
  simp [Ideal.ofBits, Ideal.ieee, -EReal.coe_mul]
  norm_num

theorem eps_val : ∃ e : ℝ, 0 < e ∧ Ideal.ofBits .f32 0x24E69595#32 = (e : EReal) := by
  refine ⟨_, ?_, by simp [Ideal.ofBits, Ideal.ieee, -EReal.coe_mul]; rfl⟩
  norm_num

theorem eps_coe : Ideal.ofBits .f32 0x24E69595#32 = (eps : EReal) := by
  obtain ⟨e, -, h⟩ := eps_val
  rw [eps, h, EReal.toReal_coe]

theorem eps_pos : 0 < eps := by
  obtain ⟨e, h0, h⟩ := eps_val
  rw [eps, h, EReal.toReal_coe]
  exact h0

def leaky (t : ℝ) : ℝ := if 0 ≤ t then t else slope * t

/-- A row's image: `W` times it, plus `B`. -/
def affine (W : Fin 64 → Row) (B X : Row) : Row := fun o => ∑ c, X c * W o c + B o

/-- The logit of the edge from a row with image `S` into a row with image `D`. -/
def score (A D S : Row) : ℝ := ∑ o, leaky (S o + D o) * A o

def top (A D L : Row) (SS : List Row) : ℝ := SS.foldl (fun m s => max m (score A D s)) (score A D L)

def den (A D L : Row) (SS : List Row) : ℝ :=
  SS.foldl (fun n s => n + Real.exp (score A D s - top A D L SS)) (Real.exp (score A D L - top A D L SS))

def mix (A D L : Row) (SS : List Row) (o : Fin 64) : ℝ :=
  SS.foldl (fun n s => n + Real.exp (score A D s - top A D L SS) * s o) (Real.exp (score A D L - top A D L SS) * L o)

/-- The mix of a row `L` and its neighbours `SS`, weighted by the softmax of the logits. -/
def gat (A D L : Row) (SS : List Row) : Row := fun o => mix A D L SS o / (den A D L SS + eps)

theorem den_pos (A D L : Row) (SS : List Row) : 0 < den A D L SS := by
  unfold den
  generalize top A D L SS = M
  have : ∀ (SS : List Row) (r : ℝ), 0 < r → 0 < SS.foldl (fun n s => n + Real.exp (score A D s - M)) r := by
    intro SS
    induction SS with
    | nil => exact fun r h => h
    | cons s SS ih => exact fun r h => ih _ (add_pos h (Real.exp_pos _))
  exact this SS _ (Real.exp_pos _)

theorem leaky_coe (t : ℝ) : (if (0 : EReal) ≤ (t : EReal) then (t : EReal) else Ideal.ofBits .f32 1045220557#32 * (t : EReal)) = (leaky t : EReal) := by
  unfold leaky
  by_cases h : 0 ≤ t
  · rw [if_pos h, if_pos (EReal.coe_nonneg.mpr h)]
  · rw [if_neg h, if_neg (fun h' => h (EReal.coe_nonneg.mp h')), slope_coe, ← EReal.coe_mul]

theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

theorem score_coe (A D S : Row) (a d s : Fin 64 → EReal) (hA : ∀ o, a o = (A o : EReal)) (hD : ∀ o, d o = (D o : EReal))
    (hS : ∀ o, s o = (S o : EReal)) :
    ∑ x, (if 0 ≤ s x + d x then s x + d x else Ideal.ofBits .f32 1045220557#32 * (s x + d x)) * a x = (score A D S : EReal) := by
  unfold score
  rw [coe_sum]
  refine Finset.sum_congr rfl fun o _ => ?_
  rw [hA, hD, hS, ← EReal.coe_add, leaky_coe, ← EReal.coe_mul]

theorem affine_coe (W : Fin 64 → Row) (B X : Row) (o : Fin 64) (w x : Fin 64 → EReal) (b : EReal) (hW : ∀ c, w c = (W o c : EReal))
    (hB : b = (B o : EReal)) (hX : ∀ c, x c = (X c : EReal)) : ∑ c, x c * w c + b = (affine W B X o : EReal) := by
  unfold affine
  rw [EReal.coe_add, coe_sum, hB]
  refine congrArg (· + _) (Finset.sum_congr rfl fun c _ => ?_)
  rw [hW, hX, ← EReal.coe_mul]

theorem gat_coe (A D L : Row) (SS : List Row) (o : Fin 64) (O B : ℝ) :
    (O : EReal) + Ideal.div (mix A D L SS o : EReal) ((den A D L SS : EReal) + Ideal.ofBits .f32 0x24E69595#32) + (B : EReal)
      = ((O + gat A D L SS o + B : ℝ) : EReal) := by
  rw [eps_coe, ← EReal.coe_add, Ideal.div_coe (ne_of_gt (add_pos (den_pos A D L SS) eps_pos)), ← EReal.coe_mul, ← EReal.coe_add, ← EReal.coe_add]
  rw [gat, mul_one_div]

/-- The layers' matrices and vectors. -/
structure Params where
  Wl : Fin 3 → Fin 64 → Row
  Wr : Fin 3 → Fin 64 → Row
  Bl : Fin 3 → Row
  Br : Fin 3 → Row
  A : Fin 3 → Row
  B : Fin 3 → Row

/-- Layer `i`'s contribution to a row from its neighbours. -/
def layer (P : Params) (i : Fin 3) (own : Row) (nb : List Row) : Row := fun o =>
  gat (P.A i) (affine (P.Wr i) (P.Br i) own) (affine (P.Wl i) (P.Bl i) own) (nb.map (affine (P.Wl i) (P.Bl i))) o + P.B i o

/-- A row that receives neighbours, the layers summed. -/
def withNbrs (P : Params) (own : Row) (nb : List Row) : Row := fun o => ∑ i, layer P i own nb o

/-- A row that receives none. -/
def alone (P : Params) (own : Row) : Row := fun o => ∑ i, (affine (P.Wl i) (P.Bl i) own o + P.B i o)

/-! ## A channel's normalisation -/

/-- How many rows a channel's sum is divided by. -/
def cnt : ℝ := 172032

theorem cnt_coe : Ideal.ofBits .f32 0x48280000#32 = (cnt : EReal) := by
  unfold cnt
  simp [Ideal.ofBits, Ideal.ieee, -EReal.coe_mul]
  norm_num

/-- The normalisation's guard. -/
def tiny : ℝ := (Ideal.ofBits .f32 0x3727C5AC#32).toReal

theorem tiny_val : ∃ e : ℝ, 0 < e ∧ Ideal.ofBits .f32 0x3727C5AC#32 = (e : EReal) := by
  refine ⟨_, ?_, by simp [Ideal.ofBits, Ideal.ieee, -EReal.coe_mul]; rfl⟩
  norm_num

theorem tiny_coe : Ideal.ofBits .f32 0x3727C5AC#32 = (tiny : EReal) := by
  obtain ⟨e, -, h⟩ := tiny_val
  rw [tiny, h, EReal.toReal_coe]

theorem tiny_pos : 0 < tiny := by
  obtain ⟨e, h0, h⟩ := tiny_val
  rw [tiny, h, EReal.toReal_coe]
  exact h0

/-- The variance from the sum and the sum of squares. -/
def spread (S Q : ℝ) : ℝ := Q / cnt - S / cnt * (S / cnt)

/-- The factor and the offset a channel's entries are changed by. -/
def factor (S Q W : ℝ) : ℝ := W * (Real.sqrt (spread S Q + tiny))⁻¹
def offset (S Q W B : ℝ) : ℝ := B - S / cnt * factor S Q W

end Cert.Att
-- ==== Proof.Val.Att.lean ====
/- One row of one attention layer over the reals, and the kernel's vector operations read at a row. -/
module

public import proofs.«01_k».proof.Proof.Val.Step
public import proofs.«01_k».proof.Proof.Val.Real
public import Idealize.ShloMosaic.Lib.Pointwise

@[expose] public section

noncomputable section

namespace Cert.KernelIdeal.Whole

open Cert.KernelIdeal Cert.KernelIdeal.Gen Idealize.ShloMosaic Cert.Att

theorem lgt_apply (att : Vec Ideal S1x64 .f32) (d s : Vec Ideal S256x64 .f32) (g : Fin 256) (j : Fin 1) (A D S : Row)
    (hA : ∀ o, att (ix2 0 o) = (A o : EReal)) (hD : ∀ o, d (ix2 g o) = (D o : EReal)) (hS : ∀ o, s (ix2 g o) = (S o : EReal)) :
    lgt att d s (ix2 g j) = (score A D S : EReal) := by
  unfold lgt
  pointwise
  exact score_coe A D S _ _ _ hA hD hS

section
variable (att : Vec Ideal S1x64 .f32) (d : Vec Ideal S256x64 .f32) (g : Fin 256) (A D : Row)
    (hA : ∀ o, att (ix2 0 o) = (A o : EReal)) (hD : ∀ o, d (ix2 g o) = (D o : EReal))
include hA hD

/-- `s` holds the real row `S` at row `g`. -/
def Holds (g : Fin 256) (s : Vec Ideal S256x64 .f32) (S : Row) : Prop := ∀ o, s (ix2 g o) = (S o : EReal)

theorem max_apply (ss : List (Vec Ideal S256x64 .f32)) (SS : List Row) (h : List.Forall₂ (Holds g) ss SS) :
    ∀ (l : FVec Ideal S256x1 .f32) (r : ℝ), l (ix2 g 0) = (r : EReal) →
      (ss.foldl (fun m s => maximumf m (lgt att d s)) l) (ix2 g 0) = ((SS.foldl (fun m s => max m (score A D s)) r : ℝ) : EReal) := by
  induction h with
  | nil => exact fun l r hl => hl
  | cons hs _ ih =>
    intro l r hl
    refine ih _ _ ?_
    have h1 := lgt_apply att d _ g 0 A D _ hA hD hs
    pointwise
    rw [hl, h1]
    exact (EReal.coe_strictMono.monotone.map_max (a := _) (b := _)).symm

theorem wgt_apply (s : Vec Ideal S256x64 .f32) (S : Row) (hs : Holds g s S) (m : FVec Ideal S256x1 .f32) (M : ℝ)
    (hm : m (ix2 g 0) = (M : EReal)) : wgt att d s m (ix2 g 0) = ((Real.exp (score A D S - M) : ℝ) : EReal) := by
  have h1 := lgt_apply att d _ g 0 A D _ hA hD hs
  unfold wgt
  pointwise
  rw [h1, hm, ← EReal.coe_sub, Ideal.exp_coe]

theorem den_apply (m : FVec Ideal S256x1 .f32) (M : ℝ) (hm : m (ix2 g 0) = (M : EReal))
    (ss : List (Vec Ideal S256x64 .f32)) (SS : List Row) (h : List.Forall₂ (Holds g) ss SS) :
    ∀ (l : FVec Ideal S256x1 .f32) (r : ℝ), l (ix2 g 0) = (r : EReal) →
      (ss.foldl (fun n s => addf n (wgt att d s m)) l) (ix2 g 0)
        = ((SS.foldl (fun n s => n + Real.exp (score A D s - M)) r : ℝ) : EReal) := by
  induction h with
  | nil => exact fun l r hl => hl
  | cons hs _ ih =>
    intro l r hl
    refine ih _ _ ?_
    have h1 := wgt_apply att d g A D hA hD _ _ hs m M hm
    pointwise
    rw [hl, h1, ← EReal.coe_add]

theorem mix_apply (m : FVec Ideal S256x1 .f32) (M : ℝ) (hm : m (ix2 g 0) = (M : EReal)) (o : Fin 64)
    (ss : List (Vec Ideal S256x64 .f32)) (SS : List Row) (h : List.Forall₂ (Holds g) ss SS) :
    ∀ (l : FVec Ideal S256x64 .f32) (r : ℝ), l (ix2 g o) = (r : EReal) →
      (ss.foldl (fun n s => addf n (mulf (broadcastTo S256x64 (wgt att d s m) broadcasts_S256x1_S256x64) s)) l) (ix2 g o)
        = ((SS.foldl (fun n s => n + Real.exp (score A D s - M) * s o) r : ℝ) : EReal) := by
  induction h with
  | nil => exact fun l r hl => hl
  | cons hs _ ih =>
    intro l r hl
    refine ih _ _ ?_
    have h1 := wgt_apply att d g A D hA hD _ _ hs m M hm
    have h2 := hs o
    pointwise
    rw [hl, h1, h2, ← EReal.coe_mul, ← EReal.coe_add]

theorem step_apply (b : Vec Ideal S1x64 .f32) (B : Row) (hB : ∀ o, b (ix2 0 o) = (B o : EReal))
    (l : Vec Ideal S256x64 .f32) (L : Row) (hL : Holds g l L)
    (ss : List (Vec Ideal S256x64 .f32)) (SS : List Row) (h : List.Forall₂ (Holds g) ss SS)
    (old : Vec Ideal S256x64 .f32) (O : Row) (hO : Holds g old O) :
    Holds g (step att b d l ss old) fun o => O o + gat A D L SS o + B o := by
  intro o
  have hm := max_apply att d g A D hA hD ss SS h _ _ (lgt_apply att d l g 0 A D L hA hD hL)
  have h1 := wgt_apply att d g A D hA hD l L hL _ _ hm
  have h2 := den_apply att d g A D hA hD _ _ hm ss SS h _ _ h1
  have h3 := mix_apply att d g A D hA hD _ _ hm o ss SS h
    (mulf (broadcastTo S256x64 (wgt att d l (stepMax att d l ss)) broadcasts_S256x1_S256x64) l) _ (by
      have := hL o
      pointwise
      rw [this]
      refine (congrArg (· * _) h1).trans ?_
      rw [← EReal.coe_mul])
  unfold step
  have e1 : stepMix att d l ss (stepMax att d l ss) (ix2 g o) = _ := h3
  have e2 : stepDen att d l ss (stepMax att d l ss) (ix2 g 0) = _ := h2
  pointwise
  rw [e1, e2, hO o, hB o]
  exact gat_coe A D L SS o _ _
end

theorem lin_apply (x : Vec Ideal S1536x64 .f32) (w : Vec Ideal S1x64x64 .f32) (b : Vec Ideal S1x64 .f32) (n : Fin 1536) (o : Fin 64)
    (X B : Row) (W : Fin 64 → Row) (hX : ∀ c, x (ix2 n c) = (X c : EReal)) (hB : ∀ o, b (ix2 0 o) = (B o : EReal))
    (hW : ∀ o c, w (ix3 0 o c) = (W o c : EReal)) :
    lin x w b (ix2 n o) = (affine W B X o : EReal) := by
  unfold lin
  pointwise
  exact affine_coe W B X o _ _ _ (hW o) (hB o) hX

theorem linB_apply (x : Vec Ideal S5376x64 .f32) (w : Vec Ideal S1x64x64 .f32) (b : Vec Ideal S1x64 .f32) (n : Fin 5376) (o : Fin 64)
    (X B : Row) (W : Fin 64 → Row) (hX : ∀ c, x (ix2 n c) = (X c : EReal)) (hB : ∀ o, b (ix2 0 o) = (B o : EReal))
    (hW : ∀ o c, w (ix3 0 o c) = (W o c : EReal)) :
    linB x w b (ix2 n o) = (affine W B X o : EReal) := by
  unfold linB
  pointwise
  exact affine_coe W B X o _ _ _ (hW o) (hB o) hX

end Cert.KernelIdeal.Whole
-- ==== Proof.Val.Block.lean ====
/- The second call's blocks over the reals. -/
module

public import proofs.«01_k».proof.Proof.Val.Att
public import proofs.«01_k».proof.Proof.Val.Out

@[expose] public section

noncomputable section

namespace Cert.KernelIdeal.Whole

open Cert.KernelIdeal Cert.KernelIdeal.Gen Idealize.ShloMosaic Cert.Att

/-- The matrices and vectors hold the reals `P`. -/
structure HoldsP (P : Params) (wl wr : Vec Ideal S3x64x64 .f32) (bl br att b : Vec Ideal S3x64 .f32) : Prop where
  wl : ∀ i o c, wl (ix3 i o c) = (P.Wl i o c : EReal)
  wr : ∀ i o c, wr (ix3 i o c) = (P.Wr i o c : EReal)
  bl : ∀ i o, bl (ix2 i o) = (P.Bl i o : EReal)
  br : ∀ i o, br (ix2 i o) = (P.Br i o : EReal)
  att : ∀ i o, att (ix2 i o) = (P.A i o : EReal)
  b : ∀ i o, b (ix2 i o) = (P.B i o : EReal)

theorem forall2_map {α : Type} (g : Fin 256) (f : α → Vec Ideal S256x64 .f32) (h : α → Row) (H : ∀ c, Holds g (f c) (h c)) :
    ∀ l : List α, List.Forall₂ (Holds g) (l.map f) (l.map h)
  | [] => .nil
  | c :: l => .cons (H c) (forall2_map g f h H l)

section
variable (P : Params) (xd xs : Vec Ideal S1536x64 .f32) (wl wr : Vec Ideal S3x64x64 .f32) (bl br att b : Vec Ideal S3x64 .f32)
  (hP : HoldsP P wl wr bl br att b) (XD XS : Fin 1536 → Row)
  (hd : ∀ n o, xd (ix2 n o) = (XD n o : EReal)) (hs : ∀ n o, xs (ix2 n o) = (XS n o : EReal))
include hP hd hs

/-- Row `r + 6 g` of a block. -/
def at6 (X : Fin 1536 → Row) (r : Fin 6) (g : Fin 256) : Row := X ⟨r.val + 6 * g.val, cut_lt r.val r.isLt g⟩

theorem layerStep_apply (i : Fin 3) (r : Fin 6) (g : Fin 256) (old : Vec Ideal S256x64 .f32) (O : Row) (hO : Holds g old O) :
    Holds g (layerStep xd xs wl wr bl br att b i r old) fun o => O o + layer P i (at6 XD r g) ((nbrs r).map fun c => at6 XS c g) o := by
  have h := step_apply (row i att) (six r.val r.isLt (lin xd (mat i wr) (row i br))) g (P.A i)
    (affine (P.Wr i) (P.Br i) (at6 XD r g)) (fun o => hP.att i o)
    (fun o => lin_apply xd (mat i wr) (row i br) ⟨r.val + 6 * g.val, cut_lt r.val r.isLt g⟩ o _ (P.Br i) (P.Wr i) (fun c => hd _ c)
      (fun o => hP.br i o) (fun o c => hP.wr i o c))
    (row i b) (P.B i) (fun o => hP.b i o)
    (six r.val r.isLt (lin xd (mat i wl) (row i bl))) (affine (P.Wl i) (P.Bl i) (at6 XD r g))
    (fun o => lin_apply xd (mat i wl) (row i bl) ⟨r.val + 6 * g.val, cut_lt r.val r.isLt g⟩ o _ (P.Bl i) (P.Wl i) (fun c => hd _ c)
      (fun o => hP.bl i o) (fun o c => hP.wl i o c))
    _ _ (forall2_map g (fun c : Fin 6 => six c.val c.isLt (lin xs (mat i wl) (row i bl))) (fun c => affine (P.Wl i) (P.Bl i) (at6 XS c g))
      (fun c o => lin_apply xs (mat i wl) (row i bl) ⟨c.val + 6 * g.val, cut_lt c.val c.isLt g⟩ o _ (P.Bl i) (P.Wl i) (fun c => hs _ c)
      (fun o => hP.bl i o) (fun o c => hP.wl i o c)) (nbrs r)) old O hO
  intro o
  refine (h o).trans ?_
  simp only [layer]
  rw [List.map_map, add_assoc]
  rfl

theorem rowsOut_apply (r : Fin 6) (g : Fin 256) :
    Holds g (rowsOut xd xs wl wr bl br att b r) (withNbrs P (at6 XD r g) ((nbrs r).map fun c => at6 XS c g)) := by
  have h0 : Holds g (six (α := Ideal .f32) r.val r.isLt (shapeCast S1536x64 (broadcast (α := Ideal .f32) S1536x64 (Scalar.ofBits .f32 0x00000000#32))
      shapeCasts_S1536x64_S1536x64)) fun _ => 0 := by
    intro o
    show (shapeCast S1536x64 (broadcast (α := Ideal .f32) S1536x64 (Scalar.ofBits .f32 0x00000000#32)) shapeCasts_S1536x64_S1536x64)
      (ix2 ⟨r.val + 6 * g.val, cut_lt r.val r.isLt g⟩ o) = _
    pointwise
    rfl
  have h1 := layerStep_apply P xd xs wl wr bl br att b hP XD XS hd hs 0 r g _ _ h0
  have h2 := layerStep_apply P xd xs wl wr bl br att b hP XD XS hd hs 1 r g _ _ h1
  have h3 := layerStep_apply P xd xs wl wr bl br att b hP XD XS hd hs 2 r g _ _ h2
  intro o
  refine (h3 o).trans ?_
  beta_reduce
  rw [withNbrs, Fin.sum_univ_three, zero_add]
end

section
variable (P : Params) (x : Vec Ideal S5376x64 .f32) (wl wr : Vec Ideal S3x64x64 .f32) (bl br att b : Vec Ideal S3x64 .f32)
  (hP : HoldsP P wl wr bl br att b) (X : Fin 5376 → Row) (hx : ∀ n o, x (ix2 n o) = (X n o : EReal))
include hP hx

theorem baseStep_apply (i : Fin 3) (n : Fin 5376) (o : Fin 64) (old : FVec Ideal S5376x64 .f32) (r : ℝ) (h : old (ix2 n o) = (r : EReal)) :
    baseStep x wl bl b i old (ix2 n o) = ((r + (affine (P.Wl i) (P.Bl i) (X n) o + P.B i o) : ℝ) : EReal) := by
  have h1 := linB_apply x (mat i wl) (row i bl) n o (X n) (P.Bl i) (P.Wl i) (fun c => hx n c) (fun o => hP.bl i o) (fun o c => hP.wl i o c)
  have h2 : row i b (ix2 0 o) = (P.B i o : EReal) := hP.b i o
  unfold baseStep
  pointwise
  rw [h, h1, h2, ← EReal.coe_add, ← EReal.coe_add, add_assoc]

theorem baseOut_apply (n : Fin 5376) (o : Fin 64) : baseOut x wl bl b (ix2 n o) = (alone P (X n) o : EReal) := by
  have h0 : (broadcast S5376x64 (Scalar.ofBits (F := Ideal) .f32 0x00000000#32) : FVec Ideal S5376x64 .f32) (ix2 n o) = ((0 : ℝ) : EReal) := by
    pointwise
    rfl
  have h1 := baseStep_apply P x wl wr bl br att b hP X hx 0 n o _ _ h0
  have h2 := baseStep_apply P x wl wr bl br att b hP X hx 1 n o _ _ h1
  have h3 := baseStep_apply P x wl wr bl br att b hP X hx 2 n o _ _ h2
  refine h3.trans ?_
  rw [alone, Fin.sum_univ_three, zero_add]
end

/-- Row `n` of the `j`-th block counts as one of the rows without neighbours. -/
def tailw (j : Fin 32) (n : Fin 5376) : ℝ := if 49152 ≤ 5376 * j.val + n.val then 1 else 0

theorem tail_coe (j : Fin 32) (n : Fin 5376) : (FloatOps.sitofp FTy.f32 (BitVec.setWidth 32
    (IntOp.cmpi CmpIPredicate.sge (IntOp.addi (Scalar.muli (BitVec.ofNat 32 j.val) 5376#32) (BitVec.ofNat 32 n.val)) 49152#32)) : Ideal .f32)
    = (tailw j n : EReal) := by
  have e : IntOp.addi (Scalar.muli (BitVec.ofNat 32 j.val) 5376#32) (BitVec.ofNat 32 n.val) = BitVec.ofNat 32 (5376 * j.val + n.val) := by
    apply BitVec.eq_of_toNat_eq
    simp [IntOp.addi, Scalar.muli, IntOp.muli, BitVec.toNat_add, BitVec.toNat_mul]
    have := j.isLt
    have := n.isLt
    omega
  have h1 : 5376 * j.val + n.val < 2 ^ (32 - 1) := by have := j.isLt; have := n.isLt; omega
  rw [e, WordCmp.cmpi_sge_ofNat h1 (by norm_num)]
  unfold tailw
  split
  · rename_i h
    simp [FloatOps.sitofp, h]
  · rename_i h
    simp [FloatOps.sitofp, h]

section
variable (j : Fin 32) (base : FVec Ideal S5376x64 .f32) (a : Vec Ideal S1536x64 .f32) (ohb : Vec Ideal S5376x64 .f32)
  (oha : Vec Ideal S1536x64 .f32) (Y : Fin 5376 → Row) (Z : Fin 1536 → Row) (U : Fin 5376 → Row) (V : Fin 1536 → Row)
  (hY : ∀ n o, base (ix2 n o) = (Y n o : EReal)) (hZ : ∀ n o, a (ix2 n o) = (Z n o : EReal))
  (hU : ∀ n o, ohb (ix2 n o) = (U n o : EReal)) (hV : ∀ n o, oha (ix2 n o) = (V n o : EReal)) (ch : Fin 64)
include hY hZ hU hV

/-- The block's contribution to a channel's sum of `f` over the entries. -/
def part (f : ℝ → ℝ) : ℝ :=
  ∑ n, U n ch * ((∑ o, f (Y n o)) * tailw j n) + ∑ n, V n ch * ∑ o, f (Z n o)

theorem stat_apply0 : stat (BitVec.ofNat 32 j.val) base a ohb oha (ix2 ch 0) = (part j Y Z U V ch (fun y => y) : EReal) := by
  unfold stat k1_pay177 k1_pay175
  pointwise
  simp only [tail_coe, hY, hZ, hU, hV, part, Row]
  simp only [EReal.coe_mul, EReal.coe_add, coe_sum]

theorem stat_apply1 : stat (BitVec.ofNat 32 j.val) base a ohb oha (ix2 ch 1) = (part j Y Z U V ch (fun y => y * y) : EReal) := by
  unfold stat k1_pay177 k1_pay175
  pointwise
  simp only [tail_coe, hY, hZ, hU, hV, part, Row]
  simp only [EReal.coe_mul, EReal.coe_add, coe_sum]
end

end Cert.KernelIdeal.Whole
-- ==== Proof.Val.Arr1.lean ====
/- The arrays the second call leaves. -/
module

public import proofs.«01_k».proof.Proof.Val.Out
public import proofs.«01_k».proof.Proof.Val.Block
public import Idealize.ShloMosaic.Lib.Pipeline.ValueKit.Partial
public import Idealize.ShloMosaic.Lib.Pipeline.ValueKit.Acc

@[expose] public section

set_option maxRecDepth 16384

noncomputable section

namespace Cert.KernelIdeal.Whole

open Cert.KernelIdeal Cert.KernelIdeal.Gen Idealize.ShloMosaic Idealize.ShloMosaic.TcCoe Cert.Att

theorem coord1 : ∀ t : Fin cfg1.N, ((grid1.coords t) 0).val = t.val := (by decide +kernel : ∀ t : Fin grid1.N, ((grid1.coords t) 0).val = t.val)
theorem index1_0 : ∀ t : Fin cfg1.N, win1_0.index t = ![t.val, 0] := (by decide +kernel : ∀ t : Fin grid1.N, win1_0.index t = ![t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])
theorem index1_3 : ∀ t : Fin cfg1.N, win1_3.index t = ![0, 0, 0] := (by decide +kernel : ∀ t : Fin grid1.N, win1_3.index t = ![0, 0, 0])
theorem index1_4 : ∀ t : Fin cfg1.N, win1_4.index t = ![0, 0] := (by decide +kernel : ∀ t : Fin grid1.N, win1_4.index t = ![0, 0])
theorem index1_5 : ∀ t : Fin cfg1.N, win1_5.index t = ![0, 0, 0] := (by decide +kernel : ∀ t : Fin grid1.N, win1_5.index t = ![0, 0, 0])
theorem index1_6 : ∀ t : Fin cfg1.N, win1_6.index t = ![0, 0] := (by decide +kernel : ∀ t : Fin grid1.N, win1_6.index t = ![0, 0])
theorem index1_7 : ∀ t : Fin cfg1.N, win1_7.index t = ![0, 0] := (by decide +kernel : ∀ t : Fin grid1.N, win1_7.index t = ![0, 0])
theorem index1_8 : ∀ t : Fin cfg1.N, win1_8.index t = ![0, 0] := (by decide +kernel : ∀ t : Fin grid1.N, win1_8.index t = ![0, 0])
theorem index1_9 : ∀ t : Fin cfg1.N, win1_9.index t = ![0, 0] := (by decide +kernel : ∀ t : Fin grid1.N, win1_9.index t = ![0, 0])
theorem index1_10 : ∀ t : Fin cfg1.N, win1_10.index t = ![t.val % 7, 0] := (by decide +kernel : ∀ t : Fin grid1.N, win1_10.index t = ![t.val % 7, 0])
theorem index1_11 : ∀ t : Fin cfg1.N, win1_11.index t = ![t.val, 0] := (by decide +kernel : ∀ t : Fin grid1.N, win1_11.index t = ![t.val, 0])
theorem index1_12 : ∀ t : Fin cfg1.N, win1_12.index t = ![t.val, 0] := (by decide +kernel : ∀ t : Fin grid1.N, win1_12.index t = ![t.val, 0])

variable {F : FTy → Type} [FloatOps F]
variable (V : (c : Dev nD) → (b : Ref sig .tc) → Buf (Elt F) ((c : Thread nD τ).loc b)) (c : Dev nD) (t : Fin cfg1.N)

theorem in1_3 : iblk1 V c 3 t = V c main_arg1 := by
  funext y
  blk_simp [iblk1]
  congr 1
  blk_ext [index1_3]

theorem in1_4 : iblk1 V c 4 t = V c main_arg2 := by
  funext y
  blk_simp [iblk1]
  congr 1
  blk_ext [index1_4]

theorem in1_5 : iblk1 V c 5 t = V c main_arg3 := by
  funext y
  blk_simp [iblk1]
  congr 1
  blk_ext [index1_5]

theorem in1_6 : iblk1 V c 6 t = V c main_arg4 := by
  funext y
  blk_simp [iblk1]
  congr 1
  blk_ext [index1_6]

theorem in1_7 : iblk1 V c 7 t = V c main_arg5 := by
  funext y
  blk_simp [iblk1]
  congr 1
  blk_ext [index1_7]

theorem in1_8 : iblk1 V c 8 t = V c main_arg6 := by
  funext y
  blk_simp [iblk1]
  congr 1
  blk_ext [index1_8]

theorem in1_9 : iblk1 V c 9 t = V c main_v15 := by
  funext y
  blk_simp [iblk1]
  congr 1
  blk_ext [index1_9]

theorem last1 : 31 < cfg1.N := lt_of_lt_of_eq (by norm_num) N_1.symm

/-- The last point. -/
def end1 : Fin cfg1.N := ⟨31, last1⟩

theorem lt32 : t.val < 32 := lt_of_lt_of_eq t.isLt N_1

theorem stepWord : BitVec.ofNat 32 t.val = BitVec.ofNat 32 ((grid1.coords t) 0).val := by rw [coord1]

/-- The rows with no neighbours counted, at any point. -/
theorem outs1_11 : (outsAt1 V c t.val t.isLt).1 = baseOut (iblk1 V c 0 t) (iblk1 V c 3 t) (iblk1 V c 4 t) (iblk1 V c 8 t) := by
  have ht := lt32 t
  by_cases h : 1 ≤ t.val
  · rw [outsAt1_B V c t (by omega) h]
    dsimp only
    rw [outB_11 (F := F)]
  · rw [outsAt1_A V c t (by omega) h]
    dsimp only
    rw [outA_11 (F := F)]

theorem outs1_12 (r : Fin 6) (n : Fin 1536) (g : Fin 256) (o : Fin 64) (hn : n.val = r.val + 6 * g.val) :
    (outsAt1 V c t.val t.isLt).2.1 (ix2 n o) = rowsOut (iblk1 V c 1 t) (iblk1 V c 2 t) (iblk1 V c 3 t) (iblk1 V c 5 t) (iblk1 V c 4 t)
      (iblk1 V c 6 t) (iblk1 V c 7 t) (iblk1 V c 8 t) r (ix2 g o) := by
  have ht := lt32 t
  by_cases h : 1 ≤ t.val
  · rw [outsAt1_B V c t (by omega) h]
    dsimp only
    rw [outB_12 (F := F) (h := hn)]
  · rw [outsAt1_A V c t (by omega) h]
    dsimp only
    rw [outA_12 (F := F) (h := hn)]

/-- The first point's sums. -/
theorem outs1_13_first (h : ¬1 ≤ t.val) : (outsAt1 V c t.val t.isLt).2.2
    = stat (BitVec.ofNat 32 t.val) (outsAt1 V c t.val t.isLt).1 (outsAt1 V c t.val t.isLt).2.1 (iblk1 V c 9 t) (iblk1 V c 10 t) := by
  have ht := lt32 t
  rw [outs1_11, outsAt1_A V c t (by omega) h, stepWord t]
  dsimp only
  rw [outA_13 (F := F)]

/-- A later point's, over the point before's. -/
theorem outs1_13_next (h : 1 ≤ t.val) : (outsAt1 V c t.val t.isLt).2.2
    = addf (shapeCast S64x2 (outsAt1 V c (t.val - 1) (Nat.lt_of_le_of_lt (Nat.sub_le _ _) t.isLt)).2.2 shapeCasts_S64x2_S64x2)
      (stat (BitVec.ofNat 32 t.val) (outsAt1 V c t.val t.isLt).1 (outsAt1 V c t.val t.isLt).2.1 (iblk1 V c 9 t) (iblk1 V c 10 t)) := by
  have ht := lt32 t
  rw [outs1_11, outsAt1_B V c t (by omega) h, stepWord t]
  dsimp only
  rw [outB_13 (F := F)]

/-! ## Over the reals -/

/-- Row `n` with the neighbours its residue modulo 6 names counted. -/
def received (P : Params) (X XS : ℕ → Row) (n : ℕ) : Row :=
  withNbrs P (X n) ((nbrs ⟨n % 6, Nat.mod_lt _ (by norm_num)⟩).map fun c => XS (6 * (n / 6) + c.val))

/-- What the second call finds in its operands. -/
structure Entry1 (V : (c : Dev nD) → (b : Ref sig .tc) → Buf (Elt Ideal) ((c : Thread nD τ).loc b)) (c : Dev nD)
    (P : Params) (X XS : ℕ → Row) (U W : ℕ → Row) : Prop where
  P : HoldsP P (V c main_arg1) (V c main_arg3) (V c main_arg2) (V c main_arg4) (V c main_arg5) (V c main_arg6)
  X : ∀ (n : Fin 172032) (o : Fin 64), (V c main_v4 : Vec Ideal S172032x64 .f32) (ix2 n o) = (X n.val o : EReal)
  XS : ∀ (n : Fin 49152) (o : Fin 64), (V c main_v5 : Vec Ideal S49152x64 .f32) (ix2 n o) = (XS n.val o : EReal)
  U : ∀ (n : Fin 5376) (o : Fin 64), (V c main_v15 : Vec Ideal S5376x64 .f32) (ix2 n o) = (U n.val o : EReal)
  W : ∀ (n : Fin 10752) (o : Fin 64), (V c main_v25 : Vec Ideal S10752x64 .f32) (ix2 n o) = (W n.val o : EReal)

section
variable (V : (c : Dev nD) → (b : Ref sig .tc) → Buf (Elt Ideal) ((c : Thread nD τ).loc b)) (c : Dev nD)
    (P : Params) (X XS : ℕ → Row) (U W : ℕ → Row) (E : Entry1 V c P X XS U W) (t : Fin cfg1.N)
include E

theorem blk1_0 (n : Fin 5376) (o : Fin 64) : (iblk1 V c 0 t : Vec Ideal S5376x64 .f32) (ix2 n o) = (X (5376 * t.val + n.val) o : EReal) := by
  have ht := lt32 t
  have h := E.X ⟨5376 * t.val + n.val, by omega⟩ o
  rw [← h]
  blk_simp [iblk1]
  congr 1
  blk_ext [index1_0]

theorem blk1_1 (n : Fin 1536) (o : Fin 64) : (iblk1 V c 1 t : Vec Ideal S1536x64 .f32) (ix2 n o) = (X (1536 * t.val + n.val) o : EReal) := by
  have ht := lt32 t
  have h := E.X ⟨1536 * t.val + n.val, by omega⟩ o
  rw [← h]
  blk_simp [iblk1]
  congr 1
  blk_ext [index1_1]

theorem blk1_2 (n : Fin 1536) (o : Fin 64) : (iblk1 V c 2 t : Vec Ideal S1536x64 .f32) (ix2 n o) = (XS (1536 * t.val + n.val) o : EReal) := by
  have ht := lt32 t
  have h := E.XS ⟨1536 * t.val + n.val, by omega⟩ o
  rw [← h]
  blk_simp [iblk1]
  congr 1
  blk_ext [index1_2]

theorem blk1_10 (n : Fin 1536) (o : Fin 64) : (iblk1 V c 10 t : Vec Ideal S1536x64 .f32) (ix2 n o) = (W (1536 * (t.val % 7) + n.val) o : EReal) := by
  have ht := lt32 t
  have h := E.W ⟨1536 * (t.val % 7) + n.val, by omega⟩ o
  rw [← h]
  blk_simp [iblk1]
  congr 1
  blk_ext [index1_10]

theorem base1 (n : Fin 5376) (o : Fin 64) : (outsAt1 V c t.val t.isLt).1 (ix2 n o) = (alone P (X (5376 * t.val + n.val)) o : EReal) := by
  rw [outs1_11, in1_3, in1_4, in1_8]
  exact baseOut_apply P _ _ _ _ _ _ _ E.P (fun n => X (5376 * t.val + n.val)) (fun n o => blk1_0 V c P X XS U W E t n o) n o

theorem rows1 (n : Fin 1536) (o : Fin 64) : (outsAt1 V c t.val t.isLt).2.1 (ix2 n o) = (received P X XS (1536 * t.val + n.val) o : EReal) := by
  have hn : n.val = n.val % 6 + 6 * (n.val / 6) := by omega
  rw [outs1_12 V c t ⟨n.val % 6, Nat.mod_lt _ (by norm_num)⟩ n ⟨n.val / 6, by omega⟩ o hn, in1_3, in1_4, in1_5, in1_6, in1_7, in1_8]
  refine (rowsOut_apply P _ _ _ _ _ _ _ _ E.P (fun n => X (1536 * t.val + n.val)) (fun n => XS (1536 * t.val + n.val))
    (fun n o => blk1_1 V c P X XS U W E t n o) (fun n o => blk1_2 V c P X XS U W E t n o) _ _ o).trans ?_
  have e1 : (1536 * t.val + n.val) % 6 = n.val % 6 := by omega
  have e2 : (1536 * t.val + n.val) / 6 = 256 * t.val + n.val / 6 := by omega
  simp only [received, at6, e1, e2, ← hn]
  have e3 : ∀ c : Fin 6, 6 * (256 * t.val + n.val / 6) + c.val = 1536 * t.val + (c.val + 6 * (n.val / 6)) := by intro c; omega
  simp only [e3]

/-- Point `j`'s share of a channel's sum of `f`. -/
def share1 (P : Params) (X XS : ℕ → Row) (U W : ℕ → Row) (ch : Fin 64) (f : ℝ → ℝ) (j : Fin 32) : ℝ :=
  part j (fun n => alone P (X (5376 * j.val + n.val))) (fun n => received P X XS (1536 * j.val + n.val)) (fun n => U n.val)
    (fun n => W (1536 * (j.val % 7) + n.val)) ch f

/-- The sum of `f` the first points' shares make. -/
def upto1 (P : Params) (X XS : ℕ → Row) (U W : ℕ → Row) (ch : Fin 64) (f : ℝ → ℝ) (k : ℕ) : ℝ :=
  ∑ j ∈ Finset.univ.filter (fun j : Fin 32 => j.val ≤ k), share1 P X XS U W ch f j

omit E in
theorem upto1_first (f : ℝ → ℝ) (ch : Fin 64) (h : ¬1 ≤ t.val) : upto1 P X XS U W ch f t.val = share1 P X XS U W ch f ⟨t.val, lt32 t⟩ := by
  unfold upto1
  rw [← Finset.sum_singleton (share1 P X XS U W ch f) (⟨t.val, lt32 t⟩ : Fin 32)]
  refine Finset.sum_congr ?_ fun _ _ => rfl
  ext j
  simp only [Finset.mem_filter, Finset.mem_univ, true_and, Finset.mem_singleton, Fin.ext_iff]
  omega

omit E in
theorem upto1_next (f : ℝ → ℝ) (ch : Fin 64) (h : 1 ≤ t.val) :
    upto1 P X XS U W ch f t.val = upto1 P X XS U W ch f (t.val - 1) + share1 P X XS U W ch f ⟨t.val, lt32 t⟩ := by
  unfold upto1
  have e : Finset.univ.filter (fun j : Fin 32 => j.val ≤ t.val)
      = insert (⟨t.val, lt32 t⟩ : Fin 32) (Finset.univ.filter (fun j : Fin 32 => j.val ≤ t.val - 1)) := by
    ext j
    simp only [Finset.mem_filter, Finset.mem_univ, true_and, Finset.mem_insert, Fin.ext_iff]
    omega
  rw [e, Finset.sum_insert (by simp only [Finset.mem_filter, Finset.mem_univ, true_and]; omega), add_comm]

theorem stat1_0 (ch : Fin 64) : stat (BitVec.ofNat 32 t.val) (outsAt1 V c t.val t.isLt).1 (outsAt1 V c t.val t.isLt).2.1 (iblk1 V c 9 t) (iblk1 V c 10 t) (ix2 ch 0)
    = (share1 P X XS U W ch (fun y => y) ⟨t.val, lt32 t⟩ : EReal) := by
  rw [in1_9]
  exact stat_apply0 ⟨t.val, lt32 t⟩ _ _ _ _ _ _ _ _ (base1 V c P X XS U W E t) (rows1 V c P X XS U W E t) E.U (blk1_10 V c P X XS U W E t) ch

theorem stat1_1 (ch : Fin 64) : stat (BitVec.ofNat 32 t.val) (outsAt1 V c t.val t.isLt).1 (outsAt1 V c t.val t.isLt).2.1 (iblk1 V c 9 t) (iblk1 V c 10 t) (ix2 ch 1)
    = (share1 P X XS U W ch (fun y => y * y) ⟨t.val, lt32 t⟩ : EReal) := by
  rw [in1_9]
  exact stat_apply1 ⟨t.val, lt32 t⟩ _ _ _ _ _ _ _ _ (base1 V c P X XS U W E t) (rows1 V c P X XS U W E t) E.U (blk1_10 V c P X XS U W E t) ch

theorem sums1 (k : ℕ) : ∀ (hk : k < cfg1.N) (ch : Fin 64), (outsAt1 V c k hk).2.2 (ix2 ch 0) = (upto1 P X XS U W ch (fun y => y) k : EReal)
    ∧ (outsAt1 V c k hk).2.2 (ix2 ch 1) = (upto1 P X XS U W ch (fun y => y * y) k : EReal) := by
  induction k with
  | zero =>
    intro hk ch
    have h : ¬1 ≤ (⟨0, hk⟩ : Fin cfg1.N).val := by simp
    have e := outs1_13_first V c ⟨0, hk⟩ h
    constructor
    · exact ((congrFun e _).trans (stat1_0 V c P X XS U W E ⟨0, hk⟩ ch)).trans (congrArg _ (upto1_first P X XS U W ⟨0, hk⟩ _ ch h).symm)
    · exact ((congrFun e _).trans (stat1_1 V c P X XS U W E ⟨0, hk⟩ ch)).trans (congrArg _ (upto1_first P X XS U W ⟨0, hk⟩ _ ch h).symm)
  | succ k ih =>
    intro hk ch
    have h : 1 ≤ (⟨k + 1, hk⟩ : Fin cfg1.N).val := Nat.le_add_left 1 k
    have e := outs1_13_next V c ⟨k + 1, hk⟩ h
    have hi := ih (Nat.lt_of_succ_lt hk) ch
    constructor
    · refine (congrFun e _).trans ?_
      have u := upto1_next P X XS U W ⟨k + 1, hk⟩ (fun y => y) ch h
      rw [show upto1 P X XS U W ch (fun y => y) (k + 1) = _ from u, EReal.coe_add, ← stat1_0 V c P X XS U W E ⟨k + 1, hk⟩ ch]
      simp only [Nat.add_sub_cancel] at e ⊢
      rw [← hi.1]
      pointwise
    · refine (congrFun e _).trans ?_
      have u := upto1_next P X XS U W ⟨k + 1, hk⟩ (fun y => y * y) ch h
      rw [show upto1 P X XS U W ch (fun y => y * y) (k + 1) = _ from u, EReal.coe_add, ← stat1_1 V c P X XS U W E ⟨k + 1, hk⟩ ch]
      simp only [Nat.add_sub_cancel] at e ⊢
      rw [← hi.2]
      pointwise

theorem arr1_11 (n : Fin 172032) (o : Fin 64) : (dat1 V c).arrAt 11 cfg1.N (ix2 n o) = (alone P (X n.val) o : EReal) := by
  refine congrFun ((dat1 V c).arrAt_eq_of_covers 11 (fun i : S172032x64.Idx => (alone P (X (i 0).val) (i 1) : EReal)) (by decide +kernel) fun t hf y => ?_) (ix2 n o)
  blk_simp
  rw [after1_11]
  refine (congrArg _ (eq_ix2 (n0 := 5376) (n1 := 64) y)).trans ((base1 V c P X XS U W E t (y 0) (y 1)).trans ?_)
  have h1 : (win1_11.blk t).view.emb y 1 = (y 1 : Fin 64) := Fin.ext (by blk_simp [index1_11])
  rw [h1, index1_11]
  simp only [Matrix.cons_val_zero, mul_comm]

theorem arr1_12 (n : Fin 53760) (o : Fin 64) (hn : n.val < 49152) : (dat1 V c).arrAt 12 cfg1.N (ix2 n o) = (received P X XS n.val o : EReal) := by
  have h := (dat1 V c).arrAt_apply_of_coversWhere 12 (fun i : S53760x64.Idx => (received P X XS (i 0).val (i 1) : EReal))
    (P := fun i : S53760x64.Idx => (i 0).val / 1536 < 32) (fun β => β (0 : Fin _) < 32) (by decide +kernel) (fun t hf y => ?_) (fun j => Iff.rfl) (ix2 n o)
  · rw [h]
    exact if_pos (by show n.val / 1536 < 32; omega)
  blk_simp
  rw [after1_12]
  refine (congrArg _ (eq_ix2 (n0 := 1536) (n1 := 64) y)).trans ((rows1 V c P X XS U W E t (y 0) (y 1)).trans ?_)
  have h1 : (win1_12.blk t).view.emb y 1 = (y 1 : Fin 64) := Fin.ext (by blk_simp [index1_12])
  rw [h1, index1_12]
  simp only [Matrix.cons_val_zero, mul_comm]

/-- A channel's sum of `f` over all the points. -/
def whole1 (P : Params) (X XS : ℕ → Row) (U W : ℕ → Row) (ch : Fin 64) (f : ℝ → ℝ) : ℝ := ∑ j, share1 P X XS U W ch f j

omit E in
theorem upto1_last (ch : Fin 64) (f : ℝ → ℝ) : upto1 P X XS U W ch f 31 = whole1 P X XS U W ch f := by
  unfold upto1 whole1
  refine Finset.sum_congr ?_ fun _ _ => rfl
  ext j
  simp only [Finset.mem_filter, Finset.mem_univ, true_and, iff_true]
  omega

theorem arr1_13 (ch : Fin 64) : (dat1 V c).arrAt 13 cfg1.N (ix2 ch 0) = (whole1 P X XS U W ch (fun y => y) : EReal)
    ∧ (dat1 V c).arrAt 13 cfg1.N (ix2 ch 1) = (whole1 P X XS U W ch (fun y => y * y) : EReal) := by
  have h : (dat1 V c).arrAt 13 cfg1.N = (outsAt1 V c end1.val end1.isLt).2.2 := by
    funext i
    refine ((dat1 V c).arrAt_emb_eq_after_last 13 end1 (by decide +kernel) i).trans ?_
    rw [after1_13]
    blk_simp
    exact congrArg (outsAt1 V c end1.val end1.isLt).2.2 (funext fun a => rfl)
  rw [h, ← upto1_last, ← upto1_last]
  exact sums1 V c P X XS U W E end1.val end1.isLt ch
end

end Cert.KernelIdeal.Whole
-- ==== Proof.Val.Out2.lean ====
/- What the third call's body leaves in its output. -/
module

public import proofs.«01_k».proof.Proof.Run.Region2
public import proofs.«01_k».proof.Proof.Val.Piece
public import proofs.«01_k».proof.Proof.Val.Real
public import Idealize.ShloMosaic.Lib.Pointwise
public import Idealize.ShloMosaic.Lib.Pipeline.ValueKit.Tiles

@[expose] public section

set_option maxRecDepth 16384

noncomputable section

namespace Cert.KernelIdeal.Whole

open Cert.KernelIdeal Cert.KernelIdeal.Gen Idealize.ShloMosaic

variable {F : FTy → Type} [FloatOps F]

/-- The entry of a block of rows that row `n`, feature `o` of the block adds: each run of 1344 rows read as 21 blocks of 64
    by 64, each turned, their rows laid 21 apart. -/
def turnRow (n : Fin 5376) (o : Fin 64) : Fin 5376 := ⟨64 * (n.val / 1344 * 21 + n.val % 21) + o.val, by have := n.isLt; have := o.isLt; omega⟩
def turnCol (n : Fin 5376) : Fin 64 := ⟨n.val % 1344 / 21, by omega⟩

def turned (x : Vec F S5376x64 .f32) : Vec F S5376x64 .f32 := fun y => x (ix2 (turnRow (y 0) (y 1)) (turnCol (y 0)))

/-- Which of the 84 stores writes row `n`. -/
def ord (n : Fin 5376) : ℕ := n.val / 1344 * 21 + n.val % 21

theorem read_at {κ : Kind} {sp : Space} {N C M K : ℕ} {m : Memref sig κ sp (⟨2, ![N, C]⟩ : Shape) .f32} (hm : m.IsWhole)
    (x : Vec F (⟨2, ![N, C]⟩ : Shape) .f32) (a b : ℕ) (inb) (i : Fin M) (j : Fin K) (hi : a + i.val < N) (hj : b + j.val < C) :
    View.readAt (Elt F) m.view (Rect.unit (s := (⟨2, ![N, C]⟩ : Shape)) ![a, b] ![M, K] inb).toLoadRect (hm.unread x) (ix2 i j)
      = x (ix2 ⟨a + i.val, hi⟩ ⟨b + j.val, hj⟩) := by
  refine (hm.readAt_unread x _ _).trans (congrArg x ?_)
  funext d
  match d with
  | ⟨0, _⟩ => exact Fin.ext (by show a + 1 * i.val = a + i.val; omega)
  | ⟨1, _⟩ => exact Fin.ext (by show b + 1 * j.val = b + j.val; omega)

theorem turn_step {κ : Kind} {sp : Space} {m : Memref sig κ sp S5376x64 .f32} (hm : m.IsWhole) (x : Vec F S5376x64 .f32) (n : Fin 5376) (o : Fin 64)
    (k r : ℕ) (hr : r < 21) (inb) (pos) (inb') (L : List (View.Piece (Elt F) S5376x64 .f32)) (hn : ord n < k * 21 + r + 1)
    (h : ord n < k * 21 + r → View.canon L (ix2 n o) = turned x (ix2 n o)) :
    View.canon ((⟨⟨⟨![k * 1344 + r, 0], S64x64.size, ![21, 1], inb⟩, pos⟩,
      shapeCast S64x64 (transpose S64x64 [1, 0] (shapeCast S64x64 (View.readAt (Elt F) m.view
        (Rect.unit (s := S5376x64) ![64 * (k * 21 + r), 0] S64x64.size inb').toLoadRect (hm.unread x)) shapeCasts_S64x64_S64x64)
        transposes_S64x64_p1_0_S64x64) shapeCasts_S64x64_S64x64⟩ : View.Piece (Elt F) S5376x64 .f32) :: L) (ix2 n o)
      = turned x (ix2 n o) := by
  have hnl := n.isLt
  by_cases hq : ord n < k * 21 + r
  · refine (Rows.canon_miss (N := 5376) (M := 64) (C := 64) 21 (k * 1344 + r) inb pos _ L n o fun g hg => ?_).trans (h hq)
    have := g.isLt
    unfold ord at hq hn
    omega
  · have hk : n.val / 1344 = k := by unfold ord at hq hn; omega
    have hr' : n.val % 21 = r := by unfold ord at hq hn; omega
    have hg : n.val % 1344 / 21 < 64 := by omega
    refine (Rows.canon_hit (N := 5376) (M := 64) (C := 64) 21 (k * 1344 + r) inb pos _ L n ⟨n.val % 1344 / 21, hg⟩ o (by
      show n.val = k * 1344 + r + 21 * (n.val % 1344 / 21); omega)).trans ?_
    pointwise
    refine (read_at (N := 5376) (C := 64) (M := 64) (K := 64) hm x _ _ _ _ _ (by have := o.isLt; show 64 * (k * 21 + r) + o.val < 5376; omega)
      (by show 0 + n.val % 1344 / 21 < 64; omega)).trans ?_
    unfold turned
    congr 2
    · refine Fin.ext ?_
      show 64 * (k * 21 + r) + o.val = 64 * (n.val / 1344 * 21 + n.val % 21) + o.val
      rw [hk, hr']
    · refine Fin.ext ?_
      show 0 + n.val % 1344 / 21 = n.val % 1344 / 21
      omega

set_option maxHeartbeats 2000000 in
theorem turned_all (c : Dev nD) (m : Memref sig .tc .vmem S5376x64 .f32) (hm : m.IsWhole) (x : Vec F S5376x64 .f32) (n : Fin 5376) (o : Fin 64) :
    View.canon (kernelRun2_A.sl.HS0_84 c m hm x) (ix2 n o) = turned x (ix2 n o) := by
  have hn : ord n < 84 := by have := n.isLt; unfold ord; omega
  unfold kernelRun2_A.sl.HS0_84 kernelRun2_A.sl.HS0_81
  refine turn_step hm x n o 3 20 (by norm_num) _ _ _ _ hn fun hn => ?_
  refine turn_step hm x n o 3 19 (by norm_num) _ _ _ _ hn fun hn => ?_
  refine turn_step hm x n o 3 18 (by norm_num) _ _ _ _ hn fun hn => ?_
  refine turn_step hm x n o 3 17 (by norm_num) _ _ _ _ hn fun hn => ?_
  refine turn_step hm x n o 3 16 (by norm_num) _ _ _ _ hn fun hn => ?_
  refine turn_step hm x n o 3 15 (by norm_num) _ _ _ _ hn fun hn => ?_
  refine turn_step hm x n o 3 14 (by norm_num) _ _ _ _ hn fun hn => ?_
  refine turn_step hm x n o 3 13 (by norm_num) _ _ _ _ hn fun hn => ?_
  refine turn_step hm x n o 3 12 (by norm_num) _ _ _ _ hn fun hn => ?_
  refine turn_step hm x n o 3 11 (by norm_num) _ _ _ _ hn fun hn => ?_
  refine turn_step hm x n o 3 10 (by norm_num) _ _ _ _ hn fun hn => ?_
  refine turn_step hm x n o 3 9 (by norm_num) _ _ _ _ hn fun hn => ?_
  refine turn_step hm x n o 3 8 (by norm_num) _ _ _ _ hn fun hn => ?_
  refine turn_step hm x n o 3 7 (by norm_num) _ _ _ _ hn fun hn => ?_
  refine turn_step hm x n o 3 6 (by norm_num) _ _ _ _ hn fun hn => ?_
  refine turn_step hm x n o 3 5 (by norm_num) _ _ _ _ hn fun hn => ?_
  refine turn_step hm x n o 3 4 (by norm_num) _ _ _ _ hn fun hn => ?_
  refine turn_step hm x n o 3 3 (by norm_num) _ _ _ _ hn fun hn => ?_
  refine turn_step hm x n o 3 2 (by norm_num) _ _ _ _ hn fun hn => ?_
  refine turn_step hm x n o 3 1 (by norm_num) _ _ _ _ hn fun hn => ?_
  refine turn_step hm x n o 3 0 (by norm_num) _ _ _ _ hn fun hn => ?_
  refine turn_step hm x n o 2 20 (by norm_num) _ _ _ _ hn fun hn => ?_
  refine turn_step hm x n o 2 19 (by norm_num) _ _ _ _ hn fun hn => ?_
  refine turn_step hm x n o 2 18 (by norm_num) _ _ _ _ hn fun hn => ?_
  refine turn_step hm x n o 2 17 (by norm_num) _ _ _ _ hn fun hn => ?_
  refine turn_step hm x n o 2 16 (by norm_num) _ _ _ _ hn fun hn => ?_
  refine turn_step hm x n o 2 15 (by norm_num) _ _ _ _ hn fun hn => ?_
  refine turn_step hm x n o 2 14 (by norm_num) _ _ _ _ hn fun hn => ?_
  refine turn_step hm x n o 2 13 (by norm_num) _ _ _ _ hn fun hn => ?_
  refine turn_step hm x n o 2 12 (by norm_num) _ _ _ _ hn fun hn => ?_
  refine turn_step hm x n o 2 11 (by norm_num) _ _ _ _ hn fun hn => ?_
  refine turn_step hm x n o 2 10 (by norm_num) _ _ _ _ hn fun hn => ?_
  refine turn_step hm x n o 2 9 (by norm_num) _ _ _ _ hn fun hn => ?_
  refine turn_step hm x n o 2 8 (by norm_num) _ _ _ _ hn fun hn => ?_
  refine turn_step hm x n o 2 7 (by norm_num) _ _ _ _ hn fun hn => ?_
  refine turn_step hm x n o 2 6 (by norm_num) _ _ _ _ hn fun hn => ?_
  refine turn_step hm x n o 2 5 (by norm_num) _ _ _ _ hn fun hn => ?_
  refine turn_step hm x n o 2 4 (by norm_num) _ _ _ _ hn fun hn => ?_
  refine turn_step hm x n o 2 3 (by norm_num) _ _ _ _ hn fun hn => ?_
  refine turn_step hm x n o 2 2 (by norm_num) _ _ _ _ hn fun hn => ?_
  refine turn_step hm x n o 2 1 (by norm_num) _ _ _ _ hn fun hn => ?_
  refine turn_step hm x n o 2 0 (by norm_num) _ _ _ _ hn fun hn => ?_
  refine turn_step hm x n o 1 20 (by norm_num) _ _ _ _ hn fun hn => ?_
  refine turn_step hm x n o 1 19 (by norm_num) _ _ _ _ hn fun hn => ?_
  refine turn_step hm x n o 1 18 (by norm_num) _ _ _ _ hn fun hn => ?_
  refine turn_step hm x n o 1 17 (by norm_num) _ _ _ _ hn fun hn => ?_
  refine turn_step hm x n o 1 16 (by norm_num) _ _ _ _ hn fun hn => ?_
  refine turn_step hm x n o 1 15 (by norm_num) _ _ _ _ hn fun hn => ?_
  refine turn_step hm x n o 1 14 (by norm_num) _ _ _ _ hn fun hn => ?_
  refine turn_step hm x n o 1 13 (by norm_num) _ _ _ _ hn fun hn => ?_
  refine turn_step hm x n o 1 12 (by norm_num) _ _ _ _ hn fun hn => ?_
  refine turn_step hm x n o 1 11 (by norm_num) _ _ _ _ hn fun hn => ?_
  refine turn_step hm x n o 1 10 (by norm_num) _ _ _ _ hn fun hn => ?_
  refine turn_step hm x n o 1 9 (by norm_num) _ _ _ _ hn fun hn => ?_
  refine turn_step hm x n o 1 8 (by norm_num) _ _ _ _ hn fun hn => ?_
  refine turn_step hm x n o 1 7 (by norm_num) _ _ _ _ hn fun hn => ?_
  refine turn_step hm x n o 1 6 (by norm_num) _ _ _ _ hn fun hn => ?_
  refine turn_step hm x n o 1 5 (by norm_num) _ _ _ _ hn fun hn => ?_
  refine turn_step hm x n o 1 4 (by norm_num) _ _ _ _ hn fun hn => ?_
  refine turn_step hm x n o 1 3 (by norm_num) _ _ _ _ hn fun hn => ?_
  refine turn_step hm x n o 1 2 (by norm_num) _ _ _ _ hn fun hn => ?_
  refine turn_step hm x n o 1 1 (by norm_num) _ _ _ _ hn fun hn => ?_
  refine turn_step hm x n o 1 0 (by norm_num) _ _ _ _ hn fun hn => ?_
  refine turn_step hm x n o 0 20 (by norm_num) _ _ _ _ hn fun hn => ?_
  refine turn_step hm x n o 0 19 (by norm_num) _ _ _ _ hn fun hn => ?_
  refine turn_step hm x n o 0 18 (by norm_num) _ _ _ _ hn fun hn => ?_
  refine turn_step hm x n o 0 17 (by norm_num) _ _ _ _ hn fun hn => ?_
  refine turn_step hm x n o 0 16 (by norm_num) _ _ _ _ hn fun hn => ?_
  refine turn_step hm x n o 0 15 (by norm_num) _ _ _ _ hn fun hn => ?_
  refine turn_step hm x n o 0 14 (by norm_num) _ _ _ _ hn fun hn => ?_
  refine turn_step hm x n o 0 13 (by norm_num) _ _ _ _ hn fun hn => ?_
  refine turn_step hm x n o 0 12 (by norm_num) _ _ _ _ hn fun hn => ?_
  refine turn_step hm x n o 0 11 (by norm_num) _ _ _ _ hn fun hn => ?_
  refine turn_step hm x n o 0 10 (by norm_num) _ _ _ _ hn fun hn => ?_
  refine turn_step hm x n o 0 9 (by norm_num) _ _ _ _ hn fun hn => ?_
  refine turn_step hm x n o 0 8 (by norm_num) _ _ _ _ hn fun hn => ?_
  refine turn_step hm x n o 0 7 (by norm_num) _ _ _ _ hn fun hn => ?_
  refine turn_step hm x n o 0 6 (by norm_num) _ _ _ _ hn fun hn => ?_
  refine turn_step hm x n o 0 5 (by norm_num) _ _ _ _ hn fun hn => ?_
  refine turn_step hm x n o 0 4 (by norm_num) _ _ _ _ hn fun hn => ?_
  refine turn_step hm x n o 0 3 (by norm_num) _ _ _ _ hn fun hn => ?_
  refine turn_step hm x n o 0 2 (by norm_num) _ _ _ _ hn fun hn => ?_
  refine turn_step hm x n o 0 1 (by norm_num) _ _ _ _ hn fun hn => ?_
  refine turn_step hm x n o 0 0 (by norm_num) _ _ _ _ hn fun hn => ?_
  exact absurd hn (by norm_num)

/-- A column of the two statistics. -/
def col (k : Fin 2) (x : Vec F S64x2 .f32) : Vec F S64x1 .f32 := fun y => x (ix2 (y 0) k)

theorem read_col0 {κ : Kind} {sp : Space} {m : Memref sig κ sp S64x2 .f32} (hm : m.IsWhole) (x : Vec F S64x2 .f32) (inb) :
    View.readAt (Elt F) m.view (Rect.unit (s := S64x2) ![0, 0] ![64, 1] inb).toLoadRect (hm.unread x) = col 0 x := by
  funext y
  refine (hm.readAt_unread x _ _).trans (congrArg x ?_)
  funext d
  match d with
  | ⟨0, _⟩ => exact Fin.ext (by show 0 + 1 * (y 0).val = (y 0).val; omega)
  | ⟨1, _⟩ => exact Fin.ext (by have : (y 1).val < 1 := (y 1).isLt; show 0 + 1 * (y 1).val = 0; omega)

theorem read_col1 {κ : Kind} {sp : Space} {m : Memref sig κ sp S64x2 .f32} (hm : m.IsWhole) (x : Vec F S64x2 .f32) (inb) :
    View.readAt (Elt F) m.view (Rect.unit (s := S64x2) ![0, 1] ![64, 1] inb).toLoadRect (hm.unread x) = col 1 x := by
  funext y
  refine (hm.readAt_unread x _ _).trans (congrArg x ?_)
  funext d
  match d with
  | ⟨0, _⟩ => exact Fin.ext (by show 0 + 1 * (y 0).val = (y 0).val; omega)
  | ⟨1, _⟩ => exact Fin.ext (by have : (y 1).val < 1 := (y 1).isLt; show 1 + 1 * (y 1).val = 1; omega)

theorem read_1 {κ : Kind} {sp : Space} {m : Memref sig κ sp S64x1 .f32} (hm : m.IsWhole) (x : Vec F S64x1 .f32) (inb) :
    View.readAt (Elt F) m.view (Rect.unit (s := S64x1) ![0, 0] ![64, 1] inb).toLoadRect (hm.unread x) = x :=
  Rows.read_whole (N := 64) (C := 1) hm x inb

theorem read_64 {κ : Kind} {sp : Space} {m : Memref sig κ sp S5376x64 .f32} (hm : m.IsWhole) (x : Vec F S5376x64 .f32) (inb) :
    View.readAt (Elt F) m.view (Rect.unit (s := S5376x64) ![0, 0] ![5376, 64] inb).toLoadRect (hm.unread x) = x :=
  Rows.read_whole (N := 5376) (C := 64) hm x inb

theorem zero2' : ∀ a : Fin 2, (![0, 0] : Fin 2 → ℕ) a = 0 := by decide

section
variable (c : Dev nD) (i : grid2.Coords) (arg1 : Memref sig .tc .vmem S5376x64 .f32) (harg1 : arg1.IsWhole) (arg2 : Memref sig .tc .vmem S5376x64 .f32) (harg2 : arg2.IsWhole) (arg3 : Memref sig .tc .vmem S5376x64 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S5376x64 .f32) (harg7 : arg7.IsWhole) (arg8 : Memref sig .tc .vmem S5376x64 .f32) (harg8 : arg8.IsWhole) (arg9 : Memref sig .tc .vmem S5376x64 .f32) (harg9 : arg9.IsWhole) (x0 : Vec F S5376x64 .f32) (x1 : Vec F S5376x64 .f32) (x2 : Vec F S5376x64 .f32) (x3 : Vec F S64x2 .f32) (x4 : Vec F S64x1 .f32) (x5 : Vec F S64x1 .f32) (x6 : Vec F S5376x64 .f32)

theorem v547_eq : kernelRun2_A.sl.v547 c arg3 harg3 arg9 x2 = turned x2 := by
  funext y
  rw [eq_ix2 y]
  unfold kernelRun2_A.sl.v547
  exact (Rows.load_whole_apply (N := 5376) (C := 64) arg9.view _ _ _ _).trans (turned_all c arg3 harg3 x2 _ _)

theorem out2_eq : out2_A_7 c i arg1 harg1 arg2 harg2 arg3 harg3 arg4 harg4 arg5 harg5 arg6 harg6 arg7 harg7 arg8 harg8 arg9 harg9 x0 x1 x2 x3 x4 x5 x6
    = k2_pay1 (BitVec.ofNat 32 (i 0).val) (k2_pay95 (col 0 x3) (col 1 x3) x4 x5) x6 x1 x0 (turned x2) := by
  unfold out2_A_7 kernelRun2_A
  funext y
  refine (View.read_writes_junk_apply_eq_canon _ y _).trans ?_
  refine (congrFun (View.canon_cons_unit_lit (S := S5376x64) _ _ _ zero2') y).trans (congrFun ?_ y)
  simp only [v547_eq, kernelRun2_A.sl.r_12, kernelRun2_A.sl.r_13, read_col0, read_col1, read_1, read_64]
end

section
open Cert.Att
variable (s q w b : Vec Ideal S64x1 .f32) (ch : Fin 64) (S Q W B : ℝ)
  (hs : s (ix2 ch 0) = (S : EReal)) (hq : q (ix2 ch 0) = (Q : EReal)) (hw : w (ix2 ch 0) = (W : EReal)) (hb : b (ix2 ch 0) = (B : EReal))
  (hp : 0 ≤ spread S Q)
include hs hq hw hb hp

theorem pay95_apply0 : k2_pay95 s q w b (ix2 ch 0) = (factor S Q W : EReal) := by
  have h0 : cnt ≠ 0 := by unfold cnt; norm_num
  have h1 := tiny_pos
  unfold k2_pay95
  pointwise
  rw [hs, hq, hw, cnt_coe, tiny_coe, Ideal.div_coe h0, Ideal.div_coe h0]
  simp only [← EReal.coe_mul, ← EReal.coe_sub, ← EReal.coe_add, mul_one_div]
  rw [Ideal.rsqrt_coe, if_neg, if_neg, ← EReal.coe_mul]
  · rfl
  · unfold spread at hp; linarith
  · unfold spread at hp; linarith

theorem pay95_apply1 : k2_pay95 s q w b (ix2 ch 1) = (offset S Q W B : EReal) := by
  have h0 : cnt ≠ 0 := by unfold cnt; norm_num
  have h1 := tiny_pos
  unfold k2_pay95
  pointwise
  rw [hs, hq, hw, hb, cnt_coe, tiny_coe, Ideal.div_coe h0, Ideal.div_coe h0]
  simp only [← EReal.coe_mul, ← EReal.coe_sub, ← EReal.coe_add, mul_one_div]
  rw [Ideal.rsqrt_coe, if_neg, if_neg, ← EReal.coe_mul, ← EReal.coe_mul, ← EReal.coe_sub]
  · rfl
  · unfold spread at hp; linarith
  · unfold spread at hp; linarith
end

theorem head_word (j : Fin 32) (n : Fin 5376) :
    IntOp.cmpi CmpIPredicate.slt (IntOp.addi (Scalar.muli (BitVec.ofNat 32 j.val) 5376#32) (BitVec.ofNat 32 n.val)) 49152#32
      = BitVec.ofBool (decide (5376 * j.val + n.val < 49152)) := by
  have e : IntOp.addi (Scalar.muli (BitVec.ofNat 32 j.val) 5376#32) (BitVec.ofNat 32 n.val) = BitVec.ofNat 32 (5376 * j.val + n.val) := by
    apply BitVec.eq_of_toNat_eq
    simp [IntOp.addi, Scalar.muli, IntOp.muli, BitVec.toNat_add, BitVec.toNat_mul]
    have := j.isLt
    have := n.isLt
    omega
  have h1 : 5376 * j.val + n.val < 2 ^ (32 - 1) := by have := j.isLt; have := n.isLt; omega
  rw [e, WordCmp.cmpi_slt_ofNat h1 (by norm_num)]

/-- An entry of the result: the row's value times its channel's factor, plus the offset, plus the entry added, cut at zero. -/
theorem pay1_apply (j : Fin 32) (p : FVec Ideal S64x2 .f32) (oh a base t : Vec Ideal S5376x64 .f32) (n : Fin 5376) (o : Fin 64)
    (U : Fin 64 → ℝ) (hU : ∀ ch, oh (ix2 n ch) = (U ch : EReal)) (P0 P1 : Fin 64 → ℝ) (h0 : ∀ ch, p (ix2 ch 0) = (P0 ch : EReal))
    (h1 : ∀ ch, p (ix2 ch 1) = (P1 ch : EReal)) (Y X : ℝ)
    (hY : (if 5376 * j.val + n.val < 49152 then a (ix2 n o) else base (ix2 n o)) = (Y : EReal)) (hX : t (ix2 n o) = (X : EReal)) :
    k2_pay1 (BitVec.ofNat 32 j.val) p oh a base t (ix2 n o)
      = ((max (Y * (∑ ch, U ch * P0 ch) + ∑ ch, U ch * P1 ch + X) 0 : ℝ) : EReal) := by
  unfold k2_pay1
  pointwise
  rw [head_word, hX]
  have e : Scalar.select (BitVec.ofBool (decide (5376 * j.val + n.val < 49152))) (a (ix2 n o)) (base (ix2 n o)) = (Y : EReal) := by
    rw [← hY]
    split <;> rename_i h <;> simp [Scalar.select, h]
  rw [e]
  simp only [hU, h0, h1]
  rw [EReal.coe_strictMono.monotone.map_max]
  simp only [EReal.coe_mul, EReal.coe_add, Att.coe_sum, EReal.coe_zero]

end Cert.KernelIdeal.Whole
-- ==== Proof.Val.Arr2.lean ====
/- The array the third call leaves. -/
module

public import proofs.«01_k».proof.Proof.Val.Out2
public import Idealize.ShloMosaic.Lib.Pipeline.ValueKit.Partial
public import Idealize.ShloMosaic.Lib.Pipeline.ValueKit.Acc

@[expose] public section

set_option maxRecDepth 16384

noncomputable section

namespace Cert.KernelIdeal.Whole

open Cert.KernelIdeal Cert.KernelIdeal.Gen Idealize.ShloMosaic Idealize.ShloMosaic.TcCoe Cert.Att

theorem coord2 : ∀ t : Fin cfg2.N, ((grid2.coords t) 0).val = t.val := (by decide +kernel : ∀ t : Fin grid2.N, ((grid2.coords t) 0).val = t.val)
theorem index2_0 : ∀ t : Fin cfg2.N, win2_0.index t = ![t.val, 0] := (by decide +kernel : ∀ t : Fin grid2.N, win2_0.index t = ![t.val, 0])
theorem index2_1 : ∀ t : Fin cfg2.N, win2_1.index t = ![min t.val 9, 0] := (by decide +kernel : ∀ t : Fin grid2.N, win2_1.index t = ![min t.val 9, 0])
theorem index2_2 : ∀ t : Fin cfg2.N, win2_2.index t = ![t.val, 0] := (by decide +kernel : ∀ t : Fin grid2.N, win2_2.index t = ![t.val, 0])
theorem index2_3 : ∀ t : Fin cfg2.N, win2_3.index t = ![0, 0] := (by decide +kernel : ∀ t : Fin grid2.N, win2_3.index t = ![0, 0])
theorem index2_4 : ∀ t : Fin cfg2.N, win2_4.index t = ![0, 0] := (by decide +kernel : ∀ t : Fin grid2.N, win2_4.index t = ![0, 0])
theorem index2_5 : ∀ t : Fin cfg2.N, win2_5.index t = ![0, 0] := (by decide +kernel : ∀ t : Fin grid2.N, win2_5.index t = ![0, 0])
theorem index2_6 : ∀ t : Fin cfg2.N, win2_6.index t = ![0, 0] := (by decide +kernel : ∀ t : Fin grid2.N, win2_6.index t = ![0, 0])
theorem index2_7 : ∀ t : Fin cfg2.N, win2_7.index t = ![t.val, 0] := (by decide +kernel : ∀ t : Fin grid2.N, win2_7.index t = ![t.val, 0])

section
variable {F : FTy → Type} [FloatOps F]
variable (V : (c : Dev nD) → (b : Ref sig .tc) → Buf (Elt F) ((c : Thread nD τ).loc b)) (c : Dev nD) (t : Fin cfg2.N)

theorem in2_3 : iblk2 V c 3 t = V c main_v26_2 := by
  funext y
  blk_simp [iblk2]
  congr 1
  blk_ext [index2_3]

theorem in2_4 : iblk2 V c 4 t = V c main_v1 := by
  funext y
  blk_simp [iblk2]
  congr 1
  blk_ext [index2_4]

theorem in2_5 : iblk2 V c 5 t = V c main_v2 := by
  funext y
  blk_simp [iblk2]
  congr 1
  blk_ext [index2_5]

theorem in2_6 : iblk2 V c 6 t = V c main_v36 := by
  funext y
  blk_simp [iblk2]
  congr 1
  blk_ext [index2_6]

theorem lt32' : t.val < 32 := lt_of_lt_of_eq t.isLt N_2

theorem outs2 : outsAt2 V c t = k2_pay1 (BitVec.ofNat 32 t.val)
    (k2_pay95 (col 0 (V c main_v26_2)) (col 1 (V c main_v26_2)) (V c main_v1) (V c main_v2)) (V c main_v36) (iblk2 V c 1 t) (iblk2 V c 0 t)
      (turned (iblk2 V c 2 t)) := by
  have e : BitVec.ofNat 32 t.val = BitVec.ofNat 32 ((grid2.coords t) 0).val := by rw [coord2]
  rw [e, ← in2_3 V c t, ← in2_4 V c t, ← in2_5 V c t, ← in2_6 V c t]
  unfold outsAt2
  rw [out2_eq (F := F)]
end

/-- What the third call finds in its operands. -/
structure Entry2 (V : (c : Dev nD) → (b : Ref sig .tc) → Buf (Elt Ideal) ((c : Thread nD τ).loc b)) (c : Dev nD)
    (X Y : ℕ → Row) (U : ℕ → Row) (S Q W B : Row) : Prop where
  hbase : ∀ (n : Fin 172032) (o : Fin 64), 49152 ≤ n.val → (V c main_v26_0 : Vec Ideal S172032x64 .f32) (ix2 n o) = (Y n.val o : EReal)
  hrows : ∀ (n : Fin 53760) (o : Fin 64), n.val < 49152 → (V c main_v26_1 : Vec Ideal S53760x64 .f32) (ix2 n o) = (Y n.val o : EReal)
  hX : ∀ (n : Fin 172032) (o : Fin 64), (V c main_v4 : Vec Ideal S172032x64 .f32) (ix2 n o) = (X n.val o : EReal)
  hS : ∀ ch : Fin 64, (V c main_v26_2 : Vec Ideal S64x2 .f32) (ix2 ch 0) = (S ch : EReal)
  hQ : ∀ ch : Fin 64, (V c main_v26_2 : Vec Ideal S64x2 .f32) (ix2 ch 1) = (Q ch : EReal)
  hW : ∀ ch : Fin 64, (V c main_v1 : Vec Ideal S64x1 .f32) (ix2 ch 0) = (W ch : EReal)
  hB : ∀ ch : Fin 64, (V c main_v2 : Vec Ideal S64x1 .f32) (ix2 ch 0) = (B ch : EReal)
  hU : ∀ (n : Fin 5376) (o : Fin 64), (V c main_v36 : Vec Ideal S5376x64 .f32) (ix2 n o) = (U n.val o : EReal)
  hpos : ∀ ch, 0 ≤ spread (S ch) (Q ch)

section
variable (V : (c : Dev nD) → (b : Ref sig .tc) → Buf (Elt Ideal) ((c : Thread nD τ).loc b)) (c : Dev nD)
    (X Y : ℕ → Row) (U : ℕ → Row) (S Q W B : Row) (E : Entry2 V c X Y U S Q W B) (t : Fin cfg2.N)
include E

/-- The entry of the result at row `n`, feature `o`. -/
def final2 (X Y : ℕ → Row) (U : ℕ → Row) (S Q W B : Row) (n : ℕ) (o : Fin 64) : ℝ :=
  max (Y n o * (∑ ch, U (n % 5376) ch * factor (S ch) (Q ch) (W ch)) + ∑ ch, U (n % 5376) ch * offset (S ch) (Q ch) (W ch) (B ch)
    + X (64 * (n / 1344 * 21 + n % 21) + o.val) ⟨n % 1344 / 21, by omega⟩) 0

theorem blk2_0 (n : Fin 5376) (o : Fin 64) (h : 49152 ≤ 5376 * t.val + n.val) :
    (iblk2 V c 0 t : Vec Ideal S5376x64 .f32) (ix2 n o) = (Y (5376 * t.val + n.val) o : EReal) := by
  have ht := lt32' t
  have h := E.hbase ⟨5376 * t.val + n.val, by omega⟩ o h
  rw [← h]
  blk_simp [iblk2]
  congr 1
  blk_ext [index2_0]

theorem blk2_1 (n : Fin 5376) (o : Fin 64) (h : 5376 * t.val + n.val < 49152) :
    (iblk2 V c 1 t : Vec Ideal S5376x64 .f32) (ix2 n o) = (Y (5376 * t.val + n.val) o : EReal) := by
  have ht := lt32' t
  have h9 : min t.val 9 = t.val := by omega
  have h := E.hrows ⟨5376 * t.val + n.val, by omega⟩ o h
  rw [← h]
  blk_simp [iblk2]
  congr 1
  blk_ext [index2_1, h9]

theorem blk2_2 (n : Fin 5376) (o : Fin 64) : (iblk2 V c 2 t : Vec Ideal S5376x64 .f32) (ix2 n o) = (X (5376 * t.val + n.val) o : EReal) := by
  have ht := lt32' t
  have h := E.hX ⟨5376 * t.val + n.val, by omega⟩ o
  rw [← h]
  blk_simp [iblk2]
  congr 1
  blk_ext [index2_2]

theorem point2 (n : Fin 5376) (o : Fin 64) : outsAt2 V c t (ix2 n o) = (final2 X Y U S Q W B (5376 * t.val + n.val) o : EReal) := by
  have ht := lt32' t
  rw [outs2]
  refine (pay1_apply ⟨t.val, ht⟩ _ _ _ _ _ n o (U n.val) (E.hU n)
    (fun ch => factor (S ch) (Q ch) (W ch)) (fun ch => offset (S ch) (Q ch) (W ch) (B ch))
    (fun ch => pay95_apply0 _ _ _ _ ch _ _ _ _ (E.hS ch) (E.hQ ch) (E.hW ch) (E.hB ch) (E.hpos ch))
    (fun ch => pay95_apply1 _ _ _ _ ch _ _ _ _ (E.hS ch) (E.hQ ch) (E.hW ch) (E.hB ch) (E.hpos ch))
    (Y (5376 * t.val + n.val) o) (X (5376 * t.val + (turnRow n o).val) (turnCol n)) ?_ ?_).trans ?_
  · by_cases h : 5376 * t.val + n.val < 49152
    · rw [if_pos h]
      exact blk2_1 V c X Y U S Q W B E t n o h
    · rw [if_neg h]
      exact blk2_0 V c X Y U S Q W B E t n o (by omega)
  · exact blk2_2 V c X Y U S Q W B E t _ _
  · have e1 : (5376 * t.val + n.val) % 5376 = n.val := by omega
    have e2 : 5376 * t.val + (turnRow n o).val = 64 * ((5376 * t.val + n.val) / 1344 * 21 + (5376 * t.val + n.val) % 21) + o.val := by
      unfold turnRow
      dsimp only
      omega
    have e3 : turnCol n = ⟨(5376 * t.val + n.val) % 1344 / 21, by omega⟩ := by
      unfold turnCol
      rw [Fin.mk.injEq]
      omega
    unfold final2
    rw [e1, e2, e3]

theorem arr2_7 (n : Fin 172032) (o : Fin 64) : (dat2 V c).arrAt 7 cfg2.N (ix2 n o) = (final2 X Y U S Q W B n.val o : EReal) := by
  refine congrFun ((dat2 V c).arrAt_eq_of_covers 7 (fun i : S172032x64.Idx => (final2 X Y U S Q W B (i 0).val (i 1) : EReal)) (by decide +kernel) fun t hf y => ?_) (ix2 n o)
  blk_simp
  rw [after2_7]
  refine (congrArg _ (eq_ix2 (n0 := 5376) (n1 := 64) y)).trans ((point2 V c X Y U S Q W B E t (y 0) (y 1)).trans ?_)
  have h1 : (win2_7.blk t).view.emb y 1 = (y 1 : Fin 64) := Fin.ext (by blk_simp [index2_7])
  rw [h1, index2_7]
  simp only [Matrix.cons_val_zero, mul_comm]
end

end Cert.KernelIdeal.Whole
-- ==== Proof.Val.Host.lean ====
/- The host's reshapes, entry by entry. -/
module

public import proofs.«01_k».proof.Proof.Run.Hosts0
public import Idealize.ShloMosaic.Lib.Pointwise
public import Idealize.ShloMosaic.Lib.StableHlo.Run

@[expose] public section

set_option maxRecDepth 16384

noncomputable section

namespace Cert.KernelIdeal.Whole

open Cert.KernelIdeal Cert.KernelIdeal.Gen Idealize.ShloMosaic Idealize.ShloMosaic.TcCoe

variable {F : FTy → Type} [FloatOps F] (V : Valuation τ sig (Elt F))

theorem host_v0 (a : Fin 64) (v : Fin 21) (t : Fin 64) (k : Fin 128) :
    (StableHlo.after hostOps0 V (Proc.devRef .tc main_v0) : Vec F S64x21x64x128 .f32) (ix4 a v t k)
      = (V (Proc.devRef .tc main_arg0) : Vec F S128x64x64x21 .f32) (ix4 k a t v) := by
  after_results_simp
  pointwise

theorem host_v1 (ch : Fin 64) : (StableHlo.after hostOps0 V (Proc.devRef .tc main_v1) : Vec F S64x1 .f32) (ix2 ch 0)
      = (V (Proc.devRef .tc main_arg7) : Vec F S64 .f32) (ix1 ch) := by
  after_results_simp
  pointwise

theorem host_v2 (ch : Fin 64) : (StableHlo.after hostOps0 V (Proc.devRef .tc main_v2) : Vec F S64x1 .f32) (ix2 ch 0)
      = (V (Proc.devRef .tc main_arg8) : Vec F S64 .f32) (ix1 ch) := by
  after_results_simp
  pointwise

theorem host_v4 (n : Fin 172032) (o : Fin 64) : (StableHlo.after hostOps1 V (Proc.devRef .tc main_v4) : Vec F S172032x64 .f32) (ix2 n o)
      = (V (Proc.devRef .tc main_v3_0) : Vec F S128x1344x64 .f32) (ix3 ⟨n.val / 1344, by omega⟩ ⟨n.val % 1344, by omega⟩ o) := by
  after_results_simp
  pointwise

theorem host_v5 (n : Fin 49152) (o : Fin 64) : (StableHlo.after hostOps1 V (Proc.devRef .tc main_v5) : Vec F S49152x64 .f32) (ix2 n o)
      = (V (Proc.devRef .tc main_v3_1) : Vec F S128x64x6x64 .f32) (ix4 ⟨n.val / 384, by omega⟩ ⟨n.val / 6 % 64, by omega⟩ ⟨n.val % 6, by omega⟩ o) := by
  after_results_simp
  pointwise

theorem host_v38 (a : Fin 128) (b d : Fin 64) (e : Fin 21) :
    (StableHlo.after hostOps3 V (Proc.devRef .tc main_v38) : Vec F S128x64x64x21 .f32) (ix4 a b d e)
      = (V (Proc.devRef .tc main_v37) : Vec F S172032x64 .f32) (ix2 ⟨(a.val * 86016 + b.val * 1344 + d.val * 21 + e.val) / 64, by omega⟩
          ⟨(a.val * 86016 + b.val * 1344 + d.val * 21 + e.val) % 64, by omega⟩) := by
  after_results_simp
  pointwise

end Cert.KernelIdeal.Whole
-- ==== Proof.Val.Sums.lean ====
/- A channel's sums: over the points, over the rows, and over the channel's own entries. -/
module

public import proofs.«01_k».proof.Proof.Val.Real

@[expose] public section

noncomputable section

namespace Cert.Att

open Finset

/-- A sum over blocks is the sum over the whole range. -/
theorem sum_blocks (b : ℕ) (g : ℕ → ℝ) : ∀ a : ℕ, ∑ j ∈ range a, ∑ n ∈ range b, g (b * j + n) = ∑ k ∈ range (b * a), g k
  | 0 => by simp
  | a + 1 => by
    rw [sum_range_succ, sum_blocks b g a, Nat.mul_succ, sum_range_add]

/-- A channel's sum of `f`: its 21 rows of every run of 1344, each row's 64 entries. -/
def chan (Y : ℕ → Row) (ch : Fin 64) (f : ℝ → ℝ) : ℝ :=
  ∑ a ∈ range 128, ∑ k ∈ range 1344, f (Y (1344 * a + (21 * ch.val + k / 64)) ⟨k % 64, Nat.mod_lt _ (by norm_num)⟩)

/-- The sum over a row's entries. -/
theorem sum_row (g : ℕ → Fin 64 → ℝ) : ∑ k ∈ range 1344, g (k / 64) ⟨k % 64, Nat.mod_lt _ (by norm_num)⟩ = ∑ q ∈ range 21, ∑ o, g q o := by
  rw [show (1344 : ℕ) = 64 * 21 from rfl, ← sum_blocks 64 (fun k => g (k / 64) ⟨k % 64, Nat.mod_lt _ (by norm_num)⟩) 21]
  refine sum_congr rfl fun q _ => ?_
  rw [sum_range]
  refine sum_congr rfl fun o _ => ?_
  have e1 : (64 * q + o.val) / 64 = q := by omega
  have e2 : (⟨(64 * q + o.val) % 64, Nat.mod_lt _ (by norm_num)⟩ : Fin 64) = o := Fin.ext (by show (64 * q + o.val) % 64 = o.val; omega)
  rw [e1, e2]

/-- Whether row `n` is of channel `ch`. -/
def hot (n : ℕ) (ch : Fin 64) : ℝ := if n % 1344 / 21 = ch.val then 1 else 0

theorem hot_mod (n k : ℕ) (h : n % 1344 = k % 1344) : hot n = hot k := by
  unfold hot
  rw [h]

/-- The channel's sum as a weighted sum over all the rows. -/
theorem sum_hot (Y : ℕ → Row) (ch : Fin 64) (f : ℝ → ℝ) : ∑ n ∈ range 172032, hot n ch * ∑ o, f (Y n o) = chan Y ch f := by
  rw [show (172032 : ℕ) = 1344 * 128 from rfl, ← sum_blocks 1344 (fun n => hot n ch * ∑ o, f (Y n o)) 128]
  unfold chan
  refine sum_congr rfl fun a _ => ?_
  rw [sum_row (fun q o => f (Y (1344 * a + (21 * ch.val + q)) o)), show (1344 : ℕ) = 21 * 64 from rfl,
    ← sum_blocks 21 (fun n => hot (21 * 64 * a + n) ch * ∑ o, f (Y (21 * 64 * a + n) o)) 64]
  rw [sum_eq_single_of_mem ch.val (mem_range.mpr ch.isLt)]
  · refine sum_congr rfl fun q hq => ?_
    have hq := mem_range.mp hq
    have h : hot (21 * 64 * a + (21 * ch.val + q)) ch = 1 := if_pos (by omega)
    rw [h, one_mul]
  · intro j hj hne
    have hj := mem_range.mp hj
    refine sum_eq_zero fun q hq => ?_
    have hq := mem_range.mp hq
    have h : hot (21 * 64 * a + (21 * j + q)) ch = 0 := if_neg (by omega)
    rw [h, zero_mul]

theorem chan_add (Y : ℕ → Row) (ch : Fin 64) (f g : ℝ → ℝ) : chan Y ch (fun y => f y + g y) = chan Y ch f + chan Y ch g := by
  unfold chan
  simp only [sum_add_distrib]

theorem chan_mul (Y : ℕ → Row) (ch : Fin 64) (r : ℝ) (f : ℝ → ℝ) : chan Y ch (fun y => r * f y) = r * chan Y ch f := by
  unfold chan
  simp only [mul_sum]

theorem chan_const (Y : ℕ → Row) (ch : Fin 64) (r : ℝ) : chan Y ch (fun _ => r) = 172032 * r := by
  unfold chan
  simp only [sum_const, card_range, nsmul_eq_mul]
  push_cast
  ring

/-- The mean squared distance from the mean is the spread. -/
theorem chan_dev (Y : ℕ → Row) (ch : Fin 64) : chan Y ch (fun y => (y - chan Y ch (fun y => y) / cnt) * (y - chan Y ch (fun y => y) / cnt)) / cnt
    = spread (chan Y ch fun y => y) (chan Y ch fun y => y * y) := by
  generalize hS : chan Y ch (fun y => y) = S
  have e : (fun y : ℝ => (y - S / cnt) * (y - S / cnt)) = fun y => (y * y) + ((-2 * (S / cnt)) * y + (S / cnt) * (S / cnt)) := by
    funext y
    ring
  rw [e, chan_add Y ch (fun y => y * y) (fun y => (-2 * (S / cnt)) * y + (S / cnt) * (S / cnt)),
    chan_add Y ch (fun y => (-2 * (S / cnt)) * y) (fun _ => (S / cnt) * (S / cnt)), chan_mul Y ch _ (fun y => y), chan_const, hS]
  unfold spread cnt
  ring

theorem spread_nonneg (Y : ℕ → Row) (ch : Fin 64) : 0 ≤ spread (chan Y ch fun y => y) (chan Y ch fun y => y * y) := by
  rw [← chan_dev]
  refine div_nonneg (sum_nonneg fun a _ => sum_nonneg fun k _ => mul_self_nonneg _) ?_
  unfold cnt
  norm_num

end Cert.Att
-- ==== Proof.Val.Tables.lean ====
/- The one-hot tables the host prepares. -/
module

public import proofs.«01_k».proof.Proof.Run.Hosts0
public import proofs.«01_k».proof.Proof.Val.Sums
public import Idealize.ShloMosaic.Lib.Pointwise
public import Idealize.ShloMosaic.Lib.StableHlo.Run

@[expose] public section

set_option maxRecDepth 16384

noncomputable section

namespace Cert.KernelIdeal.Whole

open Cert.KernelIdeal Cert.KernelIdeal.Gen Idealize.ShloMosaic Idealize.ShloMosaic.TcCoe Cert.Att

variable {F : FTy → Type} [FloatOps F] (V : Valuation τ sig (Elt F))

/-- The remainder's words, one entry. -/
def remWord (x : BitVec 32) : BitVec 32 :=
  Scalar.select
    (IntOp.andi
      (IntOp.cmpi CmpIPredicate.ne
        (IntOp.cmpi CmpIPredicate.slt
          (IntOp.remsi ArithUnit.host x (Scalar.select (IntOp.cmpi CmpIPredicate.eq 1344#32 0#32) 1#32 1344#32))
          0#32)
        (IntOp.cmpi CmpIPredicate.slt (Scalar.select (IntOp.cmpi CmpIPredicate.eq 1344#32 0#32) 1#32 1344#32) 0#32))
      (IntOp.cmpi CmpIPredicate.ne
        (IntOp.remsi ArithUnit.host x (Scalar.select (IntOp.cmpi CmpIPredicate.eq 1344#32 0#32) 1#32 1344#32))
        0#32))
    (IntOp.addi
      (IntOp.remsi ArithUnit.host x (Scalar.select (IntOp.cmpi CmpIPredicate.eq 1344#32 0#32) 1#32 1344#32))
      (Scalar.select (IntOp.cmpi CmpIPredicate.eq 1344#32 0#32) 1#32 1344#32))
    (IntOp.remsi ArithUnit.host x (Scalar.select (IntOp.cmpi CmpIPredicate.eq 1344#32 0#32) 1#32 1344#32))

set_option maxRecDepth 100000 in
theorem remWord_eq : ∀ n : Fin 10752, remWord (BitVec.ofNat 32 n.val) = BitVec.ofNat 32 (n.val % 1344) := by decide +kernel

/-- The quotient's words, one entry. -/
def quoWord (x : BitVec 32) : BitVec 32 :=
  Scalar.select
    (IntOp.andi
      (IntOp.cmpi CmpIPredicate.ne
        (if x = 0 then 0 else if BitVec.msb x = true then -1 else 1)
        (if (21#32 : BitVec 32) = 0 then 0 else if (21#32).msb = true then -1 else 1 : BitVec 32))
      (IntOp.cmpi CmpIPredicate.ne (IntOp.remsi ArithUnit.host x 21#32) 0#32))
    (IntOp.subi (IntOp.divsi ArithUnit.host x 21#32) 1#32)
    (IntOp.divsi ArithUnit.host x 21#32)

theorem quoWord_eq : ∀ n : Fin 1344, quoWord (BitVec.ofNat 32 n.val) = BitVec.ofNat 32 (n.val / 21) := by decide +kernel

theorem hotWord_eq : ∀ a b : Fin 64, IntOp.cmpi CmpIPredicate.eq (BitVec.ofNat 32 a.val) (BitVec.ofNat 32 b.val) = if a.val = b.val then 1#1 else 0#1 := by
  decide +kernel

theorem rem1 (h0 : V (Proc.devRef .tc main_v6) = iotaInDim S5376 32 0) (h1 : V (Proc.devRef .tc main_c) = constantI S_ 32 1344#32) (n : Fin 5376) :
    (StableHlo.after hostOps1_1 V (Proc.devRef .tc main_v7) : IVec S5376 32) (ix1 n) = BitVec.ofNat 32 (n.val % 1344) := by
  after_results_simp
  rw [h0, h1]
  simp -implicitDefEqProofs only [StableHlo.TRef.toBuf, StableHlo.TRef.ofBuf, cast_cast, cast_eq, id]
  pointwise
  exact remWord_eq ⟨n.val, by omega⟩

theorem quo1 (h1 : V (Proc.devRef .tc main_c_0) = constantI S_ 32 21#32) (n : Fin 5376)
    (h0 : (V (Proc.devRef .tc main_v7) : IVec S5376 32) (ix1 n) = BitVec.ofNat 32 (n.val % 1344)) :
    (StableHlo.after hostOps1_3 V (Proc.devRef .tc main_v8) : IVec S5376 32) (ix1 n) = BitVec.ofNat 32 (n.val % 1344 / 21) := by
  after_results_simp
  rw [h1]
  simp -implicitDefEqProofs only [StableHlo.TRef.toBuf, StableHlo.TRef.ofBuf, cast_cast, cast_eq, id]
  pointwise
  rw [h0]
  exact quoWord_eq ⟨n.val % 1344, by omega⟩

theorem hot1 (V : Valuation τ sig (Elt Ideal)) (n : Fin 5376) (ch : Fin 64)
    (h0 : (V (Proc.devRef .tc main_v8) : IVec S5376 32) (ix1 n) = BitVec.ofNat 32 (n.val % 1344 / 21)) :
    (StableHlo.after hostOps1_4 V (Proc.devRef .tc main_v15) : Vec Ideal S5376x64 .f32) (ix2 n ch) = (hot n.val ch : EReal) := by
  after_results_simp
  pointwise
  rw [h0, hotWord_eq ⟨n.val % 1344 / 21, by omega⟩ ch]
  unfold hot
  dsimp only
  by_cases h : n.val % 1344 / 21 = ch.val
  · rw [if_pos h, if_pos h]
    simp [FloatOps.uitofp]
  · rw [if_neg h, if_neg h]
    simp [FloatOps.uitofp]

theorem remA (h0 : V (Proc.devRef .tc main_v16) = iotaInDim S10752 32 0) (h1 : V (Proc.devRef .tc main_c_1) = constantI S_ 32 1344#32) (n : Fin 10752) :
    (StableHlo.after hostOps1_5 V (Proc.devRef .tc main_v17) : IVec S10752 32) (ix1 n) = BitVec.ofNat 32 (n.val % 1344) := by
  after_results_simp
  rw [h0, h1]
  simp -implicitDefEqProofs only [StableHlo.TRef.toBuf, StableHlo.TRef.ofBuf, cast_cast, cast_eq, id]
  pointwise
  exact remWord_eq ⟨n.val, by omega⟩

theorem quoA (h1 : V (Proc.devRef .tc main_c_2) = constantI S_ 32 21#32) (n : Fin 10752)
    (h0 : (V (Proc.devRef .tc main_v17) : IVec S10752 32) (ix1 n) = BitVec.ofNat 32 (n.val % 1344)) :
    (StableHlo.after hostOps1_7 V (Proc.devRef .tc main_v18) : IVec S10752 32) (ix1 n) = BitVec.ofNat 32 (n.val % 1344 / 21) := by
  after_results_simp
  rw [h1]
  simp -implicitDefEqProofs only [StableHlo.TRef.toBuf, StableHlo.TRef.ofBuf, cast_cast, cast_eq, id]
  pointwise
  rw [h0]
  exact quoWord_eq ⟨n.val % 1344, by omega⟩

theorem hotA (V : Valuation τ sig (Elt Ideal)) (n : Fin 10752) (ch : Fin 64)
    (h0 : (V (Proc.devRef .tc main_v18) : IVec S10752 32) (ix1 n) = BitVec.ofNat 32 (n.val % 1344 / 21)) :
    (StableHlo.after hostOps1_8 V (Proc.devRef .tc main_v25) : Vec Ideal S10752x64 .f32) (ix2 n ch) = (hot n.val ch : EReal) := by
  after_results_simp
  pointwise
  rw [h0, hotWord_eq ⟨n.val % 1344 / 21, by omega⟩ ch]
  unfold hot
  dsimp only
  by_cases h : n.val % 1344 / 21 = ch.val
  · rw [if_pos h, if_pos h]
    simp [FloatOps.uitofp]
  · rw [if_neg h, if_neg h]
    simp [FloatOps.uitofp]

theorem rem2 (h0 : V (Proc.devRef .tc main_v27) = iotaInDim S5376 32 0) (h1 : V (Proc.devRef .tc main_c_3) = constantI S_ 32 1344#32) (n : Fin 5376) :
    (StableHlo.after hostOps2_1 V (Proc.devRef .tc main_v28) : IVec S5376 32) (ix1 n) = BitVec.ofNat 32 (n.val % 1344) := by
  after_results_simp
  rw [h0, h1]
  simp -implicitDefEqProofs only [StableHlo.TRef.toBuf, StableHlo.TRef.ofBuf, cast_cast, cast_eq, id]
  pointwise
  exact remWord_eq ⟨n.val, by omega⟩

theorem quo2 (h1 : V (Proc.devRef .tc main_c_4) = constantI S_ 32 21#32) (n : Fin 5376)
    (h0 : (V (Proc.devRef .tc main_v28) : IVec S5376 32) (ix1 n) = BitVec.ofNat 32 (n.val % 1344)) :
    (StableHlo.after hostOps2_3 V (Proc.devRef .tc main_v29) : IVec S5376 32) (ix1 n) = BitVec.ofNat 32 (n.val % 1344 / 21) := by
  after_results_simp
  rw [h1]
  simp -implicitDefEqProofs only [StableHlo.TRef.toBuf, StableHlo.TRef.ofBuf, cast_cast, cast_eq, id]
  pointwise
  rw [h0]
  exact quoWord_eq ⟨n.val % 1344, by omega⟩

theorem hot2 (V : Valuation τ sig (Elt Ideal)) (n : Fin 5376) (ch : Fin 64)
    (h0 : (V (Proc.devRef .tc main_v29) : IVec S5376 32) (ix1 n) = BitVec.ofNat 32 (n.val % 1344 / 21)) :
    (StableHlo.after hostOps2_4 V (Proc.devRef .tc main_v36) : Vec Ideal S5376x64 .f32) (ix2 n ch) = (hot n.val ch : EReal) := by
  after_results_simp
  pointwise
  rw [h0, hotWord_eq ⟨n.val % 1344 / 21, by omega⟩ ch]
  unfold hot
  dsimp only
  by_cases h : n.val % 1344 / 21 = ch.val
  · rw [if_pos h, if_pos h]
    simp [FloatOps.uitofp]
  · rw [if_neg h, if_neg h]
    simp [FloatOps.uitofp]

end Cert.KernelIdeal.Whole
-- ==== Proof.Val.Spec.lean ====
/- The result over the reals. -/
module

public import proofs.«01_k».proof.Proof.Val.Sums

@[expose] public section

noncomputable section

namespace Cert.Att

/-- The features: batch row, feature, time, joint. -/
abbrev Input := Fin 128 → Fin 64 → Fin 64 → Fin 21 → ℝ

/-- Row `n` of the features laid row by row: batch row `n / 1344`, time `n % 1344 / 21`, joint `n % 1344 % 21`. -/
def rowX (x : Input) (n : ℕ) : Row := fun o =>
  x ⟨n / 1344 % 128, Nat.mod_lt _ (by norm_num)⟩ o ⟨n % 1344 / 21, by omega⟩ ⟨n % 1344 % 21, by omega⟩

/-- The rows of the first six joints, in order. -/
def srcX (x : Input) (d : ℕ) : Row := rowX x (21 * (d / 6) + d % 6)

/-- The neighbours of a row, by its residue modulo 6. -/
def nbr : Fin 6 → List (Fin 6)
  | 0 => [0, 1, 2, 3, 4]
  | 1 => [1, 5]
  | 2 => [2, 5]
  | 3 => [3]
  | 4 => [0, 4]
  | 5 => [1, 2, 5]

/-- Row `n` of the layers' sum: the first 49152 rows receive neighbours. -/
def rowY (P : Params) (x : Input) (n : ℕ) : Row :=
  if n < 49152 then withNbrs P (rowX x n) ((nbr ⟨n % 6, Nat.mod_lt _ (by norm_num)⟩).map fun c => srcX x (6 * (n / 6) + c.val))
  else alone P (rowX x n)

/-- The result's entry. -/
def result (x : Input) (P : Params) (W B : Row) (a : Fin 128) (b d : Fin 64) (e : Fin 21) : ℝ :=
  max (rowY P x (1344 * a.val + (21 * b.val + (21 * d.val + e.val) / 64)) ⟨(21 * d.val + e.val) % 64, Nat.mod_lt _ (by norm_num)⟩
      * factor (chan (rowY P x) b fun y => y) (chan (rowY P x) b fun y => y * y) (W b)
    + offset (chan (rowY P x) b fun y => y) (chan (rowY P x) b fun y => y * y) (W b) (B b) + x a b d e) 0

end Cert.Att
-- ==== Proof.Val.Kernel.lean ====
/- What the kernel's program leaves in its result, over the reals. -/
module

public import proofs.«01_k».proof.Proof.Val.Arr0
public import proofs.«01_k».proof.Proof.Val.Arr1
public import proofs.«01_k».proof.Proof.Val.Arr2
public import proofs.«01_k».proof.Proof.Val.Host
public import proofs.«01_k».proof.Proof.Val.Tables
public import proofs.«01_k».proof.Proof.Val.Sums
public import proofs.«01_k».proof.Proof.Val.Spec
public import proofs.«01_k».proof.Proof.Run.Fold0

@[expose] public section

set_option maxRecDepth 16384

noncomputable section

namespace Cert.KernelIdeal.Whole

open Cert.KernelIdeal Cert.KernelIdeal.Gen Idealize.ShloMosaic Idealize.ShloMosaic.TcCoe Cert.Att

/-- Row `n` of the layers' sum, over any rows. -/
def rowsY (P : Params) (X XS : ℕ → Row) (n : ℕ) : Row := if n < 49152 then received P X XS n else alone P (X n)

theorem nbrs_eq : nbrs = nbr := by
  funext r
  match r with
  | 0 => rfl
  | 1 => rfl
  | 2 => rfl
  | 3 => rfl
  | 4 => rfl
  | 5 => rfl

theorem rowsY_eq (P : Params) (x : Input) : rowsY P (rowX x) (srcX x) = rowY P x := by
  funext n
  unfold rowsY rowY received
  rw [nbrs_eq]

/-! ## The statistics -/

theorem hot_blk (j : Fin 32) (n : Fin 5376) (ch : Fin 64) : hot n.val ch = hot (5376 * j.val + n.val) ch := by
  rw [hot_mod n.val (5376 * j.val + n.val) (by omega)]

theorem hot_rows (j : Fin 32) (n : Fin 1536) (ch : Fin 64) : hot (1536 * (j.val % 7) + n.val) ch = hot (1536 * j.val + n.val) ch := by
  rw [hot_mod (1536 * (j.val % 7) + n.val) (1536 * j.val + n.val) (by omega)]

theorem whole1_eq (P : Params) (X XS : ℕ → Row) (ch : Fin 64) (f : ℝ → ℝ) :
    whole1 P X XS hot hot ch f = chan (rowsY P X XS) ch f := by
  unfold whole1 share1 part
  rw [Finset.sum_add_distrib, ← sum_hot]
  have e1 : ∑ j : Fin 32, ∑ n : Fin 5376, hot n.val ch * ((∑ o, f (alone P (X (5376 * j.val + n.val)) o)) * tailw j n)
      = ∑ k ∈ Finset.range (5376 * 32), if 49152 ≤ k then hot k ch * ∑ o, f (alone P (X k) o) else 0 := by
    rw [← sum_blocks 5376 _ 32, Finset.sum_range]
    refine Finset.sum_congr rfl fun j _ => ?_
    rw [Finset.sum_range]
    refine Finset.sum_congr rfl fun n _ => ?_
    rw [hot_blk j]
    unfold tailw
    by_cases h : 49152 ≤ 5376 * j.val + n.val
    · rw [if_pos h, if_pos h, mul_one]
    · rw [if_neg h, if_neg h, mul_zero, mul_zero]
  have e2 : ∑ j : Fin 32, ∑ n : Fin 1536, hot (1536 * (j.val % 7) + n.val) ch * ∑ o, f (received P X XS (1536 * j.val + n.val) o)
      = ∑ k ∈ Finset.range (1536 * 32), hot k ch * ∑ o, f (received P X XS k o) := by
    rw [← sum_blocks 1536 _ 32, Finset.sum_range]
    refine Finset.sum_congr rfl fun j _ => ?_
    rw [Finset.sum_range]
    refine Finset.sum_congr rfl fun n _ => ?_
    rw [hot_rows j]
  have n1 : 5376 * 32 = 49152 + 122880 := by norm_num
  have n2 : 172032 = 49152 + 122880 := by norm_num
  have n3 : 1536 * 32 = 49152 := by norm_num
  refine (congrArg₂ (· + ·) e1 e2).trans ?_
  rw [n1, n2, n3, Finset.sum_range_add, Finset.sum_range_add]
  have z : ∑ k ∈ Finset.range 49152, (if 49152 ≤ k then hot k ch * ∑ o, f (alone P (X k) o) else 0) = 0 :=
    Finset.sum_eq_zero fun k hk => if_neg (by have := Finset.mem_range.mp hk; omega)
  rw [z, zero_add, add_comm]
  refine congrArg₂ (· + ·) ?_ ?_
  · refine Finset.sum_congr rfl fun k hk => ?_
    rw [rowsY, if_pos (Finset.mem_range.mp hk)]
  · refine Finset.sum_congr rfl fun k _ => ?_
    rw [if_pos (Nat.le_add_right 49152 k), rowsY, if_neg (by omega)]

theorem split_row (k q v : ℕ) (hk : k < 128) (hq : q < 64) (hv : v < 6) : (1344 * k + (21 * q + v)) / 1344 % 128 = k
    ∧ (1344 * k + (21 * q + v)) % 1344 / 21 = q ∧ (1344 * k + (21 * q + v)) % 1344 % 21 = v := by
  omega

/-! ## The run -/

section
variable (m : (ℓ : Loc nD τ sig) → Buf (Elt Ideal) ℓ) (ρ : Dev nD → PrngReg) (c : Dev nD)

/-- The arguments hold these reals. -/
structure Args (x : Input) (P : Params) (W B : Row) : Prop where
  x : ∀ a b t v, (m ((c : Thread nD τ).loc main_arg0) : Vec Ideal S128x64x64x21 .f32) (ix4 a b t v) = (x a b t v : EReal)
  P : HoldsP P (m ((c : Thread nD τ).loc main_arg1)) (m ((c : Thread nD τ).loc main_arg3)) (m ((c : Thread nD τ).loc main_arg2))
    (m ((c : Thread nD τ).loc main_arg4)) (m ((c : Thread nD τ).loc main_arg5)) (m ((c : Thread nD τ).loc main_arg6))
  W : ∀ ch, (m ((c : Thread nD τ).loc main_arg7) : Vec Ideal S64 .f32) (ix1 ch) = (W ch : EReal)
  B : ∀ ch, (m ((c : Thread nD τ).loc main_arg8) : Vec Ideal S64 .f32) (ix1 ch) = (B ch : EReal)

variable (x : Input) (P : Params) (W B : Row) (A : Args m c x P W B)
include A

theorem W1_v0 (a : Fin 64) (v : Fin 21) (t : Fin 64) (k : Fin 128) :
    (W1 m ρ c (Proc.devRef .tc main_v0) : Vec Ideal S64x21x64x128 .f32) (ix4 a v t k) = (x k a t v : EReal) :=
  (host_v0 _ a v t k).trans (A.x k a t v)

theorem W3_v4 (n : Fin 172032) (o : Fin 64) : (W3 m ρ c (Proc.devRef .tc main_v4) : Vec Ideal S172032x64 .f32) (ix2 n o) = (rowX x n.val o : EReal) := by
  refine (host_v4 _ n o).trans ?_
  refine (congrFun ((W2_arr m ρ c 1).trans (arr0_1 (V1 m ρ) c)) _).trans ?_
  refine (W1_v0 m ρ c x P W B A _ _ _ _).trans ?_
  unfold rowX
  congr 2
  exact Fin.ext (by show n.val / 1344 = n.val / 1344 % 128; omega)

theorem W3_v5 (n : Fin 49152) (o : Fin 64) : (W3 m ρ c (Proc.devRef .tc main_v5) : Vec Ideal S49152x64 .f32) (ix2 n o) = (srcX x n.val o : EReal) := by
  refine (host_v5 _ n o).trans ?_
  refine (congrFun ((W2_arr m ρ c 2).trans (arr0_2 (V1 m ρ) c)) _).trans ?_
  refine (W1_v0 m ρ c x P W B A _ _ _ _).trans ?_
  unfold srcX rowX
  have e0 : 21 * (n.val / 6) + n.val % 6 = 1344 * (n.val / 384) + (21 * (n.val / 6 % 64) + n.val % 6) := by omega
  rw [e0]
  have l1 : n.val / 6 % 64 < 64 := Nat.mod_lt _ (by norm_num)
  have l2 : n.val % 6 < 6 := Nat.mod_lt _ (by norm_num)
  have l3 : n.val / 384 < 128 := by omega
  obtain ⟨e1, e2, e3⟩ := split_row (n.val / 384) (n.val / 6 % 64) (n.val % 6) l3 l1 l2
  simp only [e1, e2, e3]
  rfl

omit A

theorem W3_v6 : W3 m ρ c (Proc.devRef .tc main_v6) = iotaInDim S5376 32 0 := by
  show StableHlo.after hostOps1 (W2 m ρ c) (Proc.devRef .tc main_v6) = _
  after_results_simp

theorem W3_c : W3 m ρ c (Proc.devRef .tc main_c) = constantI S_ 32 1344#32 := by
  show StableHlo.after hostOps1 (W2 m ρ c) (Proc.devRef .tc main_c) = _
  after_results_simp

theorem W5_c : W5 m ρ c (Proc.devRef .tc main_c_0) = constantI S_ 32 21#32 := by
  show StableHlo.after hostOps1_2 (W4 m ρ c) (Proc.devRef .tc main_c_0) = _
  after_results_simp

theorem W7_v16 : W7 m ρ c (Proc.devRef .tc main_v16) = iotaInDim S10752 32 0 := by
  show StableHlo.after hostOps1_4 (W6 m ρ c) (Proc.devRef .tc main_v16) = _
  after_results_simp

theorem W7_c : W7 m ρ c (Proc.devRef .tc main_c_1) = constantI S_ 32 1344#32 := by
  show StableHlo.after hostOps1_4 (W6 m ρ c) (Proc.devRef .tc main_c_1) = _
  after_results_simp

theorem W9_c : W9 m ρ c (Proc.devRef .tc main_c_2) = constantI S_ 32 21#32 := by
  show StableHlo.after hostOps1_6 (W8 m ρ c) (Proc.devRef .tc main_c_2) = _
  after_results_simp

theorem W13_v27 : W13 m ρ c (Proc.devRef .tc main_v27) = iotaInDim S5376 32 0 := by
  show StableHlo.after hostOps2 (W12 m ρ c) (Proc.devRef .tc main_v27) = _
  after_results_simp

theorem W13_c : W13 m ρ c (Proc.devRef .tc main_c_3) = constantI S_ 32 1344#32 := by
  show StableHlo.after hostOps2 (W12 m ρ c) (Proc.devRef .tc main_c_3) = _
  after_results_simp

theorem W15_c : W15 m ρ c (Proc.devRef .tc main_c_4) = constantI S_ 32 21#32 := by
  show StableHlo.after hostOps2_2 (W14 m ρ c) (Proc.devRef .tc main_c_4) = _
  after_results_simp

theorem W11_v15 (n : Fin 5376) (ch : Fin 64) : (W11 m ρ c (Proc.devRef .tc main_v15) : Vec Ideal S5376x64 .f32) (ix2 n ch) = (hot n.val ch : EReal) := by
  have h1 := rem1 (W3 m ρ c) (W3_v6 m ρ c) (W3_c m ρ c) n
  have h2 := (congrFun (W5_of m ρ c main_v7 (by decide +kernel)) (ix1 n)).trans h1
  have h3 := quo1 (W5 m ρ c) (W5_c m ρ c) n h2
  have h4 := hot1 (W6 m ρ c) n ch h3
  exact (congrFun ((W11_of m ρ c main_v15 (by decide +kernel)).trans ((W10_of m ρ c main_v15 (by decide +kernel)).trans ((W9_of m ρ c main_v15 (by decide +kernel)).trans (W8_of m ρ c main_v15 (by decide +kernel))))) _).trans h4

theorem W11_v25 (n : Fin 10752) (ch : Fin 64) : (W11 m ρ c (Proc.devRef .tc main_v25) : Vec Ideal S10752x64 .f32) (ix2 n ch) = (hot n.val ch : EReal) := by
  have h1 := remA (W7 m ρ c) (W7_v16 m ρ c) (W7_c m ρ c) n
  have h2 := (congrFun (W9_of m ρ c main_v17 (by decide +kernel)) (ix1 n)).trans h1
  have h3 := quoA (W9 m ρ c) (W9_c m ρ c) n h2
  have h4 := hotA (W10 m ρ c) n ch h3
  exact h4

theorem W17_v36 (n : Fin 5376) (ch : Fin 64) : (W17 m ρ c (Proc.devRef .tc main_v36) : Vec Ideal S5376x64 .f32) (ix2 n ch) = (hot n.val ch : EReal) := by
  have h1 := rem2 (W13 m ρ c) (W13_v27 m ρ c) (W13_c m ρ c) n
  have h2 := (congrFun (W15_of m ρ c main_v28 (by decide +kernel)) (ix1 n)).trans h1
  have h3 := quo2 (W15 m ρ c) (W15_c m ρ c) n h2
  have h4 := hot2 (W16 m ρ c) n ch h3
  exact h4

include A

theorem entry1 : Entry1 (V11 m ρ) c P (rowX x) (srcX x) hot hot where
  P := {
    wl := fun i o k => (congrFun (W11_args m ρ c main_arg1 (by decide +kernel)) _).trans (A.P.wl i o k)
    wr := fun i o k => (congrFun (W11_args m ρ c main_arg3 (by decide +kernel)) _).trans (A.P.wr i o k)
    bl := fun i o => (congrFun (W11_args m ρ c main_arg2 (by decide +kernel)) _).trans (A.P.bl i o)
    br := fun i o => (congrFun (W11_args m ρ c main_arg4 (by decide +kernel)) _).trans (A.P.br i o)
    att := fun i o => (congrFun (W11_args m ρ c main_arg5 (by decide +kernel)) _).trans (A.P.att i o)
    b := fun i o => (congrFun (W11_args m ρ c main_arg6 (by decide +kernel)) _).trans (A.P.b i o) }
  X := fun n o => (congrFun ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans ((W6_of m ρ c main_v4 (by decide +kernel)).trans ((W5_of m ρ c main_v4 (by decide +kernel)).trans (W4_of m ρ c main_v4 (by decide +kernel))))))))) _).trans (W3_v4 m ρ c x P W B A n o)
  XS := fun n o => (congrFun ((W11_of m ρ c main_v5 (by decide +kernel)).trans ((W10_of m ρ c main_v5 (by decide +kernel)).trans ((W9_of m ρ c main_v5 (by decide +kernel)).trans ((W8_of m ρ c main_v5 (by decide +kernel)).trans ((W7_of m ρ c main_v5 (by decide +kernel)).trans ((W6_of m ρ c main_v5 (by decide +kernel)).trans ((W5_of m ρ c main_v5 (by decide +kernel)).trans (W4_of m ρ c main_v5 (by decide +kernel))))))))) _).trans (W3_v5 m ρ c x P W B A n o)
  U := fun n o => W11_v15 m ρ c n o
  W := fun n o => W11_v25 m ρ c n o

theorem entry2 : Entry2 (V17 m ρ) c (rowX x) (rowY P x) hot (fun ch => chan (rowY P x) ch fun y => y) (fun ch => chan (rowY P x) ch fun y => y * y) W B where
  hbase := fun n o h => by
    refine (congrFun ((W17_of m ρ c main_v26_0 (by decide +kernel)).trans ((W16_of m ρ c main_v26_0 (by decide +kernel)).trans ((W15_of m ρ c main_v26_0 (by decide +kernel)).trans ((W14_of m ρ c main_v26_0 (by decide +kernel)).trans (W13_of m ρ c main_v26_0 (by decide +kernel)))))) _).trans ?_
    refine (congrFun (W12_arr m ρ c 11) _).trans ((arr1_11 (V11 m ρ) c P (rowX x) (srcX x) hot hot (entry1 m ρ c x P W B A) n o).trans ?_)
    rw [rowY, if_neg (by omega)]
  hrows := fun n o h => by
    refine (congrFun ((W17_of m ρ c main_v26_1 (by decide +kernel)).trans ((W16_of m ρ c main_v26_1 (by decide +kernel)).trans ((W15_of m ρ c main_v26_1 (by decide +kernel)).trans ((W14_of m ρ c main_v26_1 (by decide +kernel)).trans (W13_of m ρ c main_v26_1 (by decide +kernel)))))) _).trans ?_
    refine (congrFun (W12_arr m ρ c 12) _).trans ((arr1_12 (V11 m ρ) c P (rowX x) (srcX x) hot hot (entry1 m ρ c x P W B A) n o h).trans ?_)
    rw [← rowsY_eq, rowsY, if_pos h]
  hX := fun n o => (congrFun ((W17_of m ρ c main_v4 (by decide +kernel)).trans ((W16_of m ρ c main_v4 (by decide +kernel)).trans ((W15_of m ρ c main_v4 (by decide +kernel)).trans ((W14_of m ρ c main_v4 (by decide +kernel)).trans ((W13_of m ρ c main_v4 (by decide +kernel)).trans ((W12_of m ρ c main_v4 (by decide +kernel)).trans ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans ((W6_of m ρ c main_v4 (by decide +kernel)).trans ((W5_of m ρ c main_v4 (by decide +kernel)).trans (W4_of m ρ c main_v4 (by decide +kernel))))))))))))))) _).trans (W3_v4 m ρ c x P W B A n o)
  hS := fun ch => by
    refine (congrFun ((W17_of m ρ c main_v26_2 (by decide +kernel)).trans ((W16_of m ρ c main_v26_2 (by decide +kernel)).trans ((W15_of m ρ c main_v26_2 (by decide +kernel)).trans ((W14_of m ρ c main_v26_2 (by decide +kernel)).trans (W13_of m ρ c main_v26_2 (by decide +kernel)))))) _).trans ?_
    refine (congrFun (W12_arr m ρ c 13) _).trans ((arr1_13 (V11 m ρ) c P (rowX x) (srcX x) hot hot (entry1 m ρ c x P W B A) ch).1.trans ?_)
    rw [whole1_eq, rowsY_eq]
  hQ := fun ch => by
    refine (congrFun ((W17_of m ρ c main_v26_2 (by decide +kernel)).trans ((W16_of m ρ c main_v26_2 (by decide +kernel)).trans ((W15_of m ρ c main_v26_2 (by decide +kernel)).trans ((W14_of m ρ c main_v26_2 (by decide +kernel)).trans (W13_of m ρ c main_v26_2 (by decide +kernel)))))) _).trans ?_
    refine (congrFun (W12_arr m ρ c 13) _).trans ((arr1_13 (V11 m ρ) c P (rowX x) (srcX x) hot hot (entry1 m ρ c x P W B A) ch).2.trans ?_)
    rw [whole1_eq, rowsY_eq]
  hW := fun ch => (congrFun ((W17_of m ρ c main_v1 (by decide +kernel)).trans ((W16_of m ρ c main_v1 (by decide +kernel)).trans ((W15_of m ρ c main_v1 (by decide +kernel)).trans ((W14_of m ρ c main_v1 (by decide +kernel)).trans ((W13_of m ρ c main_v1 (by decide +kernel)).trans ((W12_of m ρ c main_v1 (by decide +kernel)).trans ((W11_of m ρ c main_v1 (by decide +kernel)).trans ((W10_of m ρ c main_v1 (by decide +kernel)).trans ((W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (W2_of m ρ c main_v1 (by decide +kernel))))))))))))))))) _).trans ((host_v1 _ ch).trans (A.W ch))
  hB := fun ch => (congrFun ((W17_of m ρ c main_v2 (by decide +kernel)).trans ((W16_of m ρ c main_v2 (by decide +kernel)).trans ((W15_of m ρ c main_v2 (by decide +kernel)).trans ((W14_of m ρ c main_v2 (by decide +kernel)).trans ((W13_of m ρ c main_v2 (by decide +kernel)).trans ((W12_of m ρ c main_v2 (by decide +kernel)).trans ((W11_of m ρ c main_v2 (by decide +kernel)).trans ((W10_of m ρ c main_v2 (by decide +kernel)).trans ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans (W2_of m ρ c main_v2 (by decide +kernel))))))))))))))))) _).trans ((host_v2 _ ch).trans (A.B ch))
  hU := fun n o => W17_v36 m ρ c n o
  hpos := fun ch => spread_nonneg _ ch

omit A in
theorem row_chan (a b q : ℕ) (hb : q < 21) : (1344 * a + (21 * b + q)) % 1344 / 21 = b % 64 := by omega

omit A in
theorem row_batch (a k : ℕ) (ha : a < 128) (hk : k < 1344) : (1344 * a + k) / 1344 % 128 = a := by
  have h : (1344 * a + k) / 1344 = a := by omega
  rw [h]
  omega

omit A in
theorem row_flat (a b k : ℕ) (hb : b < 64) (hk : k < 1344) :
    64 * ((1344 * a + (21 * b + k / 64)) / 1344 * 21 + (1344 * a + (21 * b + k / 64)) % 21) + k % 64 = 1344 * a + k := by
  have hq : k / 64 < 21 := by omega
  have h1 : (1344 * a + (21 * b + k / 64)) / 1344 = a := by omega
  have h2 : (1344 * a + (21 * b + k / 64)) % 21 = k / 64 := by omega
  rw [h1, h2]
  omega

omit A in
theorem hot_pick (n : ℕ) (f : Row) : ∑ ch, hot (n % 5376) ch * f ch = f ⟨n % 1344 / 21, by omega⟩ := by
  rw [hot_mod (n % 5376) n (by omega), Finset.sum_eq_single_of_mem (⟨n % 1344 / 21, by omega⟩ : Fin 64) (Finset.mem_univ _)]
  · rw [hot, if_pos rfl, one_mul]
  · intro ch _ h
    rw [hot, if_neg (fun e => h (Fin.ext e.symm)), zero_mul]

/-- The result's entries at the program's end. -/
theorem W19_v38 (a : Fin 128) (b d : Fin 64) (e : Fin 21) :
    (W19 m ρ c (Proc.devRef .tc main_v38) : Vec Ideal S128x64x64x21 .f32) (ix4 a b d e) = (result x P W B a b d e : EReal) := by
  refine (host_v38 _ a b d e).trans ?_
  refine (congrFun (W18_arr m ρ c 7) _).trans ((arr2_7 (V17 m ρ) c _ _ _ _ _ _ _ (entry2 m ρ c x P W B A) _ _).trans ?_)
  have h1 : (a.val * 86016 + b.val * 1344 + d.val * 21 + e.val) / 64 = 1344 * a.val + (21 * b.val + (21 * d.val + e.val) / 64) := by omega
  have h2 : (a.val * 86016 + b.val * 1344 + d.val * 21 + e.val) % 64 = (21 * d.val + e.val) % 64 := by omega
  have hq : (21 * d.val + e.val) / 64 < 21 := by omega
  have h3 := row_chan a.val b.val _ hq
  have h4 := row_flat a.val b.val (21 * d.val + e.val) b.isLt (by omega)
  have h5 := row_batch a.val (21 * d.val + e.val) a.isLt (by omega)
  have h6 : (1344 * a.val + (21 * d.val + e.val)) % 1344 / 21 = d.val := by omega
  have h7 : (1344 * a.val + (21 * d.val + e.val)) % 1344 % 21 = e.val := by omega
  simp only [h1, h2]
  unfold final2 result
  rw [hot_pick _ (fun ch => factor (chan (rowY P x) ch fun y => y) (chan (rowY P x) ch fun y => y * y) (W ch)),
    hot_pick _ (fun ch => offset (chan (rowY P x) ch fun y => y) (chan (rowY P x) ch fun y => y * y) (W ch) (B ch))]
  have hb : b.val % 64 = b.val := Nat.mod_eq_of_lt b.isLt
  simp only [h3, h4, hb]
  unfold rowX
  simp only [h5, h6, h7]
end

end Cert.KernelIdeal.Whole
-- ==== Proof.Ref.Ops.lean ====
/- The reference's layers, each the same operations on its own slices of the parameters. -/
module

public import proofs.«01_k».proof.Proof.Gen.ReferenceIdeal.Run
public import Idealize.ShloMosaic.Lib.Pipeline.Regions

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

variable {F : FTy → Type} [FloatOps F]

/-- An index column, a negative index counted from the end. -/
def column (w : IVec S294912 32) : IVec S294912x1 32 :=
  broadcastInDim S294912x1 ![0] bcast_S294912_S294912x1_0 (select (cmpi .slt w (broadcastInDim S294912 ![] bcast_S_S294912 (constantI S_ 32 0#32))) (addi w (broadcastInDim S294912 ![] bcast_S_S294912 (constantI S_ 32 172032#32))) w)

/-- The rows' affine images. -/
def image (X : FVec F S172032x64 .f32) (M : FVec F S64x64 .f32) (b : FVec F S64 .f32) : FVec F S172032x64 .f32 :=
  addf (Host.dotGeneral dot_S172032x64_S64x64_S172032x64_1_0_0_1_n_n none X (transpose S64x64 [1, 0] M transposes_S64x64_S64x64_1_0)) (broadcastInDim S172032x64 ![0, 1] bcast_S1x64_S172032x64_0_1 (broadcastInDim S1x64 ![1] bcast_S64_S1x64_1 b))

/-- Each edge's sum of its two rows' images. -/
def pairs (L R : FVec F S172032x64 .f32) (s d : IVec S294912 32) : FVec F S294912x64 .f32 :=
  addf (Host.gather gather_S172032x64_S294912x1_S294912x64_1_0_n_n_0_1_164 L (column s)) (Host.gather gather_S172032x64_S294912x1_S294912x64_1_0_n_n_0_1_164 R (column d))

/-- Each edge's logit. -/
def logits (E : FVec F S294912x64 .f32) (a : FVec F S64 .f32) : FVec F S294912 .f32 :=
  Host.reduceAdd (mulf (select (cmpf .oge E (broadcastInDim S294912x64 ![] bcast_S_S294912x64 (constant S_ .f32 0x00000000#32))) E (mulf (broadcastInDim S294912x64 ![] bcast_S_S294912x64 (id (constant S_ .f32 0x3E4CCCCD#32))) E)) (broadcastInDim S294912x64 ![0, 1] bcast_S1x64_S294912x64_0_1 (broadcastInDim S1x64 ![1] bcast_S64_S1x64_1 a))) (constant S_ .f32 0x00000000#32) reducesTo_S294912x64_S294912_d1 h_S_

/-- Each row's greatest logit. -/
def peaks (lg : FVec F S294912 .f32) : FVec F S172032 .f32 :=
  maximumf (concatenate S172032 0 [⟨S49152, (shapeCast _ (Host.reduce FloatOps.maximumf (select (broadcastInDim S8192x6x15 ![0, 1, 2] bcast_S1x6x15_S8192x6x15_0_1_2 (broadcastInDim S1x6x15 ![1, 2] bcast_S6x15_S1x6x15_1_2 (cmpi .eq (broadcastInDim S6x15 ![0, 1] bcast_S6x1_S6x15_0_1 (broadcastInDim S6x1 ![0] bcast_S6_S6x1_0 (iotaInDim S6 32 0))) (broadcastInDim S6x15 ![0, 1] bcast_S1x15_S6x15_0_1 (broadcastInDim S1x15 ![1] bcast_S15_S1x15_1 ((fun i => lit2 (S15.rowMajor i)))))))) (broadcastInDim S8192x6x15 ![0, 1, 2] bcast_S8192x1x15_S8192x6x15_0_1_2 (shapeCast _ (extractStridedSlice S122880 ![0] lg slices_S294912_S122880_0) shapeCasts_S122880_S8192x1x15)) (broadcastInDim S8192x6x15 ![] bcast_S_S8192x6x15 (id (constant S_ .f32 0xFF800000#32)))) (constant S_ .f32 0xFF800000#32) reducesTo_S8192x6x15_S8192x6_d2 h_S_) shapeCasts_S8192x6_S49152)⟩, ⟨S122880, (broadcastInDim S122880 ![] bcast_S_S122880 (constant S_ .f32 0xFF800000#32))⟩] concatenates_S49152_S122880_S172032_d0) (extractStridedSlice S172032 ![122880] lg slices_S294912_S172032_122880)

/-- Each edge's weight. -/
def weights (lg : FVec F S294912 .f32) (pk : FVec F S172032 .f32) (d : IVec S294912 32) : FVec F S294912 .f32 :=
  Host.exp (subf lg (Host.gather gather_S172032_S294912x1_S294912_n_0_n_n_0_1_1 (select (cmpf .olt (Host.absf pk) (broadcastInDim S172032 ![] bcast_S_S172032 (constant S_ .f32 0x7F800000#32))) pk (broadcastInDim S172032 ![] bcast_S_S172032 (id (constant S_ .f32 0x00000000#32)))) (column d)))

/-- The indices a scatter takes. -/
def spots (d : IVec S294912 32) : IVec S294912x1 32 := broadcastInDim S294912x1 ![0] bcast_S294912_S294912x1_0 d

/-- Each row's weights summed, with its guard. -/
def dens (ex : FVec F S294912 .f32) (d : IVec S294912 32) : FVec F S172032 .f32 :=
  addf (Host.scatterAdd scatter_S172032_S294912x1_S294912_n_0_0_1 (broadcastInDim S172032 ![] bcast_S_S172032 (constant S_ .f32 0x00000000#32)) (spots d) ex) (id (select (cmpi .slt (iotaInDim S172032 32 0) (broadcastInDim S172032 ![] bcast_S_S172032 (constantI S_ 32 49152#32))) (broadcastInDim S172032 ![] bcast_S_S172032 (constant S_ .f32 0x24E69595#32)) (broadcastInDim S172032 ![] bcast_S_S172032 (constant S_ .f32 0x00000000#32))))

/-- Each edge's share of its source row. -/
def parts (L : FVec F S172032x64 .f32) (ex : FVec F S294912 .f32) (s d : IVec S294912 32) : FVec F S294912x64 .f32 :=
  mulf (Host.gather gather_S172032x64_S294912x1_S294912x64_1_0_n_n_0_1_164 L (column s)) (broadcastInDim S294912x64 ![0, 1] bcast_S294912x1_S294912x64_0_1 (broadcastInDim S294912x1 ![0] bcast_S294912_S294912x1_0 (Host.divf ex (Host.gather gather_S172032_S294912x1_S294912_n_0_n_n_0_1_1 (dens ex d) (column d)))))

/-- The shares summed over each row's edges, plus a vector. -/
def mixes (U : FVec F S294912x64 .f32) (d : IVec S294912 32) (b : FVec F S64 .f32) : FVec F S172032x64 .f32 :=
  addf (Host.scatterAdd scatter_S172032x64_S294912x1_S294912x64_1_0_0_1 (broadcastInDim S172032x64 ![] bcast_S_S172032x64 (constant S_ .f32 0x00000000#32)) (spots d) U) (broadcastInDim S172032x64 ![0, 1] bcast_S1x64_S172032x64_0_1 (broadcastInDim S1x64 ![1] bcast_S64_S1x64_1 b))

/-- A layer of the rows `X`. -/
def stage (X : FVec F S172032x64 .f32) (s d : IVec S294912 32) (Ml : FVec F S64x64 .f32) (bl : FVec F S64 .f32) (Mr : FVec F S64x64 .f32) (br a b : FVec F S64 .f32) :
    FVec F S172032x64 .f32 :=
  let L := image X Ml bl
  let lg := logits (pairs L (image X Mr br) s d) a
  mixes (parts L (weights lg (peaks lg) d) s d) d b

variable (V : Valuation τ sig (Elt F))

def mat0 (v : FVec F S3x64x64 .f32) : FVec F S64x64 .f32 := shapeCast _ (extractStridedSlice S1x64x64 ![0, 0, 0] v slices_S3x64x64_S1x64x64_0_0_0) shapeCasts_S1x64x64_S64x64
def mat1 (v : FVec F S3x64x64 .f32) : FVec F S64x64 .f32 := shapeCast _ (extractStridedSlice S1x64x64 ![1, 0, 0] v slices_S3x64x64_S1x64x64_1_0_0) shapeCasts_S1x64x64_S64x64
def mat2 (v : FVec F S3x64x64 .f32) : FVec F S64x64 .f32 := shapeCast _ (extractStridedSlice S1x64x64 ![2, 0, 0] v slices_S3x64x64_S1x64x64_2_0_0) shapeCasts_S1x64x64_S64x64
def vec0 (v : FVec F S3x64 .f32) : FVec F S64 .f32 := shapeCast _ (extractStridedSlice S1x64 ![0, 0] v slices_S3x64_S1x64_0_0) shapeCasts_S1x64_S64
def vec1 (v : FVec F S3x64 .f32) : FVec F S64 .f32 := shapeCast _ (extractStridedSlice S1x64 ![1, 0] v slices_S3x64_S1x64_1_0) shapeCasts_S1x64_S64
def vec2 (v : FVec F S3x64 .f32) : FVec F S64 .f32 := shapeCast _ (extractStridedSlice S1x64 ![2, 0] v slices_S3x64_S1x64_2_0) shapeCasts_S1x64_S64

theorem sum_eq : res_main_v336 V = addf (addf
    (stage (res_main_v22 V) (res_main_v19 V) (res_main_v20 V) (mat0 (V (Proc.devRef .tc main_arg1))) (vec0 (V (Proc.devRef .tc main_arg2))) (mat0 (V (Proc.devRef .tc main_arg3))) (vec0 (V (Proc.devRef .tc main_arg4))) (vec0 (V (Proc.devRef .tc main_arg5))) (vec0 (V (Proc.devRef .tc main_arg6))))
    (stage (res_main_v22 V) (res_main_v19 V) (res_main_v20 V) (mat1 (V (Proc.devRef .tc main_arg1))) (vec1 (V (Proc.devRef .tc main_arg2))) (mat1 (V (Proc.devRef .tc main_arg3))) (vec1 (V (Proc.devRef .tc main_arg4))) (vec1 (V (Proc.devRef .tc main_arg5))) (vec1 (V (Proc.devRef .tc main_arg6)))))
    (stage (res_main_v22 V) (res_main_v19 V) (res_main_v20 V) (mat2 (V (Proc.devRef .tc main_arg1))) (vec2 (V (Proc.devRef .tc main_arg2))) (mat2 (V (Proc.devRef .tc main_arg3))) (vec2 (V (Proc.devRef .tc main_arg4))) (vec2 (V (Proc.devRef .tc main_arg5))) (vec2 (V (Proc.devRef .tc main_arg6)))) := by
  chain_rfl

end Cert.ReferenceIdeal.Graph
-- ==== Proof.Ref.Land.lean ====
/- Where the reference's scatters put their updates and which rows its gathers take. -/
module

public import proofs.«01_k».proof.Proof.Ref.Ops
public import proofs.«01_k».proof.Proof.Val.Spec
public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

abbrev sc1 := scatter_S172032_S294912x1_S294912_n_0_0_1
abbrev sc2 := scatter_S172032x64_S294912x1_S294912x64_1_0_0_1

theorem start1 (idx : IVec S294912x1 32) (e : Fin 294912) : sc1.start (ix1 e) idx 0 = (idx (ix2 e 0)).toInt := by
  unfold ScatterDims.start
  rw [dif_pos (by decide)]
  refine congrArg (fun i => (idx i).toInt) (funext fun b => ?_)
  match b with
  | ⟨0, _⟩ => rfl
  | ⟨1, _⟩ => rfl

theorem start2 (idx : IVec S294912x1 32) (e : Fin 294912) (o : Fin 64) : sc2.start (ix2 e o) idx 0 = (idx (ix2 e 0)).toInt := by
  unfold ScatterDims.start
  rw [dif_pos (by decide)]
  refine congrArg (fun i => (idx i).toInt) (funext fun b => ?_)
  match b with
  | ⟨0, _⟩ => rfl
  | ⟨1, _⟩ => rfl

theorem land1 (idx : IVec S294912x1 32) (e : Fin 294912) (n : Fin 172032) :
    sc1.resultIdx? (ix1 e) idx = some (ix1 n) ↔ (idx (ix2 e 0)).toInt = (n.val : ℤ) := by
  rw [Routing.resultIdx?_eq_some]
  have h0 : sc1.start (ix1 e) idx 0 + (sc1.window (ix1 e) 0 : ℤ) = (idx (ix2 e 0)).toInt := by
    rw [start1]
    have : sc1.window (ix1 e) 0 = 0 := rfl
    rw [this]
    simp
  constructor
  · intro h
    exact h0.symm.trans (h 0)
  · intro h a
    match a with
    | ⟨0, _⟩ => exact h0.trans h

theorem land2 (idx : IVec S294912x1 32) (e : Fin 294912) (o' : Fin 64) (n : Fin 172032) (o : Fin 64) :
    sc2.resultIdx? (ix2 e o') idx = some (ix2 n o) ↔ (idx (ix2 e 0)).toInt = (n.val : ℤ) ∧ o' = o := by
  rw [Routing.resultIdx?_eq_some]
  have h0 : sc2.start (ix2 e o') idx 0 + (sc2.window (ix2 e o') 0 : ℤ) = (idx (ix2 e 0)).toInt := by
    rw [start2]
    have : sc2.window (ix2 e o') 0 = 0 := rfl
    rw [this]
    simp
  have h1 : sc2.start (ix2 e o') idx 1 + (sc2.window (ix2 e o') 1 : ℤ) = (o'.val : ℤ) := by
    have e1 : sc2.start (ix2 e o') idx 1 = 0 := rfl
    have e2 : sc2.window (ix2 e o') 1 = o'.val := rfl
    rw [e1, e2, zero_add]
  constructor
  · intro h
    exact ⟨h0.symm.trans (h 0), Fin.ext (by exact_mod_cast h1.symm.trans (h 1))⟩
  · intro h a
    match a with
    | ⟨0, _⟩ => exact h0.trans h.1
    | ⟨1, _⟩ => exact h1.trans (by rw [h.2]; rfl)

/-- A row gather. -/
theorem take2 {α : Type} (x : S172032x64.Idx → α) (idx : IVec S294912x1 32) (e : Fin 294912) (o : Fin 64) (n : Fin 172032)
    (h : idx (ix2 e 0) = BitVec.ofNat 32 n.val) :
    Host.gather gather_S172032x64_S294912x1_S294912x64_1_0_n_n_0_1_164 x idx (ix2 e o) = x (ix2 n o) := by
  rw [ix2_eq_valueIdx] at h
  rw [ix2_eq_valueIdx, ix2_eq_valueIdx]
  exact Routing.gather_row _ rfl rfl rfl rfl rfl x idx e o n h (by norm_num)

theorem take1 {α : Type} (x : S172032.Idx → α) (idx : IVec S294912x1 32) (e : Fin 294912) (n : Fin 172032)
    (h : idx (ix2 e 0) = BitVec.ofNat 32 n.val) :
    Host.gather gather_S172032_S294912x1_S294912_n_0_n_n_0_1_1 x idx (ix1 e) = x (ix1 n) := by
  rw [ix2_eq_valueIdx] at h
  rw [ix1_eq_valueIdx, ix1_eq_valueIdx]
  exact Routing.gather_take1 _ rfl rfl rfl rfl x idx e n h (by norm_num)

/-! ## The edges' ends -/

/-- The receiving and the sending slot of a graph's `k`-th edge. -/
def rowOf (k : ℕ) : ℕ := if k < 5 then 0 else if k < 7 then 1 else if k < 9 then 2 else if k < 10 then 3 else if k < 12 then 4 else 5
def colOf (k : ℕ) : ℕ := if k < 5 then k else if k = 5 then 1 else if k = 6 then 5 else if k = 7 then 2 else if k = 8 then 5 else if k = 9 then 3 else
  if k = 10 then 0 else if k = 11 then 4 else if k = 12 then 1 else if k = 13 then 2 else 5

def dstN (e : ℕ) : ℕ := if e < 122880 then rowOf (e % 15) + 6 * (e / 15) else e - 122880
def srcN (e : ℕ) : ℕ := if e < 122880 then colOf (e % 15) + 21 * (e / 15) else e - 122880

theorem rowOf_lt (k : ℕ) : rowOf k < 6 := by unfold rowOf; split_ifs <;> omega
theorem colOf_lt (k : ℕ) : colOf k < 6 := by unfold colOf; split_ifs <;> omega
theorem dstN_lt (e : ℕ) (h : e < 294912) : dstN e < 172032 := by
  have := rowOf_lt (e % 15)
  unfold dstN
  generalize rowOf (e % 15) = r at *
  split_ifs <;> omega
theorem srcN_lt (e : ℕ) (h : e < 294912) : srcN e < 172032 := by
  have := colOf_lt (e % 15)
  unfold srcN
  generalize colOf (e % 15) = r at *
  split_ifs <;> omega

theorem lit0_eq : ∀ k : Fin 15, lit0 k = BitVec.ofNat 32 (rowOf k.val) := by decide +kernel
theorem lit1_eq : ∀ k : Fin 15, lit1 k = BitVec.ofNat 32 (colOf k.val) := by decide +kernel
theorem lit2_eq : ∀ k : Fin 15, lit2 k = BitVec.ofNat 32 (rowOf k.val) := by decide +kernel

theorem row15 (k : Fin 15) : S15.rowMajor (ix1 k) = k := Fin.ext (Shape.rowMajor_val_one _)

theorem dst_word (V : Valuation τ sig (Elt Ideal)) (e : Fin 294912) : res_main_v20 V (ix1 e) = BitVec.ofNat 32 (dstN e.val) := by
  unfold res_main_v20 res_main_v18
  pointwise
  unfold dstN
  split
  · rw [row15, lit0_eq]
    show BitVec.ofNat 32 _ + BitVec.ofNat 32 _ * BitVec.ofNat 32 6 = _
    rw [← BitVec.ofNat_mul, ← BitVec.ofNat_add, Nat.mul_comm]
  · rfl

theorem src_word (V : Valuation τ sig (Elt Ideal)) (e : Fin 294912) : res_main_v19 V (ix1 e) = BitVec.ofNat 32 (srcN e.val) := by
  unfold res_main_v19 res_main_v18
  pointwise
  unfold srcN
  split
  · rw [row15, lit1_eq]
    show BitVec.ofNat 32 _ + BitVec.ofNat 32 _ * BitVec.ofNat 32 21 = _
    rw [← BitVec.ofNat_mul, ← BitVec.ofNat_add, Nat.mul_comm]
  · rfl

theorem column_word (w : IVec S294912 32) (e : Fin 294912) (k : ℕ) (hk : k < 172032) (h : w (ix1 e) = BitVec.ofNat 32 k) :
    column w (ix2 e 0) = BitVec.ofNat 32 k := by
  unfold column
  pointwise
  rw [h]
  exact Routing.wrap_of_lt _ _ (by rw [BitVec.toNat_ofNat]; omega)

theorem spots_int (w : IVec S294912 32) (e : Fin 294912) (k : ℕ) (hk : k < 172032) (h : w (ix1 e) = BitVec.ofNat 32 k) :
    (spots w (ix2 e 0)).toInt = (k : ℤ) := by
  unfold spots
  pointwise
  rw [h]
  exact StableHlo.Predicate.toInt_ofNat_small _ (by omega)

/-! ## Layers over the reals -/

open Cert.Att

variable (s d : IVec S294912 32) (hs : ∀ e : Fin 294912, s (ix1 e) = BitVec.ofNat 32 (srcN e.val)) (hd : ∀ e : Fin 294912, d (ix1 e) = BitVec.ofNat 32 (dstN e.val))

theorem image_val (X : FVec Ideal S172032x64 .f32) (M : FVec Ideal S64x64 .f32) (b : FVec Ideal S64 .f32) (x : ℕ → Row) (W : Fin 64 → Row) (B : Row)
    (hX : ∀ n o, (X (ix2 n o) : EReal) = (x n.val o : EReal)) (hM : ∀ o c, (M (ix2 o c) : EReal) = (W o c : EReal)) (hb : ∀ o, (b (ix1 o) : EReal) = (B o : EReal))
    (n : Fin 172032) (o : Fin 64) : image (F := Ideal) X M b (ix2 n o) = (affine W B (x n.val) o : EReal) := by
  unfold image
  pointwise
  exact affine_coe W B _ o _ _ _ (hM o) (hb o) (hX n)

include hs hd

theorem logit_val (L R : FVec Ideal S172032x64 .f32) (a : FVec Ideal S64 .f32) (l r : ℕ → Row) (A : Row)
    (hL : ∀ n o, (L (ix2 n o) : EReal) = (l n.val o : EReal)) (hR : ∀ n o, (R (ix2 n o) : EReal) = (r n.val o : EReal)) (ha : ∀ o, (a (ix1 o) : EReal) = (A o : EReal))
    (e : Fin 294912) : logits (F := Ideal) (pairs L R s d) a (ix1 e) = (score A (r (dstN e.val)) (l (srcN e.val)) : EReal) := by
  have hp : ∀ o, pairs (F := Ideal) L R s d (ix2 e o) = (l (srcN e.val) o : EReal) + (r (dstN e.val) o : EReal) := fun o => by
    have h1 := take2 L (column s) e o ⟨srcN e.val, srcN_lt _ e.isLt⟩ (column_word s e _ (srcN_lt _ e.isLt) (hs e))
    have h2 := take2 R (column d) e o ⟨dstN e.val, dstN_lt _ e.isLt⟩ (column_word d e _ (dstN_lt _ e.isLt) (hd e))
    unfold pairs
    exact congrArg₂ (· + ·) (h1.trans (hL _ o)) (h2.trans (hR _ o))
  generalize pairs L R s d = E at hp
  unfold logits
  pointwise
  simp only [hp]
  exact score_coe A _ _ _ _ _ ha (fun _ => rfl) (fun _ => rfl)

omit hs hd

end Cert.ReferenceIdeal.Graph
-- ==== Proof.Ref.Peak.lean ====
/- The greatest of the logits a row receives. -/
module

public import proofs.«01_k».proof.Proof.Ref.Land

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

open Cert.Att

/-- The edges a slot receives, besides its own. -/
def slots : ℕ → List ℕ
  | 0 => [0, 1, 2, 3, 4]
  | 1 => [5, 6]
  | 2 => [7, 8]
  | 3 => [9]
  | 4 => [10, 11]
  | _ => [12, 13, 14]

/-- The greatest of a row's logits. -/
def peak (ℓ : ℕ → ℝ) (n : ℕ) : ℝ :=
  if n < 49152 then (slots (n % 6)).foldl (fun m k => max m (ℓ (15 * (n / 6) + k))) (ℓ (122880 + n)) else ℓ (122880 + n)

theorem fold15 (f : Fin 15 → EReal) (b : EReal) : Finset.fold max b f Finset.univ
    = max (f 0) (max (f 1) (max (f 2) (max (f 3) (max (f 4) (max (f 5) (max (f 6) (max (f 7) (max (f 8) (max (f 9) (max (f 10)
      (max (f 11) (max (f 12) (max (f 13) (max (f 14) b)))))))))))))) := rfl

theorem bot_word : Ideal.ofBits .f32 4286578688#32 = (⊥ : EReal) := by
  simp [Ideal.ofBits, Ideal.ieee]

theorem coe_max (a b : ℝ) : ((max a b : ℝ) : EReal) = max (a : EReal) (b : EReal) := EReal.coe_strictMono.monotone.map_max

theorem pick_bit (r : ℕ) (k : Fin 15) (hr : r < 6) (x y : EReal) :
    Scalar.select (IntOp.cmpi CmpIPredicate.eq (BitVec.ofNat 32 r) (lit2 (S15.rowMajor (ix1 k)))) x y = if r = rowOf k.val then x else y := by
  rw [row15, lit2_eq]
  have h2 := rowOf_lt k.val
  generalize rowOf k.val = q at *
  by_cases h : r = q
  · subst h
    rw [if_pos rfl]
    simp [IntOp.cmpi, Scalar.select]
  · have hne : BitVec.ofNat 32 r ≠ BitVec.ofNat 32 q := fun e => h (by
      have := congrArg BitVec.toNat e
      rw [BitVec.toNat_ofNat, BitVec.toNat_ofNat] at this
      omega)
    rw [if_neg h]
    have hb : (BitVec.ofNat 32 r == BitVec.ofNat 32 q) = false := beq_eq_false_iff_ne.mpr hne
    simp [IntOp.cmpi, Scalar.select, hb]

theorem peak_fold (r : ℕ) (hr : r < 6) (f : ℕ → EReal) (z : EReal) :
    max (Finset.fold max (⊥ : EReal) (fun k : Fin 15 => if r = rowOf k.val then f k.val else ⊥) Finset.univ) z
      = (slots r).foldl (fun m k => max m (f k)) z := by
  rw [fold15]
  interval_cases r
  all_goals
    simp only [rowOf, slots, List.foldl, Fin.val_zero, Fin.val_one, Fin.val_ofNat]
    norm_num
    try simp only [max_comm, max_left_comm, max_assoc]

theorem fold_coe (l : List ℕ) (f : ℕ → ℝ) (z : ℝ) :
    l.foldl (fun m k => max m (f k : EReal)) (z : EReal) = ((l.foldl (fun m k => max m (f k)) z : ℝ) : EReal) := by
  induction l generalizing z with
  | nil => rfl
  | cons k l ih => rw [List.foldl_cons, List.foldl_cons, ← coe_max, ih]

theorem peak_slots (r : ℕ) (hr : r < 6) (f : ℕ → ℝ) (z : ℝ) :
    max (Finset.fold max (⊥ : EReal) (fun k : Fin 15 => if r = rowOf k.val then (f k.val : EReal) else ⊥) Finset.univ) (z : EReal)
      = (((slots r).foldl (fun m k => max m (f k)) z : ℝ) : EReal) :=
  (peak_fold r hr (fun k => (f k : EReal)) z).trans (fold_coe _ f z)

theorem peak_val (lg : FVec Ideal S294912 .f32) (ℓ : ℕ → ℝ) (hl : ∀ e, (lg (ix1 e) : EReal) = (ℓ e.val : EReal)) (n : Fin 172032) :
    (peaks (F := Ideal) lg (ix1 n) : EReal) = (peak ℓ n.val : EReal) := by
  have e1 : ∀ k : Fin 15, n.val < 49152 → n.val / 6 * 15 + k.val < 294912 := fun k h => by omega
  have h1 : (peaks (F := Ideal) lg (ix1 n) : EReal) = max (if h : n.val < 49152 then
      Finset.fold max (⊥ : EReal) (fun k : Fin 15 => if n.val % 6 = rowOf k.val then (lg (ix1 ⟨n.val / 6 * 15 + k.val, e1 k h⟩) : EReal) else ⊥) Finset.univ
      else ⊥) (lg (ix1 ⟨122880 + n.val, by omega⟩)) := by
    unfold peaks
    simp only [id_eq]
    pointwise
    simp only [bot_word, pick_bit _ _ (Nat.mod_lt n.val (by norm_num : 0 < 6))]
  rw [h1]
  by_cases h : n.val < 49152
  · rw [dif_pos h, peak, if_pos h]
    simp only [hl]
    rw [Nat.mul_comm]
    exact peak_slots (n.val % 6) (Nat.mod_lt _ (by norm_num)) (fun k => ℓ (15 * (n.val / 6) + k)) (ℓ (122880 + n.val))
  · rw [dif_neg h, peak, if_neg h, hl, max_eq_right bot_le]

end Cert.ReferenceIdeal.Graph
-- ==== Proof.Ref.Sum.lean ====
/- The sums over the edges a row receives. -/
module

public import proofs.«01_k».proof.Proof.Ref.Peak
public import proofs.«01_k».proof.Proof.Val.Sums

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

open Cert.Att

/-- The sum of `f` over the edges row `n` receives. -/
def into (f : ℕ → ℝ) (n : ℕ) : ℝ :=
  if n < 49152 then (slots (n % 6)).foldl (fun a k => a + f (15 * (n / 6) + k)) (f (122880 + n)) else f (122880 + n)

theorem slot_sum (r : ℕ) (hr : r < 6) (f : ℕ → ℝ) (z : ℝ) :
    (∑ k ∈ Finset.range 15, if rowOf k = r then f k else 0) + z = (slots r).foldl (fun a k => a + f k) z := by
  interval_cases r
  all_goals
    simp only [Finset.sum_range_succ, Finset.sum_range_zero, rowOf, slots, List.foldl]
    norm_num
    try ring

theorem into_eq (f : ℕ → ℝ) (n : ℕ) (hn : n < 172032) : ∑ e ∈ Finset.range 294912, (if dstN e = n then f e else 0) = into f n := by
  have n1 : 294912 = 15 * 8192 + 172032 := by norm_num
  rw [n1, Finset.sum_range_add, ← sum_blocks 15 _ 8192]
  have h2 : ∑ k ∈ Finset.range 172032, (if dstN (15 * 8192 + k) = n then f (15 * 8192 + k) else 0) = f (122880 + n) := by
    rw [Finset.sum_eq_single_of_mem n (Finset.mem_range.mpr hn)]
    · rw [if_pos (by unfold dstN; rw [if_neg (by omega)]; omega)]
    · intro k _ hk
      exact if_neg (by unfold dstN; rw [if_neg (by omega)]; omega)
  rw [h2]
  have h1 : ∀ j ∈ Finset.range 8192, ∑ k ∈ Finset.range 15, (if dstN (15 * j + k) = n then f (15 * j + k) else 0)
      = if j = n / 6 then ∑ k ∈ Finset.range 15, (if rowOf k = n % 6 then f (15 * j + k) else 0) else 0 := by
    intro j hj
    have hj' := Finset.mem_range.mp hj
    have hd : ∀ k ∈ Finset.range 15, dstN (15 * j + k) = rowOf k + 6 * j := fun k hk => by
      have hk' := Finset.mem_range.mp hk
      unfold dstN
      rw [if_pos (by omega)]
      have a1 : (15 * j + k) % 15 = k := by omega
      have a2 : (15 * j + k) / 15 = j := by omega
      rw [a1, a2]
    by_cases h : j = n / 6
    · rw [if_pos h]
      refine Finset.sum_congr rfl fun k hk => ?_
      rw [hd k hk]
      have := rowOf_lt k
      by_cases hr : rowOf k = n % 6
      · rw [if_pos hr, if_pos (by omega)]
      · rw [if_neg hr, if_neg (by omega)]
    · rw [if_neg h]
      refine Finset.sum_eq_zero fun k hk => ?_
      rw [hd k hk]
      have := rowOf_lt k
      exact if_neg (by omega)
  rw [Finset.sum_congr rfl h1, Finset.sum_ite_eq', into]
  by_cases h : n < 49152
  · rw [if_pos (Finset.mem_range.mpr (by omega)), if_pos h]
    exact slot_sum (n % 6) (by omega) (fun k => f (15 * (n / 6) + k)) _
  · rw [if_neg (fun h' => h (by have := Finset.mem_range.mp h'; omega)), if_neg h, zero_add]

variable (d : IVec S294912 32) (hd : ∀ e : Fin 294912, d (ix1 e) = BitVec.ofNat 32 (dstN e.val))
include hd

theorem scatter1_val (x : FVec Ideal S172032 .f32) (u : FVec Ideal S294912 .f32) (f : ℕ → ℝ) (hx : ∀ i, (x i : EReal) = 0)
    (hu : ∀ e, (u (ix1 e) : EReal) = (f e.val : EReal)) (n : Fin 172032) :
    (Host.scatterAdd (F := Ideal) sc1 x (spots d) u (ix1 n) : EReal) = (into f n.val : EReal) := by
  have h : (Host.scatterAdd (F := Ideal) sc1 x (spots d) u (ix1 n) : EReal)
      = x (ix1 n) + ∑ j ∈ Finset.univ.filter (fun j => sc1.resultIdx? j (spots d) = some (ix1 n)), (u j : EReal) := rfl
  rw [h, hx, zero_add, Finset.sum_filter, ← into_eq f n.val n.isLt, Finset.sum_range, coe_sum]
  rw [sum_idx1]
  refine Finset.sum_congr rfl fun e _ => ?_
  by_cases hh : dstN e.val = n.val
  · rw [if_pos hh, if_pos ((land1 _ e n).mpr ((spots_int d e _ (dstN_lt _ e.isLt) (hd e)).trans (by rw [hh]))), hu]
  · rw [if_neg hh, if_neg (fun h' => hh (by exact_mod_cast (spots_int d e _ (dstN_lt _ e.isLt) (hd e)).symm.trans ((land1 _ e n).mp h')))]
    rfl

theorem scatter2_val (x : FVec Ideal S172032x64 .f32) (u : FVec Ideal S294912x64 .f32) (f : ℕ → Row) (hx : ∀ i, (x i : EReal) = 0)
    (hu : ∀ e o, (u (ix2 e o) : EReal) = (f e.val o : EReal)) (n : Fin 172032) (o : Fin 64) :
    (Host.scatterAdd (F := Ideal) sc2 x (spots d) u (ix2 n o) : EReal) = (into (fun e => f e o) n.val : EReal) := by
  have h : (Host.scatterAdd (F := Ideal) sc2 x (spots d) u (ix2 n o) : EReal)
      = x (ix2 n o) + ∑ j ∈ Finset.univ.filter (fun j => sc2.resultIdx? j (spots d) = some (ix2 n o)), (u j : EReal) := rfl
  rw [h, hx, zero_add, Finset.sum_filter, ← into_eq (fun e => f e o) n.val n.isLt, Finset.sum_range, coe_sum]
  rw [sum_idx2]
  refine Finset.sum_congr rfl fun e _ => ?_
  rw [Finset.sum_eq_single_of_mem o (Finset.mem_univ _)]
  · by_cases hh : dstN e.val = n.val
    · rw [if_pos hh, if_pos ((land2 _ e o n o).mpr ⟨(spots_int d e _ (dstN_lt _ e.isLt) (hd e)).trans (by rw [hh]), rfl⟩), hu]
    · rw [if_neg hh, if_neg (fun h' => hh (by exact_mod_cast (spots_int d e _ (dstN_lt _ e.isLt) (hd e)).symm.trans ((land2 _ e o n o).mp h').1))]
      rfl
  · intro o' _ ho
    exact if_neg fun h' => ho ((land2 _ e o' n o).mp h').2

theorem weight_val (lg : FVec Ideal S294912 .f32)
    (pk : FVec Ideal S172032 .f32) (ℓ t : ℕ → ℝ) (hl : ∀ e, (lg (ix1 e) : EReal) = (ℓ e.val : EReal)) (hp : ∀ n, (pk (ix1 n) : EReal) = (t n.val : EReal))
    (e : Fin 294912) : (weights (F := Ideal) lg pk d (ix1 e) : EReal) = (Real.exp (ℓ e.val - t (dstN e.val)) : EReal) := by
  have key := fun x : FVec Ideal S172032 .f32 => take1 x (column d) e ⟨dstN e.val, dstN_lt _ e.isLt⟩ (column_word d e _ (dstN_lt _ e.isLt) (hd e))
  have k2 := key (select (cmpf .olt (Host.absf pk) (broadcastInDim S172032 ![] bcast_S_S172032 (constant S_ .f32 0x7F800000#32))) pk (broadcastInDim S172032 ![] bcast_S_S172032 (constant S_ .f32 0x00000000#32)))
  pointwise at k2
  rw [hp] at k2
  unfold weights
  simp only [id_eq]
  generalize Host.gather gather_S172032_S294912x1_S294912_n_0_n_n_0_1_1 _ _ = G at k2 ⊢
  pointwise
  have hlt : (FloatOps.absf (F := Ideal) (φ := .f32) (t (dstN e.val) : EReal) : EReal) < Ideal.ofBits .f32 2139095040#32 := by
    have h1 : Ideal.ofBits .f32 2139095040#32 = (⊤ : EReal) := by simp [Ideal.ofBits, Ideal.ieee]
    rw [h1, Ideal.absf_def, ← EReal.coe_neg, ← coe_max]
    exact EReal.coe_lt_top _
  rw [k2, if_pos hlt, hl, ← EReal.coe_sub, Ideal.exp_coe]

/-- The guard a row's sum gets. -/
def guardN (n : ℕ) : ℝ := if n < 49152 then eps else 0

theorem den_val (ex : FVec Ideal S294912 .f32) (f : ℕ → ℝ) (hx : ∀ e, (ex (ix1 e) : EReal) = (f e.val : EReal)) (n : Fin 172032) :
    (dens (F := Ideal) ex d (ix1 n) : EReal) = ((into f n.val + guardN n.val : ℝ) : EReal) := by
  unfold dens
  simp only [id_eq]
  rw [EReal.coe_add, ← scatter1_val d hd (broadcastInDim S172032 ![] bcast_S_S172032 (constant S_ .f32 0x00000000#32)) ex f (fun i => Ideal.ofBits_zero_f32) hx n]
  refine congrArg₂ (· + ·) rfl ?_
  pointwise
  have hn := n.isLt
  rw [show (49152#32 : BitVec 32) = BitVec.ofNat 32 49152 from rfl, WordCmp.cmpi_slt_ofNat (by omega) (by norm_num), WordCmp.select_decide]
  unfold guardN
  by_cases h : n.val < 49152
  · rw [if_pos h, if_pos h, eps_coe]
  · rw [if_neg h, if_neg h]
    rfl

theorem part_val (s : IVec S294912 32) (hs : ∀ e : Fin 294912, s (ix1 e) = BitVec.ofNat 32 (srcN e.val)) (L : FVec Ideal S172032x64 .f32)
    (ex : FVec Ideal S294912 .f32) (l : ℕ → Row) (f : ℕ → ℝ) (hL : ∀ n o, (L (ix2 n o) : EReal) = (l n.val o : EReal))
    (hx : ∀ e, (ex (ix1 e) : EReal) = (f e.val : EReal)) (hpos : ∀ n, 0 < into f n + guardN n) (e : Fin 294912) (o : Fin 64) :
    (parts (F := Ideal) L ex s d (ix2 e o) : EReal) = (l (srcN e.val) o * (f e.val / (into f (dstN e.val) + guardN (dstN e.val))) : ℝ) := by
  have h1 := (take2 L (column s) e o ⟨srcN e.val, srcN_lt _ e.isLt⟩ (column_word s e _ (srcN_lt _ e.isLt) (hs e))).trans (hL _ _)
  have h2 := (take1 (dens (F := Ideal) ex d) (column d) e ⟨dstN e.val, dstN_lt _ e.isLt⟩ (column_word d e _ (dstN_lt _ e.isLt) (hd e))).trans (den_val d hd ex f hx _)
  unfold parts
  generalize Host.gather gather_S172032_S294912x1_S294912_n_0_n_n_0_1_1 _ _ = G at h2 ⊢
  generalize Host.gather gather_S172032x64_S294912x1_S294912x64_1_0_n_n_0_1_164 _ _ = H at h1 ⊢
  pointwise
  rw [h1, h2, hx, Ideal.div_coe (ne_of_gt (hpos _)), ← EReal.coe_mul, ← EReal.coe_mul, mul_one_div]

theorem mix_val (U : FVec Ideal S294912x64 .f32) (b : FVec Ideal S64 .f32) (f : ℕ → Row) (B : Row) (hu : ∀ e o, (U (ix2 e o) : EReal) = (f e.val o : EReal))
    (hb : ∀ o, (b (ix1 o) : EReal) = (B o : EReal)) (n : Fin 172032) (o : Fin 64) :
    (mixes (F := Ideal) U d b (ix2 n o) : EReal) = ((into (fun e => f e o) n.val + B o : ℝ) : EReal) := by
  unfold mixes
  rw [EReal.coe_add, ← scatter2_val d hd (broadcastInDim S172032x64 ![] bcast_S_S172032x64 (constant S_ .f32 0x00000000#32)) U f (fun i => Ideal.ofBits_zero_f32) hu n o]
  refine congrArg₂ (· + ·) rfl ?_
  pointwise
  exact hb o

end Cert.ReferenceIdeal.Graph
-- ==== Proof.Ref.Stage.lean ====
/- A layer of the reference, a row at a time. -/
module

public import proofs.«01_k».proof.Proof.Ref.Sum

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

open Cert.Att

/-! ## One row -/

section
variable (A : Row) (l r : ℕ → Row)

/-- An edge's logit, weight and share. -/
def edge (e : ℕ) : ℝ := score A (r (dstN e)) (l (srcN e))
def weight (e : ℕ) : ℝ := Real.exp (edge A l r e - peak (edge A l r) (dstN e))
def share (e : ℕ) : Row := fun o => l (srcN e) o * (weight A l r e / (into (weight A l r) (dstN e) + guardN (dstN e)))

theorem slots_mem : ∀ q : Fin 6, ∀ k ∈ slots q.val, k < 15 ∧ rowOf k = q.val := by decide +kernel

theorem slots_cols : ∀ q : Fin 6, (slots q.val).map colOf = (nbr q).map Fin.val := by decide +kernel

theorem dst_slot (n k : ℕ) (hn : n < 49152) (hk : k ∈ slots (n % 6)) : dstN (15 * (n / 6) + k) = n ∧ srcN (15 * (n / 6) + k) = colOf k + 21 * (n / 6) := by
  obtain ⟨h1, h2⟩ := slots_mem ⟨n % 6, Nat.mod_lt _ (by norm_num)⟩ k hk
  have e1 : (15 * (n / 6) + k) % 15 = k := by omega
  have e2 : (15 * (n / 6) + k) / 15 = n / 6 := by omega
  have e3 : 15 * (n / 6) + k < 122880 := by omega
  unfold dstN srcN
  rw [if_pos e3, if_pos e3, e1, e2, h2]
  exact ⟨by show n % 6 + 6 * (n / 6) = n; omega, rfl⟩

theorem dst_self (n : ℕ) : dstN (122880 + n) = n ∧ srcN (122880 + n) = n := by
  unfold dstN srcN
  rw [if_neg (by omega), if_neg (by omega)]
  exact ⟨by omega, by omega⟩

/-- The images of the rows a row receives. -/
def received (n : ℕ) : List Row := (slots (n % 6)).map fun k => l (colOf k + 21 * (n / 6))

theorem edge_slot (n k : ℕ) (hn : n < 49152) (hk : k ∈ slots (n % 6)) : edge A l r (15 * (n / 6) + k) = score A (r n) (l (colOf k + 21 * (n / 6))) := by
  unfold edge
  rw [(dst_slot n k hn hk).1, (dst_slot n k hn hk).2]

theorem edge_self (n : ℕ) : edge A l r (122880 + n) = score A (r n) (l n) := by
  unfold edge
  rw [(dst_self n).1, (dst_self n).2]

theorem peak_top (n : ℕ) (hn : n < 49152) : peak (edge A l r) n = top A (r n) (l n) (received l n) := by
  unfold peak top received
  rw [if_pos hn, List.foldl_map, edge_self]
  exact List.foldl_ext _ _ _ fun a k hk => by rw [edge_slot A l r n k hn hk]

theorem weight_slot (n k : ℕ) (hn : n < 49152) (hk : k ∈ slots (n % 6)) :
    weight A l r (15 * (n / 6) + k) = Real.exp (score A (r n) (l (colOf k + 21 * (n / 6))) - top A (r n) (l n) (received l n)) := by
  unfold weight
  rw [(dst_slot n k hn hk).1, edge_slot A l r n k hn hk, peak_top A l r n hn]

theorem weight_self (n : ℕ) (hn : n < 49152) : weight A l r (122880 + n) = Real.exp (score A (r n) (l n) - top A (r n) (l n) (received l n)) := by
  unfold weight
  rw [(dst_self n).1, edge_self, peak_top A l r n hn]

theorem into_den (n : ℕ) (hn : n < 49152) : into (weight A l r) n = den A (r n) (l n) (received l n) := by
  unfold into den
  rw [if_pos hn, weight_self A l r n hn]
  generalize ht : top A (r n) (l n) (received l n) = T
  unfold received
  rw [List.foldl_map]
  exact List.foldl_ext _ _ _ fun a k hk => by rw [weight_slot A l r n k hn hk, ht]

theorem fold_div (L : List ℕ) (f : ℕ → ℝ) (z c : ℝ) : L.foldl (fun a k => a + f k / c) (z / c) = L.foldl (fun a k => a + f k) z / c := by
  induction L generalizing z with
  | nil => rfl
  | cons k L ih => rw [List.foldl_cons, List.foldl_cons, ← add_div, ih]

theorem into_mix (n : ℕ) (hn : n < 49152) (o : Fin 64) : into (fun e => share A l r e o) n = gat A (r n) (l n) (received l n) o := by
  have hs : ∀ e, dstN e = n → share A l r e o = weight A l r e * l (srcN e) o / (den A (r n) (l n) (received l n) + eps) := fun e he => by
    unfold share
    rw [he, into_den A l r n hn, guardN, if_pos hn]
    ring
  unfold into gat mix
  dsimp only
  rw [if_pos hn, hs _ (dst_self n).1, (dst_self n).2, weight_self A l r n hn]
  refine (List.foldl_ext _ (fun a k => a + (Real.exp (score A (r n) (l (colOf k + 21 * (n / 6))) - top A (r n) (l n) (received l n)) * l (colOf k + 21 * (n / 6)) o) / (den A (r n) (l n) (received l n) + eps)) _ fun a k hk => ?_).trans ?_
  · rw [hs _ (dst_slot n k hn hk).1, (dst_slot n k hn hk).2, weight_slot A l r n k hn hk]
  rw [fold_div]
  refine congrArg (· / _) ?_
  generalize top A (r n) (l n) (received l n) = T
  unfold received
  rw [List.foldl_map]

theorem weight_alone (n : ℕ) (hn : ¬ n < 49152) : weight A l r (122880 + n) = 1 := by
  unfold weight
  rw [(dst_self n).1, peak, if_neg hn, sub_self, Real.exp_zero]

theorem into_alone (n : ℕ) (hn : ¬ n < 49152) (o : Fin 64) : into (fun e => share A l r e o) n = l n o := by
  unfold into share
  dsimp only
  rw [if_neg hn, (dst_self n).1, (dst_self n).2, weight_alone A l r n hn, into, if_neg hn, weight_alone A l r n hn, guardN, if_neg hn]
  norm_num

theorem into_pos (n : ℕ) : 0 < into (weight A l r) n + guardN n := by
  by_cases hn : n < 49152
  · rw [into_den A l r n hn, guardN, if_pos hn]
    exact add_pos (den_pos _ _ _ _) eps_pos
  · rw [into, if_neg hn, weight_alone A l r n hn, guardN, if_neg hn]
    norm_num
end

/-! ## The layer -/

/-- A row of a layer. -/
def stageRow (x : ℕ → Row) (Wl : Fin 64 → Row) (Bl : Row) (Wr : Fin 64 → Row) (Br A B : Row) (n : ℕ) : Row := fun o =>
  (if n < 49152 then gat A (affine Wr Br (x n)) (affine Wl Bl (x n)) (received (fun k => affine Wl Bl (x k)) n) o else affine Wl Bl (x n) o) + B o

theorem stage_val (s d : IVec S294912 32) (hs : ∀ e : Fin 294912, s (ix1 e) = BitVec.ofNat 32 (srcN e.val))
    (hd : ∀ e : Fin 294912, d (ix1 e) = BitVec.ofNat 32 (dstN e.val)) (X : FVec Ideal S172032x64 .f32)
    (Ml : FVec Ideal S64x64 .f32) (bl : FVec Ideal S64 .f32) (Mr : FVec Ideal S64x64 .f32) (br a b : FVec Ideal S64 .f32)
    (x : ℕ → Row) (Wl : Fin 64 → Row) (Bl : Row) (Wr : Fin 64 → Row) (Br A B : Row)
    (hX : ∀ n o, (X (ix2 n o) : EReal) = (x n.val o : EReal)) (hMl : ∀ o c, (Ml (ix2 o c) : EReal) = (Wl o c : EReal))
    (hbl : ∀ o, (bl (ix1 o) : EReal) = (Bl o : EReal)) (hMr : ∀ o c, (Mr (ix2 o c) : EReal) = (Wr o c : EReal))
    (hbr : ∀ o, (br (ix1 o) : EReal) = (Br o : EReal)) (ha : ∀ o, (a (ix1 o) : EReal) = (A o : EReal)) (hb : ∀ o, (b (ix1 o) : EReal) = (B o : EReal))
    (n : Fin 172032) (o : Fin 64) :
    (stage (F := Ideal) X s d Ml bl Mr br a b (ix2 n o) : EReal) = (stageRow x Wl Bl Wr Br A B n.val o : EReal) := by
  have hL := image_val X Ml bl x Wl Bl hX hMl hbl
  have hR := image_val X Mr br x Wr Br hX hMr hbr
  have hlg : ∀ e : Fin 294912, (logits (F := Ideal) (pairs (image X Ml bl) (image X Mr br) s d) a (ix1 e) : EReal)
      = (edge A (fun k => affine Wl Bl (x k)) (fun k => affine Wr Br (x k)) e.val : EReal) :=
    logit_val s d hs hd _ _ a (fun k => affine Wl Bl (x k)) (fun k => affine Wr Br (x k)) A hL hR ha
  have hpk : ∀ n : Fin 172032, (peaks (F := Ideal) (logits (pairs (image X Ml bl) (image X Mr br) s d) a) (ix1 n) : EReal)
      = (peak (edge A (fun k => affine Wl Bl (x k)) (fun k => affine Wr Br (x k))) n.val : EReal) := peak_val _ _ hlg
  have hw : ∀ e : Fin 294912, (weights (F := Ideal) (logits (pairs (image X Ml bl) (image X Mr br) s d) a) (peaks (logits (pairs (image X Ml bl) (image X Mr br) s d) a)) d (ix1 e) : EReal)
      = (weight A (fun k => affine Wl Bl (x k)) (fun k => affine Wr Br (x k)) e.val : EReal) := weight_val d hd _ _ _ _ hlg hpk
  have hp : ∀ e o, (parts (F := Ideal) (image X Ml bl) (weights (logits (pairs (image X Ml bl) (image X Mr br) s d) a) (peaks (logits (pairs (image X Ml bl) (image X Mr br) s d) a)) d) s d (ix2 e o) : EReal)
      = (share A (fun k => affine Wl Bl (x k)) (fun k => affine Wr Br (x k)) e.val o : EReal) :=
    part_val d hd s hs _ _ (fun k => affine Wl Bl (x k)) (weight A (fun k => affine Wl Bl (x k)) (fun k => affine Wr Br (x k))) hL hw (into_pos _ _ _)
  refine (mix_val d hd _ b _ B hp hb n o).trans ?_
  unfold stageRow
  refine congrArg (fun z : ℝ => ((z + B o : ℝ) : EReal)) ?_
  by_cases h : n.val < 49152
  · rw [if_pos h]
    exact into_mix A (fun k => affine Wl Bl (x k)) (fun k => affine Wr Br (x k)) n.val h o
  · rw [if_neg h]
    exact into_alone A (fun k => affine Wl Bl (x k)) (fun k => affine Wr Br (x k)) n.val h o

/-! ## The layers' sum -/

theorem received_nbr (x : Input) (l : Row → Row) (n : ℕ) :
    received (fun k => l (rowX x k)) n = ((nbr ⟨n % 6, Nat.mod_lt _ (by norm_num)⟩).map fun c : Fin 6 => srcX x (6 * (n / 6) + c.val)).map l := by
  unfold received
  have h := slots_cols ⟨n % 6, Nat.mod_lt _ (by norm_num)⟩
  have h2 := congrArg (List.map fun c => l (rowX x (c + 21 * (n / 6)))) h
  rw [List.map_map, List.map_map] at h2
  rw [List.map_map]
  refine h2.trans (List.map_congr_left fun c _ => ?_)
  show l (rowX x (c.val + 21 * (n / 6))) = l (srcX x (6 * (n / 6) + c.val))
  unfold srcX
  have hc := c.isLt
  have e : 21 * ((6 * (n / 6) + c.val) / 6) + (6 * (n / 6) + c.val) % 6 = c.val + 21 * (n / 6) := by
    generalize n / 6 = g
    omega
  rw [e]

theorem stages_sum (P : Params) (x : Input) (n : ℕ) (o : Fin 64) :
    ∑ i, stageRow (rowX x) (P.Wl i) (P.Bl i) (P.Wr i) (P.Br i) (P.A i) (P.B i) n o = rowY P x n o := by
  unfold stageRow rowY
  by_cases h : n < 49152
  · simp only [if_pos h]
    unfold withNbrs layer
    refine Finset.sum_congr rfl fun i _ => ?_
    rw [received_nbr x (affine (P.Wl i) (P.Bl i)) n]
  · simp only [if_neg h]
    rfl

end Cert.ReferenceIdeal.Graph
-- ==== Proof.Ref.Value.lean ====
/- The reference's result over the reals. -/
module

public import proofs.«01_k».proof.Proof.Ref.Stage
public import proofs.«01_k».proof.Proof.Val.Block

@[expose] public section

set_option maxRecDepth 16384

noncomputable section

namespace Cert.ReferenceIdeal.Graph

open Cert.ReferenceIdeal Cert.ReferenceIdeal.Gen Cert.ReferenceIdeal.Value Idealize.ShloMosaic Idealize.ShloMosaic.TcCoe

open Cert.Att

variable (V : Valuation τ sig (Elt Ideal))

/-- The arguments hold these reals. -/
structure Args (x : Input) (P : Params) (W B : Row) : Prop where
  x : ∀ a b t v, (V (Proc.devRef .tc main_arg0) : Vec Ideal S128x64x64x21 .f32) (ix4 a b t v) = (x a b t v : EReal)
  wl : ∀ i o k, (V (Proc.devRef .tc main_arg1) : Vec Ideal S3x64x64 .f32) (ix3 i o k) = (P.Wl i o k : EReal)
  bl : ∀ i o, (V (Proc.devRef .tc main_arg2) : Vec Ideal S3x64 .f32) (ix2 i o) = (P.Bl i o : EReal)
  wr : ∀ i o k, (V (Proc.devRef .tc main_arg3) : Vec Ideal S3x64x64 .f32) (ix3 i o k) = (P.Wr i o k : EReal)
  br : ∀ i o, (V (Proc.devRef .tc main_arg4) : Vec Ideal S3x64 .f32) (ix2 i o) = (P.Br i o : EReal)
  att : ∀ i o, (V (Proc.devRef .tc main_arg5) : Vec Ideal S3x64 .f32) (ix2 i o) = (P.A i o : EReal)
  b : ∀ i o, (V (Proc.devRef .tc main_arg6) : Vec Ideal S3x64 .f32) (ix2 i o) = (P.B i o : EReal)
  W : ∀ ch, (V (Proc.devRef .tc main_arg7) : Vec Ideal S64 .f32) (ix1 ch) = (W ch : EReal)
  B : ∀ ch, (V (Proc.devRef .tc main_arg8) : Vec Ideal S64 .f32) (ix1 ch) = (B ch : EReal)

theorem mat0_val (v : FVec Ideal S3x64x64 .f32) (o c : Fin 64) : mat0 v (ix2 o c) = v (ix3 0 o c) := by
  unfold mat0
  pointwise
theorem mat1_val (v : FVec Ideal S3x64x64 .f32) (o c : Fin 64) : mat1 v (ix2 o c) = v (ix3 1 o c) := by
  unfold mat1
  pointwise
theorem mat2_val (v : FVec Ideal S3x64x64 .f32) (o c : Fin 64) : mat2 v (ix2 o c) = v (ix3 2 o c) := by
  unfold mat2
  pointwise
theorem vec0_val (v : FVec Ideal S3x64 .f32) (o : Fin 64) : vec0 v (ix1 o) = v (ix2 0 o) := by
  unfold vec0
  pointwise
theorem vec1_val (v : FVec Ideal S3x64 .f32) (o : Fin 64) : vec1 v (ix1 o) = v (ix2 1 o) := by
  unfold vec1
  pointwise
theorem vec2_val (v : FVec Ideal S3x64 .f32) (o : Fin 64) : vec2 v (ix1 o) = v (ix2 2 o) := by
  unfold vec2
  pointwise

variable (x : Input) (P : Params) (W B : Row) (A : Args V x P W B)
include A

theorem rows_val (n : Fin 172032) (o : Fin 64) : (res_main_v22 V : FVec Ideal S172032x64 .f32) (ix2 n o) = (rowX x n.val o : EReal) := by
  unfold res_main_v22
  pointwise
  refine (A.x _ _ _ _).trans ?_
  unfold rowX
  have h := n.isLt
  have e1 : n.val / 1344 = n.val / 1344 % 128 := by omega
  have e2 : n.val / 21 % 64 = n.val % 1344 / 21 := by omega
  have e3 : n.val % 21 = n.val % 1344 % 21 := by omega
  congr 2
  · exact Fin.ext e1
  · exact Fin.ext e2
  · exact Fin.ext e3

theorem y_val (n : Fin 172032) (o : Fin 64) : (res_main_v336 V : FVec Ideal S172032x64 .f32) (ix2 n o) = (rowY P x n.val o : EReal) := by
  rw [sum_eq]
  have hs := src_word V
  have hd := dst_word V
  have h0 := stage_val _ _ hs hd (res_main_v22 V) (mat0 (V (Proc.devRef .tc main_arg1))) (vec0 (V (Proc.devRef .tc main_arg2))) (mat0 (V (Proc.devRef .tc main_arg3))) (vec0 (V (Proc.devRef .tc main_arg4))) (vec0 (V (Proc.devRef .tc main_arg5))) (vec0 (V (Proc.devRef .tc main_arg6)))
    (rowX x) (P.Wl 0) (P.Bl 0) (P.Wr 0) (P.Br 0) (P.A 0) (P.B 0) (rows_val V x P W B A) (fun o c => (mat0_val _ o c).trans (A.wl 0 o c)) (fun o => (vec0_val _ o).trans (A.bl 0 o))
    (fun o c => (mat0_val _ o c).trans (A.wr 0 o c)) (fun o => (vec0_val _ o).trans (A.br 0 o)) (fun o => (vec0_val _ o).trans (A.att 0 o)) (fun o => (vec0_val _ o).trans (A.b 0 o)) n o
  have h1 := stage_val _ _ hs hd (res_main_v22 V) (mat1 (V (Proc.devRef .tc main_arg1))) (vec1 (V (Proc.devRef .tc main_arg2))) (mat1 (V (Proc.devRef .tc main_arg3))) (vec1 (V (Proc.devRef .tc main_arg4))) (vec1 (V (Proc.devRef .tc main_arg5))) (vec1 (V (Proc.devRef .tc main_arg6)))
    (rowX x) (P.Wl 1) (P.Bl 1) (P.Wr 1) (P.Br 1) (P.A 1) (P.B 1) (rows_val V x P W B A) (fun o c => (mat1_val _ o c).trans (A.wl 1 o c)) (fun o => (vec1_val _ o).trans (A.bl 1 o))
    (fun o c => (mat1_val _ o c).trans (A.wr 1 o c)) (fun o => (vec1_val _ o).trans (A.br 1 o)) (fun o => (vec1_val _ o).trans (A.att 1 o)) (fun o => (vec1_val _ o).trans (A.b 1 o)) n o
  have h2 := stage_val _ _ hs hd (res_main_v22 V) (mat2 (V (Proc.devRef .tc main_arg1))) (vec2 (V (Proc.devRef .tc main_arg2))) (mat2 (V (Proc.devRef .tc main_arg3))) (vec2 (V (Proc.devRef .tc main_arg4))) (vec2 (V (Proc.devRef .tc main_arg5))) (vec2 (V (Proc.devRef .tc main_arg6)))
    (rowX x) (P.Wl 2) (P.Bl 2) (P.Wr 2) (P.Br 2) (P.A 2) (P.B 2) (rows_val V x P W B A) (fun o c => (mat2_val _ o c).trans (A.wl 2 o c)) (fun o => (vec2_val _ o).trans (A.bl 2 o))
    (fun o c => (mat2_val _ o c).trans (A.wr 2 o c)) (fun o => (vec2_val _ o).trans (A.br 2 o)) (fun o => (vec2_val _ o).trans (A.att 2 o)) (fun o => (vec2_val _ o).trans (A.b 2 o)) n o
  rw [← stages_sum P x n.val o, Fin.sum_univ_three, EReal.coe_add, EReal.coe_add]
  exact congrArg₂ (· + ·) (congrArg₂ (· + ·) h0 h1) h2

omit A in
theorem flat_row (a b d e : ℕ) (hd : d < 64) (he : e < 21) : (a * 86016 + b * 1344 + d * 21 + e) / 64 = 1344 * a + (21 * b + (21 * d + e) / 64)
    ∧ (a * 86016 + b * 1344 + d * 21 + e) % 64 = (21 * d + e) % 64 := by
  omega

theorem y4_val (a : Fin 128) (b d : Fin 64) (e : Fin 21) : (res_main_v337 V : FVec Ideal S128x64x64x21 .f32) (ix4 a b d e)
    = (rowY P x (1344 * a.val + (21 * b.val + (21 * d.val + e.val) / 64)) ⟨(21 * d.val + e.val) % 64, Nat.mod_lt _ (by norm_num)⟩ : EReal) := by
  unfold res_main_v337
  pointwise
  refine (y_val V x P W B A _ _).trans ?_
  obtain ⟨h1, h2⟩ := flat_row a.val b.val d.val e.val d.isLt e.isLt
  simp only [h1, h2]

omit A in
theorem chan_idx (Y : ℕ → Row) (ch : Fin 64) (f : ℝ → ℝ) : ∑ a : Fin 128, ∑ d : Fin 64, ∑ e : Fin 21,
    f (Y (1344 * a.val + (21 * ch.val + (21 * d.val + e.val) / 64)) ⟨(21 * d.val + e.val) % 64, Nat.mod_lt _ (by norm_num)⟩) = chan Y ch f := by
  unfold chan
  rw [Finset.sum_range]
  refine Finset.sum_congr rfl fun a _ => ?_
  have n1 : 1344 = 21 * 64 := by norm_num
  have h := sum_blocks 21 (fun k => f (Y (1344 * a.val + (21 * ch.val + k / 64)) ⟨k % 64, Nat.mod_lt _ (by norm_num)⟩)) 64
  rw [Finset.sum_range] at h
  refine Eq.trans (Finset.sum_congr rfl fun d _ => ?_) h
  rw [Finset.sum_range]

omit A in
theorem drop_ix4 (a : Fin 128) (b d : Fin 64) (e : Fin 21) (ch : Fin 64) :
    reducesTo_S128x64x64x21_S64_d0_2_3.drop (ix4 a b d e) = ix1 ch ↔ b = ch := by
  constructor
  · intro h
    exact congrFun h 0
  · rintro rfl
    funext i
    match i with
    | ⟨0, _⟩ => rfl

omit A in
theorem reduce_val (Y : FVec Ideal S128x64x64x21 .f32) (r : ℕ → Row) (f : ℝ → ℝ) (ch : Fin 64)
    (hY : ∀ a d e, (Y (ix4 a ch d e) : EReal) = (f (r (1344 * a.val + (21 * ch.val + (21 * d.val + e.val) / 64)) ⟨(21 * d.val + e.val) % 64, Nat.mod_lt _ (by norm_num)⟩) : EReal)) :
    (Host.reduceAdd (F := Ideal) Y (constant S_ .f32 0x00000000#32) reducesTo_S128x64x64x21_S64_d0_2_3 h_S_ (ix1 ch) : EReal) = (chan r ch f : EReal) := by
  have h0 : (Host.reduceAdd (F := Ideal) Y (constant S_ .f32 0x00000000#32) reducesTo_S128x64x64x21_S64_d0_2_3 h_S_ (ix1 ch) : EReal)
      = Ideal.hostReduceAdd reducesTo_S128x64x64x21_S64_d0_2_3 Y 0 (ix1 ch) := by pointwise
  rw [h0]
  unfold Ideal.hostReduceAdd
  rw [zero_add, Finset.sum_filter, sum_idx4, ← chan_idx, coe_sum]
  refine Finset.sum_congr rfl fun a _ => ?_
  rw [Finset.sum_eq_single_of_mem ch (Finset.mem_univ _)]
  · rw [coe_sum]
    refine Finset.sum_congr rfl fun d _ => ?_
    rw [coe_sum]
    refine Finset.sum_congr rfl fun e _ => ?_
    rw [if_pos ((drop_ix4 a ch d e ch).mpr rfl), hY]
  · intro b _ hb
    refine Finset.sum_eq_zero fun d _ => Finset.sum_eq_zero fun e _ => ?_
    exact if_neg fun h => hb ((drop_ix4 a b d e ch).mp h)

/-- The channel's mean. -/
def mean (r : ℕ → Row) (ch : Fin 64) : ℝ := chan r ch (fun y => y) / cnt

omit A in
theorem cnt_ne : cnt ≠ 0 := by
  unfold cnt
  norm_num

theorem dev_val (a : Fin 128) (b d : Fin 64) (e : Fin 21) : (res_main_call12_v5 V : FVec Ideal S128x64x64x21 .f32) (ix4 a b d e)
    = (rowY P x (1344 * a.val + (21 * b.val + (21 * d.val + e.val) / 64)) ⟨(21 * d.val + e.val) % 64, Nat.mod_lt _ (by norm_num)⟩ - mean (rowY P x) b : EReal) := by
  have hy := y4_val V x P W B A
  have ht := reduce_val (res_main_v337 V) (rowY P x) (fun y => y) b (fun a d e => hy a b d e)
  have hye := hy a b d e
  unfold res_main_call12_v5
  obtain ⟨Y, hY⟩ : ∃ Y : FVec Ideal S128x64x64x21 .f32, Y = res_main_v337 V := ⟨_, rfl⟩
  rw [← hY] at ht hye ⊢
  generalize Host.reduceAdd Y _ _ _ = Z at ht ⊢
  pointwise
  rw [ht, hye, cnt_coe, Ideal.div_coe cnt_ne, ← EReal.coe_mul, mul_one_div]
  rfl

theorem var_val (ch : Fin 64) : (Host.reduceAdd (F := Ideal) (mulf (res_main_call12_v5 V) (res_main_call12_v5 V)) (constant S_ .f32 0x00000000#32) reducesTo_S128x64x64x21_S64_d0_2_3 h_S_ (ix1 ch) : EReal)
    = (chan (rowY P x) ch (fun y => (y - mean (rowY P x) ch) * (y - mean (rowY P x) ch)) : EReal) := by
  refine reduce_val _ (rowY P x) (fun y => (y - mean (rowY P x) ch) * (y - mean (rowY P x) ch)) ch fun a d e => ?_
  have h := dev_val V x P W B A a ch d e
  rw [← EReal.coe_sub] at h
  rw [EReal.coe_mul, ← h]
  rfl

/-- The result's term. -/
def outcome : FVec Ideal S128x64x64x21 .f32 :=
  maximumf (addf (addf (mulf (Host.divf (subf (res_main_v337 V) (broadcastInDim S128x64x64x21 ![0, 1, 2, 3] bcast_S1x64x1x1_S128x64x64x21_0_1_2_3 (Host.divf (broadcastInDim S1x64x1x1 ![1] bcast_S64_S1x64x1x1_1 (Host.reduceAdd (res_main_v337 V) (constant S_ .f32 0x00000000#32) reducesTo_S128x64x64x21_S64_d0_2_3 h_S_)) (broadcastInDim S1x64x1x1 ![] bcast_S_S1x64x1x1 (constant S_ .f32 0x48280000#32))))) (broadcastInDim S128x64x64x21 ![0, 1, 2, 3] bcast_S1x64x1x1_S128x64x64x21_0_1_2_3 (Host.sqrt (addf (select (broadcastInDim S1x64x1x1 ![] bcast_S_S1x64x1x1 (cmpf .ogt (res_main_call12_v8 V) (constant S_ .f32 0x00000000#32))) (Host.divf (broadcastInDim S1x64x1x1 ![1] bcast_S64_S1x64x1x1_1 (Host.reduceAdd (mulf (res_main_call12_v5 V) (res_main_call12_v5 V)) (constant S_ .f32 0x00000000#32) reducesTo_S128x64x64x21_S64_d0_2_3 h_S_)) (broadcastInDim S1x64x1x1 ![] bcast_S_S1x64x1x1 (res_main_call12_v8 V))) (broadcastInDim S1x64x1x1 ![] bcast_S_S1x64x1x1 (id (constant S_ .f32 0x7FC00000#32)))) (broadcastInDim S1x64x1x1 ![] bcast_S_S1x64x1x1 (constant S_ .f32 0x3727C5AC#32)))))) (broadcastInDim S128x64x64x21 ![0, 1, 2, 3] bcast_S1x64x1x1_S128x64x64x21_0_1_2_3 (shapeCast _ (V (Proc.devRef .tc main_arg7)) shapeCasts_S64_S1x64x1x1))) (broadcastInDim S128x64x64x21 ![0, 1, 2, 3] bcast_S1x64x1x1_S128x64x64x21_0_1_2_3 (shapeCast _ (V (Proc.devRef .tc main_arg8)) shapeCasts_S64_S1x64x1x1))) (V (Proc.devRef .tc main_arg0))) (broadcastInDim S128x64x64x21 ![] bcast_S_S128x64x64x21 (constant S_ .f32 0x00000000#32))

omit A in
theorem count_val : (res_main_call12_v8 V : FVec Ideal S_ .f32) ix0 = (cnt : EReal) := by
  unfold res_main_call12_v8
  pointwise
  rw [cnt_coe]
  simp [FloatOps.sitofp]

omit A in
/-- The two ways of normalising an entry agree. -/
theorem normal_eq (Y : ℕ → Row) (ch : Fin 64) (y w b : ℝ) :
    (y - mean Y ch) / Real.sqrt (chan Y ch (fun y => (y - mean Y ch) * (y - mean Y ch)) / cnt + tiny) * w + b
      = y * factor (chan Y ch fun y => y) (chan Y ch fun y => y * y) w + offset (chan Y ch fun y => y) (chan Y ch fun y => y * y) w b := by
  unfold mean
  rw [chan_dev]
  unfold offset factor
  generalize Real.sqrt _ = s
  rw [div_eq_mul_inv]
  ring

theorem outcome_val (a : Fin 128) (b d : Fin 64) (e : Fin 21) : (outcome V (ix4 a b d e) : EReal) = (result x P W B a b d e : EReal) := by
  have ht := reduce_val (res_main_v337 V) (rowY P x) (fun y => y) b (fun a d e => y4_val V x P W B A a b d e)
  have hv := var_val V x P W B A b
  have hye := y4_val V x P W B A a b d e
  have hc := count_val V
  unfold outcome
  obtain ⟨Y, hY⟩ : ∃ Y : FVec Ideal S128x64x64x21 .f32, Y = res_main_v337 V := ⟨_, rfl⟩
  rw [← hY] at ht hye ⊢
  obtain ⟨N, hN⟩ : ∃ N : FVec Ideal S_ .f32, N = res_main_call12_v8 V := ⟨_, rfl⟩
  rw [← hN] at hc ⊢
  obtain ⟨D, hD⟩ : ∃ D : FVec Ideal S128x64x64x21 .f32, D = res_main_call12_v5 V := ⟨_, rfl⟩
  rw [← hD] at hv ⊢
  generalize Host.reduceAdd Y _ _ _ = Z at ht ⊢
  generalize Host.reduceAdd (mulf D D) _ _ _ = Q at hv ⊢
  simp only [id_eq]
  pointwise
  have hpos : (0 : EReal) < (cnt : EReal) := by
    unfold cnt
    exact_mod_cast (by norm_num : (0 : ℝ) < 172032)
  rw [hc, if_pos hpos, ht, hv, hye, cnt_coe, tiny_coe, Ideal.div_coe cnt_ne, Ideal.div_coe cnt_ne, A.x, A.W, A.B, ← EReal.coe_mul, ← EReal.coe_mul, mul_one_div,
    mul_one_div, ← EReal.coe_sub, ← EReal.coe_add, Ideal.sqrt_coe]
  have hs : 0 ≤ chan (rowY P x) b (fun y => (y - mean (rowY P x) b) * (y - mean (rowY P x) b)) / cnt := by
    unfold mean
    rw [chan_dev]
    exact spread_nonneg _ b
  have hsq : Real.sqrt (chan (rowY P x) b (fun y => (y - mean (rowY P x) b) * (y - mean (rowY P x) b)) / cnt + tiny) ≠ 0 :=
    ne_of_gt (Real.sqrt_pos.mpr (add_pos_of_nonneg_of_pos hs tiny_pos))
  try rw [if_neg (not_lt.mpr (add_nonneg hs (le_of_lt tiny_pos)))]
  rw [Ideal.div_coe hsq, ← EReal.coe_mul, mul_one_div, ← EReal.coe_mul, ← EReal.coe_add, ← EReal.coe_add]
  unfold result
  rw [coe_max, ← normal_eq]
  rfl

end Cert.ReferenceIdeal.Graph
-- ==== Proof.Algebra.lean ====
/- From real arguments the kernel and the reference end with the same array of reals. -/
module

public import proofs.«01_k».proof.Proof.Frames
public import proofs.«01_k».proof.Proof.Pre
public import proofs.«01_k».proof.Proof.Val.Kernel
public import proofs.«01_k».proof.Proof.Ref.Value

@[expose] public section

set_option maxRecDepth 16384

noncomputable section

namespace Cert.Proof

open Idealize.ShloMosaic Idealize.SL.Sem Cert.Att

theorem frame_ideal_finite :
    Cert.quiescent_KernelIdeal_pre_finite (hKernelIdeal := Cert.KernelIdeal.Gen.facts) (hPre_finite := Cert.Pre_finite.holds) :=
  fun m g _ => frame_ideal m g trivial

theorem frame_reference_finite :
    Cert.quiescent_ReferenceIdeal_pre_finite (hReferenceIdeal := Cert.ReferenceIdeal.Gen.facts)
      (hPre_finite := Cert.Pre_finite.holds) :=
  fun m g _ => frame_reference m g trivial

/-- Under the precondition each device's arguments hold reals. -/
theorem args_real (m : (ℓ : Loc Cert.KernelIdeal.nD Cert.KernelIdeal.τ Cert.KernelIdeal.sig) → Buf (Elt Ideal) ℓ)
    (hp : Cert.Pre_KernelIdeal_finite (hPre_finite := Cert.Pre_finite.holds) m) (c : Dev Cert.KernelIdeal.nD) :
    ∃ (x : Input) (P : Params) (W B : Row), Cert.KernelIdeal.Whole.Args m c x P W B := by
  obtain ⟨h0, h1, h2, h3, h4, h5, h6, h7, h8⟩ := Cert.Pre_finite.reals _ _ _ _ _ _ _ _ _ (hp c)
  exact ⟨_, ⟨_, _, _, _, _, _⟩, _, _,
    { x := fun a b t v => h0 (ix4 a b t v)
      P := { wl := fun i o k => h1 (ix3 i o k)
             wr := fun i o k => h3 (ix3 i o k)
             bl := fun i o => h2 (ix2 i o)
             br := fun i o => h4 (ix2 i o)
             att := fun i o => h5 (ix2 i o)
             b := fun i o => h6 (ix2 i o) }
      W := fun k => h7 (ix1 k)
      B := fun k => h8 (ix1 k) }⟩

/-- The kernel and the reference compute the same array. -/
theorem algebraic :
    Cert.algebraic_KernelIdeal_ReferenceIdeal_pre_finite (hKernelIdeal := Cert.KernelIdeal.Gen.facts)
      (hReferenceIdeal := Cert.ReferenceIdeal.Gen.facts) (hPre_finite := Cert.Pre_finite.holds) := by
  intro m g m' g' hp heq
  refine ⟨fun c => Cert.KernelIdeal.Whole.W19 m g c (Proc.devRef .tc Cert.KernelIdeal.main_v38),
    Cert.KernelIdeal.Whole.run (F := Ideal) m g, ?_⟩
  refine (θ_run Cert.ReferenceIdeal.defs _ _).mono (fun r h c => ⟨(h c).1.trans ?_, (h c).2⟩)
    (Cert.ReferenceIdeal.Value.run (F := Ideal) m' g')
  obtain ⟨x, P, W, B, A⟩ := args_real m hp c
  obtain ⟨e0, e1, e2, e3, e4, e5, e6, e7, e8⟩ := heq c
  have A' : Cert.ReferenceIdeal.Graph.Args (StableHlo.launchContents m' c) x P W B :=
    { x := fun a b t v => (congrFun e0 (ix4 a b t v)).trans (A.x a b t v)
      wl := fun i o k => (congrFun e1 (ix3 i o k)).trans (A.P.wl i o k)
      bl := fun i o => (congrFun e2 (ix2 i o)).trans (A.P.bl i o)
      wr := fun i o k => (congrFun e3 (ix3 i o k)).trans (A.P.wr i o k)
      br := fun i o => (congrFun e4 (ix2 i o)).trans (A.P.br i o)
      att := fun i o => (congrFun e5 (ix2 i o)).trans (A.P.att i o)
      b := fun i o => (congrFun e6 (ix2 i o)).trans (A.P.b i o)
      W := fun k => (congrFun e7 (ix1 k)).trans (A.W k)
      B := fun k => (congrFun e8 (ix1 k)).trans (A.B k) }
  have hk := Cert.KernelIdeal.Whole.W19_v38 m g c x P W B A
  have hr := Cert.ReferenceIdeal.Graph.outcome_val (StableHlo.launchContents m' c) x P W B A'
  show Cert.ReferenceIdeal.Graph.outcome (StableHlo.launchContents m' c) = _
  funext j
  rw [eq_ix4 (n0 := 128) (n1 := 64) (n2 := 64) (n3 := 21) j]
  exact (hr _ _ _ _).trans (hk _ _ _ _).symm

end Cert.Proof

end
-- ==== Proof.lean ====
/- The certificate's claim. -/
module

public import proofs.«01_k».proof.Defs
public import proofs.«01_k».proof.Proof.Frames
public import proofs.«01_k».proof.Proof.Algebra

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite.holds, frame_kernel, frame_ideal, frame_ideal_finite, frame_reference, frame_reference_finite, trivial,
  algebraic⟩

end Cert.Proof

end
